-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2_e" .f32 0x3FB8AA3B#32 (((Real.log 2)⁻¹ : ℝ) : EReal)
  ∧ IdealRules.named_const.Statement Cert.KernelIdeal.κ "q_scale" .f32 0x3E38AA3B#32 (((1 / 8) * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v42) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v33) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_scores : Cert.Pre_finite_scores.Facts) (hPre_routed : Cert.Pre_routed.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_scores.lean ====
abbrev S32768x3840 : Shape := ⟨2, ![32768, 3840]⟩
abbrev S8 : Shape := ⟨1, ![8]⟩
abbrev S32x8 : Shape := ⟨2, ![32, 8]⟩
abbrev S32768x640 : Shape := ⟨2, ![32768, 640]⟩
abbrev S_ : Shape := ⟨0, ![]⟩

class Facts : Prop where
  bitsLt_bf16_f32 : FTy.bits .bf16 < FTy.bits .f32
  slices_S32768x3840_S32768x640_0_3072 : S32768x3840.Slices ![0, 3072] S32768x640
  bcast_S_S32768x640 : S_.BroadcastsInDim S32768x640 (![] : Fin 0 → Fin S32768x640.rank)
  reducesTo_S32768x640_S_d0_1 : S32768x640.ReducesTo [0, 1] S_
  h_S_ : 0 < S_.numel
  bcast_S_S8 : S_.BroadcastsInDim S8 (![] : Fin 0 → Fin S8.rank)
  reducesTo_S8_S_d0 : S8.ReducesTo [0] S_
  bcast_S_S32x8 : S_.BroadcastsInDim S32x8 (![] : Fin 0 → Fin S32x8.rank)
  reducesTo_S32x8_S_d0_1 : S32x8.ReducesTo [0, 1] S_

variable [Facts]

def fn {F : FTy → Type} [FloatOps F] (main_arg0 : FVec F S32768x3840 .bf16) (main_arg1 : FVec F S8 .f32) (main_arg2 : FVec F S32x8 .f32) : IVec S_ 1 :=
  let main_v0 : FVec F S32768x3840 .f32 := (extf .f32 · bitsLt_bf16_f32) main_arg0
  let main_v1 : FVec F S32768x640 .f32 := (extractStridedSlice S32768x640 ![0, 3072] · slices_S32768x3840_S32768x640_0_3072) main_v0
  let main_v2 : FVec F S32768x640 .f32 := Host.absf main_v1
  let main_cst : FVec F S_ .f32 := constant S_ .f32 0x7F800000#32
  let main_v3 : FVec F S32768x640 .f32 := broadcastInDim S32768x640 ![] bcast_S_S32768x640 main_cst
  let main_v4 : IVec S32768x640 1 := cmpf .olt main_v2 main_v3
  let main_c : IVec S_ 1 := constantI S_ 1 1#1
  let main_v5 : IVec S_ 1 := (fun x v => Host.reduce IntOp.andi x v reducesTo_S32768x640_S_d0_1 h_S_) main_v4 main_c
  let main_v6 : FVec F S8 .f32 := Host.absf main_arg1
  let main_cst_0 : FVec F S_ .f32 := constant S_ .f32 0x7F800000#32
  let main_v7 : FVec F S8 .f32 := broadcastInDim S8 ![] bcast_S_S8 main_cst_0
  let main_v8 : IVec S8 1 := cmpf .olt main_v6 main_v7
  let main_c_1 : IVec S_ 1 := constantI S_ 1 1#1
  let main_v9 : IVec S_ 1 := (fun x v => Host.reduce IntOp.andi x v reducesTo_S8_S_d0 h_S_) main_v8 main_c_1
  let main_v10 : IVec S_ 1 := andi main_v5 main_v9
  let main_v11 : FVec F S32x8 .f32 := Host.absf main_arg2
  let main_cst_2 : FVec F S_ .f32 := constant S_ .f32 0x7F800000#32
  let main_v12 : FVec F S32x8 .f32 := broadcastInDim S32x8 ![] bcast_S_S32x8 main_cst_2
  let main_v13 : IVec S32x8 1 := cmpf .olt main_v11 main_v12
  let main_c_3 : IVec S_ 1 := constantI S_ 1 1#1
  let main_v14 : IVec S_ 1 := (fun x v => Host.reduce IntOp.andi x v reducesTo_S32x8_S_d0_1 h_S_) main_v13 main_c_3
  let main_v15 : IVec S_ 1 := andi main_v10 main_v14
  main_v15
-- ==== Pre_routed.lean ====
abbrev S137 : Shape := ⟨1, ![137]⟩
abbrev S1 : Shape := ⟨1, ![1]⟩
abbrev S70144x8x128 : Shape := ⟨3, ![70144, 8, 128]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S137 : S_.BroadcastsInDim S137 (![] : Fin 0 → Fin S137.rank)
  reducesTo_S137_S_d0 : S137.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S137 32) (main_arg1 : IVec S1 32) (main_arg2 : FVec F S70144x8x128 .f32) (main_arg3 : FVec F S8x1024x3584 .bf16) (main_arg4 : FVec F S8x1024x3584 .bf16) (main_arg5 : FVec F S8x3584x1024 .bf16) : IVec S_ 1 :=
  let main_c : IVec S_ 32 := constantI S_ 32 0#32
  let main_v0 : IVec S137 32 := broadcastInDim S137 ![] bcast_S_S137 main_c
  let main_v1 : IVec S137 1 := cmpi .sge main_arg0 main_v0
  let main_c_0 : IVec S_ 1 := constantI S_ 1 1#1
  let main_v2 : IVec S_ 1 := (fun x v => Host.reduce IntOp.andi x v reducesTo_S137_S_d0 h_S_) main_v1 main_c_0
  let main_c_1 : IVec S_ 32 := constantI S_ 32 8#32
  let main_v3 : IVec S137 32 := broadcastInDim S137 ![] bcast_S_S137 main_c_1
  let main_v4 : IVec S137 1 := cmpi .slt main_arg0 main_v3
  let main_c_2 : IVec S_ 1 := constantI S_ 1 1#1
  let main_v5 : IVec S_ 1 := (fun x v => Host.reduce IntOp.andi x v reducesTo_S137_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg1 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  main_v10
-- ==== Kernel.lean ====
abbrev S32768x3840 : Shape := ⟨2, ![32768, 3840]⟩
abbrev S8 : Shape := ⟨1, ![8]⟩
abbrev S32x8 : Shape := ⟨2, ![32, 8]⟩
abbrev S384 : Shape := ⟨1, ![384]⟩
abbrev S1x384 : Shape := ⟨2, ![1, 384]⟩
abbrev S_ : Shape := ⟨0, ![]⟩
abbrev S128 : Shape := ⟨1, ![128]⟩
abbrev S128x1 : Shape := ⟨2, ![128, 1]⟩
abbrev S128x384 : Shape := ⟨2, ![128, 384]⟩
abbrev S128x384x1 : Shape := ⟨3, ![128, 384, 1]⟩
abbrev S32 : Shape := ⟨1, ![32]⟩
abbrev S1x1x32 : Shape := ⟨3, ![1, 1, 32]⟩
abbrev S128x384x32 : Shape := ⟨3, ![128, 384, 32]⟩
abbrev S8x128x384 : Shape := ⟨3, ![8, 128, 384]⟩
abbrev S1x128x384 : Shape := ⟨3, ![1, 128, 384]⟩
abbrev S8x384x128 : Shape := ⟨3, ![8, 384, 128]⟩
abbrev S1x384x128 : Shape := ⟨3, ![1, 384, 128]⟩
abbrev S384x128 : Shape := ⟨2, ![384, 128]⟩
abbrev S384x1024 : Shape := ⟨2, ![384, 1024]⟩
abbrev S1 : Shape := ⟨1, ![1]⟩
abbrev S1x1 : Shape := ⟨2, ![1, 1]⟩
abbrev S8x128 : Shape := ⟨2, ![8, 128]⟩
abbrev S8x1024 : Shape := ⟨2, ![8, 1024]⟩
abbrev S32768x512 : Shape := ⟨2, ![32768, 512]⟩
abbrev S2048x512 : Shape := ⟨2, ![2048, 512]⟩
abbrev S128x128 : Shape := ⟨2, ![128, 128]⟩
abbrev S2048x128 : Shape := ⟨2, ![2048, 128]⟩
abbrev S2304x128 : Shape := ⟨2, ![2304, 128]⟩
abbrev S128x2304 : Shape := ⟨2, ![128, 2304]⟩
abbrev S1x1024 : Shape := ⟨2, ![1, 1024]⟩
abbrev S1024x128 : Shape := ⟨2, ![1024, 128]⟩
abbrev S128x1024 : Shape := ⟨2, ![128, 1024]⟩
abbrev S256x1024 : Shape := ⟨2, ![256, 1024]⟩
abbrev S1024 : Shape := ⟨1, ![1024]⟩
abbrev S64x128 : Shape := ⟨2, ![64, 128]⟩

abbrev nBuf : Space → Nat
  | .hbm => 136
  | .vmem => 18
  | .smem => 0
  | _ => 0

abbrev hbmTy0_0 (i : Nat) : BufTy := match i % 128 with
  | 0 => ⟨S32768x3840, .bf16⟩
  | 1 => ⟨S8, .f32⟩
  | 2 => ⟨S32x8, .f32⟩
  | 3 => ⟨S384, .i32⟩
  | 4 => ⟨S1x384, .i32⟩
  | 5 => ⟨S_, .i32⟩
  | 6 => ⟨S1x384, .i32⟩
  | 7 => ⟨S1x384, .i32⟩
  | 8 => ⟨S128, .i32⟩
  | 9 => ⟨S128x1, .i32⟩
  | 10 => ⟨S128x384, .i32⟩
  | 11 => ⟨S128x384, .i32⟩
  | 12 => ⟨S128x384, .i32⟩
  | 13 => ⟨S_, .i32⟩
  | 14 => ⟨S128x384, .i32⟩
  | 15 => ⟨S128x384, .i1⟩
  | 16 => ⟨S128x384, .i32⟩
  | 17 => ⟨S_, .i32⟩
  | 18 => ⟨S128x384, .i32⟩
  | 19 => ⟨S128x384, .i32⟩
  | 20 => ⟨S128x384, .i32⟩
  | 21 => ⟨S_, .i32⟩
  | 22 => ⟨S128x384, .i32⟩
  | 23 => ⟨S128x384, .i1⟩
  | 24 => ⟨S128x384, .i32⟩
  | 25 => ⟨S_, .i32⟩
  | 26 => ⟨S128x384, .i32⟩
  | 27 => ⟨S128x384, .i32⟩
  | 28 => ⟨S_, .i32⟩
  | 29 => ⟨S128x384, .i32⟩
  | 30 => ⟨S128x384, .i1⟩
  | 31 => ⟨S128x384, .i32⟩
  | 32 => ⟨S128x384, .i32⟩
  | 33 => ⟨S_, .i32⟩
  | 34 => ⟨S128x384, .i32⟩
  | 35 => ⟨S128x384, .i1⟩
  | 36 => ⟨S128x384, .i32⟩
  | 37 => ⟨S128x384, .i32⟩
  | 38 => ⟨S_, .i32⟩
  | 39 => ⟨S128x384, .i32⟩
  | 40 => ⟨S128x384, .i1⟩
  | 41 => ⟨S128x384, .i32⟩
  | 42 => ⟨S128x384, .i32⟩
  | 43 => ⟨S_, .i32⟩
  | 44 => ⟨S128x384, .i32⟩
  | 45 => ⟨S128x384, .i1⟩
  | 46 => ⟨S128x384, .i32⟩
  | 47 => ⟨S128x384, .i32⟩
  | 48 => ⟨S_, .i32⟩
  | 49 => ⟨S128x384, .i32⟩
  | 50 => ⟨S128x384, .i1⟩
  | 51 => ⟨S128x384, .i32⟩
  | 52 => ⟨S128x384, .i32⟩
  | 53 => ⟨S_, .i32⟩
  | 54 => ⟨S128x384, .i32⟩
  | 55 => ⟨S128x384, .i1⟩
  | 56 => ⟨S128x384, .i32⟩
  | 57 => ⟨S128x384, .i32⟩
  | 58 => ⟨S_, .i32⟩
  | 59 => ⟨S128x384, .i32⟩
  | 60 => ⟨S128x384, .i32⟩
  | 61 => ⟨S_, .i32⟩
  | 62 => ⟨S128x384, .i32⟩
  | 63 => ⟨S128x384, .i1⟩
  | 64 => ⟨S128x384, .i32⟩
  | 65 => ⟨S128x384, .i32⟩
  | 66 => ⟨S128x384x1, .i32⟩
  | 67 => ⟨S32, .i32⟩
  | 68 => ⟨S1x1x32, .i32⟩
  | 69 => ⟨S128x384x32, .i32⟩
  | 70 => ⟨S128x384x32, .i32⟩
  | 71 => ⟨S128x384x32, .i1⟩
  | 72 => ⟨S128x384x32, .f32⟩
  | 73 => ⟨S8x128x384, .f32⟩
  | 74 => ⟨S128x384, .i32⟩
  | 75 => ⟨S_, .i32⟩
  | 76 => ⟨S128x384, .i32⟩
  | 77 => ⟨S128x384, .i1⟩
  | 78 => ⟨S1x128x384, .i1⟩
  | 79 => ⟨S_, .f32⟩
  | 80 => ⟨S_, .f32⟩
  | 81 => ⟨S8x128x384, .i1⟩
  | 82 => ⟨S8x128x384, .f32⟩
  | 83 => ⟨S8x128x384, .f32⟩
  | 84 => ⟨S8x384x128, .f32⟩
  | 85 => ⟨S1x384x128, .f32⟩
  | 86 => ⟨S384x128, .f32⟩
  | 87 => ⟨S1x384x128, .f32⟩
  | 88 => ⟨S384x128, .f32⟩
  | 89 => ⟨S1x384x128, .f32⟩
  | 90 => ⟨S384x128, .f32⟩
  | 91 => ⟨S1x384x128, .f32⟩
  | 92 => ⟨S384x128, .f32⟩
  | 93 => ⟨S1x384x128, .f32⟩
  | 94 => ⟨S384x128, .f32⟩
  | 95 => ⟨S1x384x128, .f32⟩
  | 96 => ⟨S384x128, .f32⟩
  | 97 => ⟨S1x384x128, .f32⟩
  | 98 => ⟨S384x128, .f32⟩
  | 99 => ⟨S1x384x128, .f32⟩
  | 100 => ⟨S384x128, .f32⟩
  | 101 => ⟨S384x1024, .f32⟩
  | 102 => ⟨S1, .f32⟩
  | 103 => ⟨S_, .f32⟩
  | 104 => ⟨S1x1, .f32⟩
  | 105 => ⟨S8x128, .f32⟩
  | 106 => ⟨S1, .f32⟩
  | 107 => ⟨S_, .f32⟩
  | 108 => ⟨S1x1, .f32⟩
  | 109 => ⟨S8x128, .f32⟩
  | 110 => ⟨S1, .f32⟩
  | 111 => ⟨S_, .f32⟩
  | 112 => ⟨S1x1, .f32⟩
  | 113 => ⟨S8x128, .f32⟩
  | 114 => ⟨S1, .f32⟩
  | 115 => ⟨S_, .f32⟩
  | 116 => ⟨S1x1, .f32⟩
  | 117 => ⟨S8x128, .f32⟩
  | 118 => ⟨S1, .f32⟩
  | 119 => ⟨S_, .f32⟩
  | 120 => ⟨S1x1, .f32⟩
  | 121 => ⟨S8x128, .f32⟩
  | 122 => ⟨S1, .f32⟩
  | 123 => ⟨S_, .f32⟩
  | 124 => ⟨S1x1, .f32⟩
  | 125 => ⟨S8x128, .f32⟩
  | 126 => ⟨S1, .f32⟩
  | 127 => ⟨S_, .f32⟩
  | _ => ⟨S32768x3840, .bf16⟩

abbrev hbmTy0_1 (i : Nat) : BufTy := match i % 128 with
  | 0 => ⟨S1x1, .f32⟩
  | 1 => ⟨S8x128, .f32⟩
  | 2 => ⟨S1, .f32⟩
  | 3 => ⟨S_, .f32⟩
  | 4 => ⟨S1x1, .f32⟩
  | 5 => ⟨S8x128, .f32⟩
  | 6 => ⟨S8x1024, .f32⟩
  | 7 => ⟨S32768x512, .bf16⟩
  | _ => ⟨S32768x3840, .bf16⟩

abbrev hbmTy (i : Nat) : BufTy := match i / 128 with
  | 0 => hbmTy0_0 i
  | 1 => hbmTy0_1 i
  | _ => ⟨S32768x3840, .bf16⟩

abbrev bufTy : (tb : Table) → Fin (tcTables nBuf tb) → BufTy
  | .hbm, ⟨i, _⟩ => hbmTy i
  | .local _ .vmem, ⟨0, _⟩ => ⟨S2048x512, .bf16⟩
  | .local _ .vmem, ⟨1, _⟩ => ⟨S2048x512, .bf16⟩
  | .local _ .vmem, ⟨2, _⟩ => ⟨S128x128, .bf16⟩
  | .local _ .vmem, ⟨3, _⟩ => ⟨S128x128, .bf16⟩
  | .local _ .vmem, ⟨4, _⟩ => ⟨S2048x128, .bf16⟩
  | .local _ .vmem, ⟨5, _⟩ => ⟨S2048x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S2048x128, .bf16⟩
  | .local _ .vmem, ⟨11, _⟩ => ⟨S2048x128, .bf16⟩
  | .local _ .vmem, ⟨12, _⟩ => ⟨S128x128, .bf16⟩
  | .local _ .vmem, ⟨13, _⟩ => ⟨S128x128, .bf16⟩
  | .local _ .vmem, ⟨14, _⟩ => ⟨S384x1024, .f32⟩
  | .local _ .vmem, ⟨15, _⟩ => ⟨S8x1024, .f32⟩
  | .local _ .vmem, ⟨16, _⟩ => ⟨S2048x512, .bf16⟩
  | .local _ .vmem, ⟨17, _⟩ => ⟨S2048x512, .bf16⟩
  | _, _ => ⟨S32768x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_10 : Ref sig .tc := ⟨.hbm, 58, rfl⟩
abbrev main_v44 : Ref sig .tc := ⟨.hbm, 59, rfl⟩
abbrev main_v45 : Ref sig .tc := ⟨.hbm, 60, rfl⟩
abbrev main_c_11 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_c_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c6_i32 : BitVec 32 := 6#32
  let c0_i32 : BitVec 32 := 0#32
  ![v1.toNat, c6_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c16_i32 : BitVec 32 := 16#32
  let v1 : BitVec 32 := Scalar.muli arg1 c16_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c28_i32 : BitVec 32 := 28#32
  let c0_i32_0 : BitVec 32 := 0#32
  ![v4.toNat, c28_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c28_i32 : BitVec 32 := 28#32
  let c0_i32 : BitVec 32 := 0#32
  ![v1.toNat, c28_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c16_i32 : BitVec 32 := 16#32
  let v1 : BitVec 32 := Scalar.muli arg1 c16_i32
  let c16_i32_0 : BitVec 32 := 16#32
  let v2 : BitVec 32 := Scalar.addi v1 c16_i32_0
  let c31_i32 : BitVec 32 := 31#32
  let v3 : BitVec 32 := Scalar.minsi v2 c31_i32
  let v4 : BitVec 32 := Scalar.addi v0 v3
  let c28_i32 : BitVec 32 := 28#32
  let c0_i32 : BitVec 32 := 0#32
  ![v4.toNat, c28_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c16_i32 : BitVec 32 := 16#32
  let v1 : BitVec 32 := Scalar.muli arg1 c16_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c29_i32 : BitVec 32 := 29#32
  let c0_i32_0 : BitVec 32 := 0#32
  ![v4.toNat, c29_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c29_i32 : BitVec 32 := 29#32
  let c0_i32 : BitVec 32 := 0#32
  ![v1.toNat, c29_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c16_i32 : BitVec 32 := 16#32
  let v1 : BitVec 32 := Scalar.muli arg1 c16_i32
  let c16_i32_0 : BitVec 32 := 16#32
  let v2 : BitVec 32 := Scalar.addi v1 c16_i32_0
  let c31_i32 : BitVec 32 := 31#32
  let v3 : BitVec 32 := Scalar.minsi v2 c31_i32
  let v4 : BitVec 32 := Scalar.addi v0 v3
  let c29_i32 : BitVec 32 := 29#32
  let c0_i32 : BitVec 32 := 0#32
  ![v4.toNat, c29_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S384x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "log2_e" => some (((Real.log 2)⁻¹ : ℝ) : EReal)
  | "mask" => some ⊥
  | "q_scale" => some (((1 / 8) * (Real.log 2)⁻¹ : ℝ) : EReal)
  | _ => none
-- ==== ReferenceIdeal.lean ====
abbrev S32768x3840 : Shape := ⟨2, ![32768, 3840]⟩
abbrev S8 : Shape := ⟨1, ![8]⟩
abbrev S32x8 : Shape := ⟨2, ![32, 8]⟩
abbrev S8x4096x3840 : Shape := ⟨3, ![8, 4096, 3840]⟩
abbrev S8x4096x512 : Shape := ⟨3, ![8, 4096, 512]⟩
abbrev S8x4096x4x2x64 : Shape := ⟨5, ![8, 4096, 4, 2, 64]⟩
abbrev S8x4096x2x4x64 : Shape := ⟨5, ![8, 4096, 2, 4, 64]⟩
abbrev S8x4096x8x64 : Shape := ⟨4, ![8, 4096, 8, 64]⟩
abbrev S8x4096x128 : Shape := ⟨3, ![8, 4096, 128]⟩
abbrev S8x4096x2x64 : Shape := ⟨4, ![8, 4096, 2, 64]⟩
abbrev S8x32x128x2x4x64 : Shape := ⟨6, ![8, 32, 128, 2, 4, 64]⟩
abbrev S_ : Shape := ⟨0, ![]⟩
abbrev S8x4352x2x64 : Shape := ⟨4, ![8, 4352, 2, 64]⟩
abbrev S8x34x128x2x64 : Shape := ⟨5, ![8, 34, 128, 2, 64]⟩
abbrev S8x32x128x2x64 : Shape := ⟨5, ![8, 32, 128, 2, 64]⟩
abbrev S8x32x384x2x64 : Shape := ⟨5, ![8, 32, 384, 2, 64]⟩
abbrev S384 : Shape := ⟨1, ![384]⟩
abbrev S1x384 : Shape := ⟨2, ![1, 384]⟩
abbrev S128 : Shape := ⟨1, ![128]⟩
abbrev S128x1 : Shape := ⟨2, ![128, 1]⟩
abbrev S128x384 : Shape := ⟨2, ![128, 384]⟩
abbrev S128x384x1 : Shape := ⟨3, ![128, 384, 1]⟩
abbrev S128x384x8 : Shape := ⟨3, ![128, 384, 8]⟩
abbrev S8x128x384 : Shape := ⟨3, ![8, 128, 384]⟩
abbrev S2x4x128x384 : Shape := ⟨4, ![2, 4, 128, 384]⟩
abbrev S32 : Shape := ⟨1, ![32]⟩
abbrev S32x1 : Shape := ⟨2, ![32, 1]⟩
abbrev S32x384 : Shape := ⟨2, ![32, 384]⟩
abbrev S1x128x384 : Shape := ⟨3, ![1, 128, 384]⟩
abbrev S32x1x384 : Shape := ⟨3, ![32, 1, 384]⟩
abbrev S32x128x384 : Shape := ⟨3, ![32, 128, 384]⟩
abbrev S8x32x2x384x128x4 : Shape := ⟨6, ![8, 32, 2, 384, 128, 4]⟩
abbrev S8x32x2x4x128x384 : Shape := ⟨6, ![8, 32, 2, 4, 128, 384]⟩
abbrev S1x1x2x4x128x384 : Shape := ⟨6, ![1, 1, 2, 4, 128, 384]⟩
abbrev S1x32x1x1x128x384 : Shape := ⟨6, ![1, 32, 1, 1, 128, 384]⟩
abbrev S2x4 : Shape := ⟨2, ![2, 4]⟩
abbrev S1x1x2x4x1x1 : Shape := ⟨6, ![1, 1, 2, 4, 1, 1]⟩
abbrev S8x32x2x4x128 : Shape := ⟨5, ![8, 32, 2, 4, 128]⟩
abbrev S8x32x2x4x128x1 : Shape := ⟨6, ![8, 32, 2, 4, 128, 1]⟩
abbrev S8x32x2x64x4x128 : Shape := ⟨6, ![8, 32, 2, 64, 4, 128]⟩
abbrev S32768x512 : Shape := ⟨2, ![32768, 512]⟩

abbrev nBuf : Space → Nat
  | .hbm => 172
  | .vmem => 0
  | .smem => 0
  | _ => 0

abbrev hbmTy0_0 (i : Nat) : BufTy := match i % 128 with
  | 0 => ⟨S32768x3840, .bf16⟩
  | 1 => ⟨S8, .f32⟩
  | 2 => ⟨S32x8, .f32⟩
  | 3 => ⟨S32768x3840, .f32⟩
  | 4 => ⟨S8x4096x3840, .f32⟩
  | 5 => ⟨S8x4096x512, .f32⟩
  | 6 => ⟨S8x4096x4x2x64, .f32⟩
  | 7 => ⟨S8x4096x2x4x64, .f32⟩
  | 8 => ⟨S8x4096x8x64, .f32⟩
  | 9 => ⟨S8x4096x128, .f32⟩
  | 10 => ⟨S8x4096x2x64, .f32⟩
  | 11 => ⟨S8x4096x128, .f32⟩
  | 12 => ⟨S8x4096x2x64, .f32⟩
  | 13 => ⟨S8x32x128x2x4x64, .f32⟩
  | 14 => ⟨S_, .i32⟩
  | 15 => ⟨S_, .f32⟩
  | 16 => ⟨S8x4352x2x64, .f32⟩
  | 17 => ⟨S8x34x128x2x64, .f32⟩
  | 18 => ⟨S8x32x128x2x64, .f32⟩
  | 19 => ⟨S8x32x128x2x64, .f32⟩
  | 20 => ⟨S8x32x128x2x64, .f32⟩
  | 21 => ⟨S8x32x384x2x64, .f32⟩
  | 22 => ⟨S_, .i32⟩
  | 23 => ⟨S_, .f32⟩
  | 24 => ⟨S8x4352x2x64, .f32⟩
  | 25 => ⟨S8x34x128x2x64, .f32⟩
  | 26 => ⟨S8x32x128x2x64, .f32⟩
  | 27 => ⟨S8x32x128x2x64, .f32⟩
  | 28 => ⟨S8x32x128x2x64, .f32⟩
  | 29 => ⟨S8x32x384x2x64, .f32⟩
  | 30 => ⟨S384, .i32⟩
  | 31 => ⟨S1x384, .i32⟩
  | 32 => ⟨S_, .i32⟩
  | 33 => ⟨S1x384, .i32⟩
  | 34 => ⟨S1x384, .i32⟩
  | 35 => ⟨S128, .i32⟩
  | 36 => ⟨S128x1, .i32⟩
  | 37 => ⟨S128x384, .i32⟩
  | 38 => ⟨S128x384, .i32⟩
  | 39 => ⟨S128x384, .i32⟩
  | 40 => ⟨S_, .i32⟩
  | 41 => ⟨S128x384, .i32⟩
  | 42 => ⟨S128x384, .i1⟩
  | 43 => ⟨S128x384, .i32⟩
  | 44 => ⟨S_, .i32⟩
  | 45 => ⟨S128x384, .i32⟩
  | 46 => ⟨S128x384, .i32⟩
  | 47 => ⟨S128x384, .i32⟩
  | 48 => ⟨S_, .i32⟩
  | 49 => ⟨S128x384, .i32⟩
  | 50 => ⟨S128x384, .i1⟩
  | 51 => ⟨S128x384, .i32⟩
  | 52 => ⟨S_, .i32⟩
  | 53 => ⟨S128x384, .i32⟩
  | 54 => ⟨S128x384, .i32⟩
  | 55 => ⟨S_, .i32⟩
  | 56 => ⟨S128x384, .i32⟩
  | 57 => ⟨S128x384, .i1⟩
  | 58 => ⟨S128x384, .i32⟩
  | 59 => ⟨S128x384, .i32⟩
  | 60 => ⟨S_, .i32⟩
  | 61 => ⟨S128x384, .i32⟩
  | 62 => ⟨S128x384, .i1⟩
  | 63 => ⟨S128x384, .i32⟩
  | 64 => ⟨S128x384, .i32⟩
  | 65 => ⟨S_, .i32⟩
  | 66 => ⟨S128x384, .i32⟩
  | 67 => ⟨S128x384, .i1⟩
  | 68 => ⟨S128x384, .i32⟩
  | 69 => ⟨S128x384, .i32⟩
  | 70 => ⟨S_, .i32⟩
  | 71 => ⟨S128x384, .i32⟩
  | 72 => ⟨S128x384, .i1⟩
  | 73 => ⟨S128x384, .i32⟩
  | 74 => ⟨S128x384, .i32⟩
  | 75 => ⟨S_, .i32⟩
  | 76 => ⟨S128x384, .i32⟩
  | 77 => ⟨S128x384, .i1⟩
  | 78 => ⟨S128x384, .i32⟩
  | 79 => ⟨S128x384, .i32⟩
  | 80 => ⟨S_, .i32⟩
  | 81 => ⟨S128x384, .i32⟩
  | 82 => ⟨S128x384, .i1⟩
  | 83 => ⟨S128x384, .i32⟩
  | 84 => ⟨S128x384, .i32⟩
  | 85 => ⟨S_, .i32⟩
  | 86 => ⟨S128x384, .i32⟩
  | 87 => ⟨S128x384, .i32⟩
  | 88 => ⟨S_, .i32⟩
  | 89 => ⟨S128x384, .i32⟩
  | 90 => ⟨S128x384, .i1⟩
  | 91 => ⟨S128x384, .i32⟩
  | 92 => ⟨S128x384, .i32⟩
  | 93 => ⟨S_, .i32⟩
  | 94 => ⟨S128x384, .i32⟩
  | 95 => ⟨S128x384, .i1⟩
  | 96 => ⟨S_, .i32⟩
  | 97 => ⟨S128x384, .i32⟩
  | 98 => ⟨S128x384, .i32⟩
  | 99 => ⟨S128x384, .i32⟩
  | 100 => ⟨S128x384x1, .i32⟩
  | 101 => ⟨S128x384x8, .f32⟩
  | 102 => ⟨S8x128x384, .f32⟩
  | 103 => ⟨S2x4x128x384, .f32⟩
  | 104 => ⟨S32, .i32⟩
  | 105 => ⟨S32x1, .i32⟩
  | 106 => ⟨S_, .i32⟩
  | 107 => ⟨S32x1, .i32⟩
  | 108 => ⟨S32x1, .i32⟩
  | 109 => ⟨S_, .i32⟩
  | 110 => ⟨S32x1, .i32⟩
  | 111 => ⟨S32x1, .i32⟩
  | 112 => ⟨S384, .i32⟩
  | 113 => ⟨S1x384, .i32⟩
  | 114 => ⟨S32x384, .i32⟩
  | 115 => ⟨S32x384, .i32⟩
  | 116 => ⟨S32x384, .i32⟩
  | 117 => ⟨S128x384, .i32⟩
  | 118 => ⟨S_, .i32⟩
  | 119 => ⟨S128x384, .i32⟩
  | 120 => ⟨S128x384, .i1⟩
  | 121 => ⟨S1x128x384, .i1⟩
  | 122 => ⟨S_, .i32⟩
  | 123 => ⟨S32x384, .i32⟩
  | 124 => ⟨S32x384, .i1⟩
  | 125 => ⟨S_, .i32⟩
  | 126 => ⟨S32x384, .i32⟩
  | 127 => ⟨S32x384, .i1⟩
  | _ => ⟨S32768x3840, .bf16⟩

abbrev hbmTy0_1 (i : Nat) : BufTy := match i % 128 with
  | 0 => ⟨S32x384, .i1⟩
  | 1 => ⟨S32x1x384, .i1⟩
  | 2 => ⟨S32x128x384, .i1⟩
  | 3 => ⟨S32x128x384, .i1⟩
  | 4 => ⟨S32x128x384, .i1⟩
  | 5 => ⟨S8x32x2x384x128x4, .f32⟩
  | 6 => ⟨S8x32x2x4x128x384, .f32⟩
  | 7 => ⟨S_, .f32⟩
  | 8 => ⟨S8x32x2x4x128x384, .f32⟩
  | 9 => ⟨S8x32x2x4x128x384, .f32⟩
  | 10 => ⟨S1x1x2x4x128x384, .f32⟩
  | 11 => ⟨S8x32x2x4x128x384, .f32⟩
  | 12 => ⟨S8x32x2x4x128x384, .f32⟩
  | 13 => ⟨S1x32x1x1x128x384, .i1⟩
  | 14 => ⟨S8x32x2x4x128x384, .i1⟩
  | 15 => ⟨S_, .f32⟩
  | 16 => ⟨S8x32x2x4x128x384, .f32⟩
  | 17 => ⟨S8x32x2x4x128x384, .f32⟩
  | 18 => ⟨S2x4, .f32⟩
  | 19 => ⟨S1x1x2x4x1x1, .f32⟩
  | 20 => ⟨S_, .f32⟩
  | 21 => ⟨S8x32x2x4x128, .f32⟩
  | 22 => ⟨S8x32x2x4x128x1, .f32⟩
  | 23 => ⟨S8x32x2x4x128x1, .f32⟩
  | 24 => ⟨S8x32x2x4x128x1, .f32⟩
  | 25 => ⟨S8x32x2x4x128x384, .f32⟩
  | 26 => ⟨S8x32x2x4x128x384, .f32⟩
  | 27 => ⟨S8x32x2x4x128x384, .f32⟩
  | 28 => ⟨S_, .f32⟩
  | 29 => ⟨S8x32x2x4x128, .f32⟩
  | 30 => ⟨S8x32x2x4x128x1, .f32⟩
  | 31 => ⟨S8x32x2x4x128x1, .f32⟩
  | 32 => ⟨S8x32x2x4x128x1, .f32⟩
  | 33 => ⟨S8x32x2x4x128x1, .f32⟩
  | 34 => ⟨S8x32x2x4x128x1, .f32⟩
  | 35 => ⟨S8x32x2x4x128x384, .f32⟩
  | 36 => ⟨S8x32x2x4x128x384, .f32⟩
  | 37 => ⟨S8x32x2x64x4x128, .f32⟩
  | 38 => ⟨S8x32x128x2x4x64, .f32⟩
  | 39 => ⟨S8x4096x512, .f32⟩
  | 40 => ⟨S8x4096x2x4x64, .f32⟩
  | 41 => ⟨S8x4096x4x2x64, .f32⟩
  | 42 => ⟨S32768x512, .f32⟩
  | 43 => ⟨S32768x512, .bf16⟩
  | _ => ⟨S32768x3840, .bf16⟩

abbrev hbmTy (i : Nat) : BufTy := match i / 128 with
  | 0 => hbmTy0_0 i
  | 1 => hbmTy0_1 i
  | _ => ⟨S32768x3840, .bf16⟩

abbrev bufTy : (tb : Table) → Fin (tcTables nBuf tb) → BufTy
  | .hbm, ⟨i, _⟩ => hbmTy i
  | _, _ => ⟨S32768x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_call1_v0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_5 : Ref sig .tc := ⟨.hbm, 52, rfl⟩
abbrev main_v41 : Ref sig .tc := ⟨.hbm, 53, rfl⟩
abbrev main_v42 : Ref sig .tc := ⟨.hbm, 54, rfl⟩
abbrev main_c_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_8 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_c_9 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_c_10 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_c_11 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_c_12 : Ref sig .tc := ⟨.hbm, 85, rfl⟩
abbrev main_v67 : Ref sig .tc := ⟨.hbm, 86, rfl⟩
abbrev main_v68 : Ref sig .tc := ⟨.hbm, 87, rfl⟩
abbrev main_c_13 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_c_14 : Ref sig .tc := ⟨.hbm, 93, rfl⟩
abbrev main_v73 : Ref sig .tc := ⟨.hbm, 94, rfl⟩
abbrev main_v74 : Ref sig .tc := ⟨.hbm, 95, rfl⟩
abbrev main_c_15 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_c_16 : Ref sig .tc := ⟨.hbm, 106, rfl⟩
abbrev main_v84 : Ref sig .tc := ⟨.hbm, 107, rfl⟩
abbrev main_v85 : Ref sig .tc := ⟨.hbm, 108, rfl⟩
abbrev main_c_17 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_c_18 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_c_19 : Ref sig .tc := ⟨.hbm, 122, rfl⟩
abbrev main_v97 : Ref sig .tc := ⟨.hbm, 123, rfl⟩
abbrev main_v98 : Ref sig .tc := ⟨.hbm, 124, rfl⟩
abbrev main_c_20 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_cst : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_cst_21 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_cst_22 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_cst_23 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩

abbrev nD : Nat := 1
abbrev τ : Topo := Topo.v7x

variable {F : FTy → Type} [FloatOps F]
-- ==== Kernel2.lean ====
abbrev S137 : Shape := ⟨1, ![137]⟩
abbrev S1 : Shape := ⟨1, ![1]⟩
abbrev S70144x8x128 : Shape := ⟨3, ![70144, 8, 128]⟩
abbrev S8x1024x3584 : Shape := ⟨3, ![8, 1024, 3584]⟩
abbrev S8x3584x1024 : Shape := ⟨3, ![8, 3584, 1024]⟩
abbrev S512x8x128 : Shape := ⟨3, ![512, 8, 128]⟩
abbrev S1x1024x1792 : Shape := ⟨3, ![1, 1024, 1792]⟩
abbrev S1x1792x1024 : Shape := ⟨3, ![1, 1792, 1024]⟩
abbrev S512x1024 : Shape := ⟨2, ![512, 1024]⟩
abbrev S8x512x128 : Shape := ⟨3, ![8, 512, 128]⟩
abbrev S1x512x128 : Shape := ⟨3, ![1, 512, 128]⟩
abbrev S512x128 : Shape := ⟨2, ![512, 128]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 5
  | .vmem => 12
  | .smem => 2
  | _ => 0

abbrev bufTy : (tb : Table) → Fin (tcTables nBuf tb) → BufTy
  | .hbm, ⟨0, _⟩ => ⟨S70144x8x128, .f32⟩
  | .hbm, ⟨1, _⟩ => ⟨S8x1024x3584, .bf16⟩
  | .hbm, ⟨2, _⟩ => ⟨S8x1024x3584, .bf16⟩
  | .hbm, ⟨3, _⟩ => ⟨S8x3584x1024, .bf16⟩
  | .hbm, ⟨4, _⟩ => ⟨S70144x8x128, .f32⟩
  | .local _ .vmem, ⟨0, _⟩ => ⟨S512x8x128, .f32⟩
  | .local _ .vmem, ⟨1, _⟩ => ⟨S512x8x128, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x8x128, .f32⟩
  | .local _ .vmem, ⟨9, _⟩ => ⟨S512x8x128, .f32⟩
  | .local _ .vmem, ⟨10, _⟩ => ⟨S512x1024, .bf16⟩
  | .local _ .vmem, ⟨11, _⟩ => ⟨S512x1024, .f32⟩
  | .local _ .smem, ⟨0, _⟩ => ⟨S137, .i32⟩
  | .local _ .smem, ⟨1, _⟩ => ⟨S1, .i32⟩
  | _, _ => ⟨S70144x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![137, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) : BitVec 1 :=
  let arg1 : BitVec 32 := BitVec.ofNat 32 (i 1).val
  let c1_i32 : BitVec 32 := 1#32
  let v51 : BitVec 1 := Scalar.cmpi .eq arg1 c1_i32
  let v52 : BitVec 32 := Scalar.extui v51
  let c0_i32_23 : BitVec 32 := 0#32
  let v53 : BitVec 1 := Scalar.cmpi .ne v52 c0_i32_23
  v53

def k0_cond4 (i : grid0.Coords) (v4 : BitVec 32) : BitVec 1 :=
  let arg0 : BitVec 32 := BitVec.ofNat 32 (i 0).val
  let v5 : BitVec 1 := Scalar.cmpi .sge arg0 v4
  let arg1 : BitVec 32 := BitVec.ofNat 32 (i 1).val
  let c0_i32_1 : BitVec 32 := 0#32
  let v6 : BitVec 1 := Scalar.cmpi .eq arg1 c0_i32_1
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  let c0_i32_1 : BitVec 32 := 0#32
  ![v2.toNat, c0_i32.toNat, c0_i32_0.toNat]

def cc0_transform_1 (k0_off1_inb : ∀ i : grid0.Coords, ∀ a, (k0_off1 i) a + S1.size a ≤ S137.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S137) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S137.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S137) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S137.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S137) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, v4.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S137 : Shape := ⟨1, ![137]⟩
abbrev S1 : Shape := ⟨1, ![1]⟩
abbrev S70144x8x128 : Shape := ⟨3, ![70144, 8, 128]⟩
abbrev S8x1024x3584 : Shape := ⟨3, ![8, 1024, 3584]⟩
abbrev S8x3584x1024 : Shape := ⟨3, ![8, 3584, 1024]⟩
abbrev S137x512x1024 : Shape := ⟨3, ![137, 512, 1024]⟩
abbrev S_ : Shape := ⟨0, ![]⟩
abbrev S137x1 : Shape := ⟨2, ![137, 1]⟩
abbrev S1x8 : Shape := ⟨2, ![1, 8]⟩
abbrev S137x8 : Shape := ⟨2, ![137, 8]⟩
abbrev S137x512x8x3584 : Shape := ⟨4, ![137, 512, 8, 3584]⟩
abbrev S8x137x512x1024 : Shape := ⟨4, ![8, 137, 512, 1024]⟩

abbrev nBuf : Space → Nat
  | .hbm => 39
  | .vmem => 0
  | .smem => 0
  | _ => 0

abbrev bufTy : (tb : Table) → Fin (tcTables nBuf tb) → BufTy
  | .hbm, ⟨0, _⟩ => ⟨S137, .i32⟩
  | .hbm, ⟨1, _⟩ => ⟨S1, .i32⟩
  | .hbm, ⟨2, _⟩ => ⟨S70144x8x128, .f32⟩
  | .hbm, ⟨3, _⟩ => ⟨S8x1024x3584, .bf16⟩
  | .hbm, ⟨4, _⟩ => ⟨S8x1024x3584, .bf16⟩
  | .hbm, ⟨5, _⟩ => ⟨S8x3584x1024, .bf16⟩
  | .hbm, ⟨6, _⟩ => ⟨S137x512x1024, .f32⟩
  | .hbm, ⟨7, _⟩ => ⟨S137, .i32⟩
  | .hbm, ⟨8, _⟩ => ⟨S_, .i32⟩
  | .hbm, ⟨9, _⟩ => ⟨S137, .i32⟩
  | .hbm, ⟨10, _⟩ => ⟨S137, .i1⟩
  | .hbm, ⟨11, _⟩ => ⟨S_, .i32⟩
  | .hbm, ⟨12, _⟩ => ⟨S_, .i32⟩
  | .hbm, ⟨13, _⟩ => ⟨S137, .i32⟩
  | .hbm, ⟨14, _⟩ => ⟨S137, .i32⟩
  | .hbm, ⟨15, _⟩ => ⟨S137x1, .i32⟩
  | .hbm, ⟨16, _⟩ => ⟨S1x8, .i32⟩
  | .hbm, ⟨17, _⟩ => ⟨S137x8, .i32⟩
  | .hbm, ⟨18, _⟩ => ⟨S137x8, .i32⟩
  | .hbm, ⟨19, _⟩ => ⟨S137x8, .i1⟩
  | .hbm, ⟨20, _⟩ => ⟨S137x8, .f32⟩
  | .hbm, ⟨21, _⟩ => ⟨S8x1024x3584, .f32⟩
  | .hbm, ⟨22, _⟩ => ⟨S8x1024x3584, .f32⟩
  | .hbm, ⟨23, _⟩ => ⟨S8x3584x1024, .f32⟩
  | .hbm, ⟨24, _⟩ => ⟨S137x512x8x3584, .f32⟩
  | .hbm, ⟨25, _⟩ => ⟨S137x512x8x3584, .f32⟩
  | .hbm, ⟨26, _⟩ => ⟨S137x512x8x3584, .f32⟩
  | .hbm, ⟨27, _⟩ => ⟨S_, .f32⟩
  | .hbm, ⟨28, _⟩ => ⟨S137x512x8x3584, .f32⟩
  | .hbm, ⟨29, _⟩ => ⟨S137x512x8x3584, .f32⟩
  | .hbm, ⟨30, _⟩ => ⟨S_, .f32⟩
  | .hbm, ⟨31, _⟩ => ⟨S137x512x8x3584, .f32⟩
  | .hbm, ⟨32, _⟩ => ⟨S137x512x8x3584, .f32⟩
  | .hbm, ⟨33, _⟩ => ⟨S137x512x8x3584, .f32⟩
  | .hbm, ⟨34, _⟩ => ⟨S137x512x8x3584, .f32⟩
  | .hbm, ⟨35, _⟩ => ⟨S137x512x8x3584, .f32⟩
  | .hbm, ⟨36, _⟩ => ⟨S8x137x512x1024, .f32⟩
  | .hbm, ⟨37, _⟩ => ⟨S137x512x1024, .f32⟩
  | .hbm, ⟨38, _⟩ => ⟨S70144x8x128, .f32⟩
  | _, _ => ⟨S137, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Kernel3.lean ====
abbrev S32768x1024 : Shape := ⟨2, ![32768, 1024]⟩
abbrev S1024x3840 : Shape := ⟨2, ![1024, 3840]⟩
abbrev S32768x3840 : Shape := ⟨2, ![32768, 3840]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024x3840, .bf16⟩
  | .hbm, ⟨2, _⟩ => ⟨S32768x3840, .bf16⟩
  | .local _ .vmem, ⟨0, _⟩ => ⟨S1024x1024, .f32⟩
  | .local _ .vmem, ⟨1, _⟩ => ⟨S1024x1024, .f32⟩
  | .local _ .vmem, ⟨2, _⟩ => ⟨S1024x3840, .bf16⟩
  | .local _ .vmem, ⟨3, _⟩ => ⟨S1024x3840, .bf16⟩
  | .local _ .vmem, ⟨4, _⟩ => ⟨S1024x3840, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3840 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x3840 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S32768x1024 : Shape := ⟨2, ![32768, 1024]⟩
abbrev S1024x3840 : Shape := ⟨2, ![1024, 3840]⟩
abbrev S32768x3840 : Shape := ⟨2, ![32768, 3840]⟩

abbrev nBuf : Space → Nat
  | .hbm => 5
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x3840, .bf16⟩
  | .hbm, ⟨2, _⟩ => ⟨S1024x3840, .f32⟩
  | .hbm, ⟨3, _⟩ => ⟨S32768x3840, .f32⟩
  | .hbm, ⟨4, _⟩ => ⟨S32768x3840, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S32768x1024 : Shape := ⟨2, ![32768, 1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S1x1024, .f32⟩
  | .hbm, ⟨5, _⟩ => ⟨S1x1024, .f32⟩
  | .hbm, ⟨6, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S32768x1024 : Shape := ⟨2, ![32768, 1024]⟩
abbrev S1024x2816 : Shape := ⟨2, ![1024, 2816]⟩
abbrev S2816x1024 : Shape := ⟨2, ![2816, 1024]⟩
abbrev S1x1024 : Shape := ⟨2, ![1, 1024]⟩
abbrev S32768x2816 : Shape := ⟨2, ![32768, 2816]⟩
abbrev S_ : Shape := ⟨0, ![]⟩
abbrev S1024 : Shape := ⟨1, ![1024]⟩
abbrev S32768 : Shape := ⟨1, ![32768]⟩
abbrev S32768x1 : Shape := ⟨2, ![32768, 1]⟩

abbrev nBuf : Space → Nat
  | .hbm => 57
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S1x1024, .f32⟩
  | .hbm, ⟨5, _⟩ => ⟨S1x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S32768x2816, .f32⟩
  | .hbm, ⟨10, _⟩ => ⟨S32768x2816, .f32⟩
  | .hbm, ⟨11, _⟩ => ⟨S32768x2816, .f32⟩
  | .hbm, ⟨12, _⟩ => ⟨S_, .f32⟩
  | .hbm, ⟨13, _⟩ => ⟨S32768x2816, .f32⟩
  | .hbm, ⟨14, _⟩ => ⟨S32768x2816, .f32⟩
  | .hbm, ⟨15, _⟩ => ⟨S_, .f32⟩
  | .hbm, ⟨16, _⟩ => ⟨S32768x2816, .f32⟩
  | .hbm, ⟨17, _⟩ => ⟨S32768x2816, .f32⟩
  | .hbm, ⟨18, _⟩ => ⟨S32768x2816, .f32⟩
  | .hbm, ⟨19, _⟩ => ⟨S32768x2816, .f32⟩
  | .hbm, ⟨20, _⟩ => ⟨S32768x2816, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S32768, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1024, .f32⟩
  | .hbm, ⟨44, _⟩ => ⟨S32768x1024, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S32768x1, .f32⟩
  | .hbm, ⟨49, _⟩ => ⟨S32768x1024, .f32⟩
  | .hbm, ⟨50, _⟩ => ⟨S32768x1024, .f32⟩
  | .hbm, ⟨51, _⟩ => ⟨S1x1024, .f32⟩
  | .hbm, ⟨52, _⟩ => ⟨S32768x1024, .f32⟩
  | .hbm, ⟨53, _⟩ => ⟨S32768x1024, .f32⟩
  | .hbm, ⟨54, _⟩ => ⟨S1x1024, .f32⟩
  | .hbm, ⟨55, _⟩ => ⟨S32768x1024, .f32⟩
  | .hbm, ⟨56, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel5.lean ====
abbrev S32768x1024 : Shape := ⟨2, ![32768, 1024]⟩
abbrev S32768x256 : Shape := ⟨2, ![32768, 256]⟩
abbrev S32768x512 : Shape := ⟨2, ![32768, 512]⟩
abbrev S256x1024 : Shape := ⟨2, ![256, 1024]⟩
abbrev S512x1024 : Shape := ⟨2, ![512, 1024]⟩
abbrev S1x1024 : Shape := ⟨2, ![1, 1024]⟩
abbrev S1024x1024 : Shape := ⟨2, ![1024, 1024]⟩
abbrev S1024x256 : Shape := ⟨2, ![1024, 256]⟩
abbrev S1024x512 : Shape := ⟨2, ![1024, 512]⟩
abbrev S1024 : Shape := ⟨1, ![1024]⟩
abbrev S1024x1 : Shape := ⟨2, ![1024, 1]⟩

abbrev nBuf : Space → Nat
  | .hbm => 10
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S32768x256, .bf16⟩
  | .hbm, ⟨2, _⟩ => ⟨S32768x512, .bf16⟩
  | .hbm, ⟨3, _⟩ => ⟨S32768x256, .bf16⟩
  | .hbm, ⟨4, _⟩ => ⟨S256x1024, .bf16⟩
  | .hbm, ⟨5, _⟩ => ⟨S512x1024, .bf16⟩
  | .hbm, ⟨6, _⟩ => ⟨S256x1024, .bf16⟩
  | .hbm, ⟨7, _⟩ => ⟨S1x1024, .f32⟩
  | .hbm, ⟨8, _⟩ => ⟨S1x1024, .f32⟩
  | .hbm, ⟨9, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .bf16⟩
  | .local _ .vmem, ⟨3, _⟩ => ⟨S1024x256, .bf16⟩
  | .local _ .vmem, ⟨4, _⟩ => ⟨S1024x512, .bf16⟩
  | .local _ .vmem, ⟨5, _⟩ => ⟨S1024x512, .bf16⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S512x1024, .bf16⟩
  | .local _ .vmem, ⟨10, _⟩ => ⟨S256x1024, .bf16⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S32768x1024 : Shape := ⟨2, ![32768, 1024]⟩
abbrev S32768x256 : Shape := ⟨2, ![32768, 256]⟩
abbrev S32768x512 : Shape := ⟨2, ![32768, 512]⟩
abbrev S256x1024 : Shape := ⟨2, ![256, 1024]⟩
abbrev S512x1024 : Shape := ⟨2, ![512, 1024]⟩
abbrev S1x1024 : Shape := ⟨2, ![1, 1024]⟩
abbrev S1024x1024 : Shape := ⟨2, ![1024, 1024]⟩
abbrev S_ : Shape := ⟨0, ![]⟩
abbrev S1024 : Shape := ⟨1, ![1024]⟩
abbrev S32768 : Shape := ⟨1, ![32768]⟩
abbrev S32768x1 : Shape := ⟨2, ![32768, 1]⟩

abbrev nBuf : Space → Nat
  | .hbm => 49
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .bf16⟩
  | .hbm, ⟨2, _⟩ => ⟨S32768x512, .bf16⟩
  | .hbm, ⟨3, _⟩ => ⟨S32768x256, .bf16⟩
  | .hbm, ⟨4, _⟩ => ⟨S256x1024, .bf16⟩
  | .hbm, ⟨5, _⟩ => ⟨S512x1024, .bf16⟩
  | .hbm, ⟨6, _⟩ => ⟨S256x1024, .bf16⟩
  | .hbm, ⟨7, _⟩ => ⟨S1x1024, .f32⟩
  | .hbm, ⟨8, _⟩ => ⟨S1x1024, .f32⟩
  | .hbm, ⟨9, _⟩ => ⟨S32768x1024, .bf16⟩
  | .hbm, ⟨10, _⟩ => ⟨S32768x1024, .f32⟩
  | .hbm, ⟨11, _⟩ => ⟨S1024x1024, .bf16⟩
  | .hbm, ⟨12, _⟩ => ⟨S1024x1024, .f32⟩
  | .hbm, ⟨13, _⟩ => ⟨S_, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S1024, .f32⟩
  | .hbm, ⟨19, _⟩ => ⟨S1024, .f32⟩
  | .hbm, ⟨20, _⟩ => ⟨S_, .f32⟩
  | .hbm, ⟨21, _⟩ => ⟨S32768, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768, .f32⟩
  | .hbm, ⟨31, _⟩ => ⟨S32768x1, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768x1, .f32⟩
  | .hbm, ⟨41, _⟩ => ⟨S32768x1024, .f32⟩
  | .hbm, ⟨42, _⟩ => ⟨S32768x1024, .f32⟩
  | .hbm, ⟨43, _⟩ => ⟨S1x1024, .f32⟩
  | .hbm, ⟨44, _⟩ => ⟨S32768x1024, .f32⟩
  | .hbm, ⟨45, _⟩ => ⟨S32768x1024, .f32⟩
  | .hbm, ⟨46, _⟩ => ⟨S1x1024, .f32⟩
  | .hbm, ⟨47, _⟩ => ⟨S32768x1024, .f32⟩
  | .hbm, ⟨48, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Proof.Softmax.lean ====
module

public import Idealize.ShloMosaic.PureOps.Ideal.Laws

/-! The weighted mean that an attention forms, in the two ways it is written: with powers of two, the scores scaled by
`1 / log 2` and the division last, and with exponentials, the weights divided one by one. Scores are extended reals
that are not `⊤`; a masked score is `⊥`. The values that are averaged are any extended reals. -/

@[expose] public section

noncomputable section

namespace Swa

open Idealize.ShloMosaic

/-- The factor that turns a natural exponent into a binary one. -/
def c2 : ℝ := (Real.log 2)⁻¹

theorem c2_pos : 0 < c2 := inv_pos.mpr (Real.log_pos (by norm_num))

/-- The larger of a sink and of all scores. -/
def top {n : ℕ} (t : Fin n → EReal) (σ : EReal) : EReal := max (Finset.univ.fold max ⊥ t) σ

/-- The weighted mean with exponentials, each weight divided by the sum of all of them. -/
def mean {n : ℕ} (t v : Fin n → EReal) (σ : EReal) : EReal :=
  ∑ k, v k * Ideal.div (Ideal.exp (t k - top t σ)) ((∑ k, Ideal.exp (t k - top t σ)) + Ideal.exp (σ - top t σ))

/-- The weighted mean with powers of two, the sum divided once. -/
def mean2 {n : ℕ} (t v : Fin n → EReal) (σ : EReal) : EReal :=
  Ideal.div (∑ k, v k * Ideal.exp2 (t k - top t σ)) ((∑ k, Ideal.exp2 (t k - top t σ)) + Ideal.exp2 (σ - top t σ))

/-- Multiplication by `c2` keeps the order. -/
theorem mul_c2_mono : Monotone (fun x : EReal => x * (c2 : EReal)) := fun _ _ h =>
  mul_le_mul_of_nonneg_right h (by exact_mod_cast c2_pos.le)

theorem bot_mul_c2 : (⊥ : EReal) * (c2 : EReal) = ⊥ := EReal.bot_mul_coe_of_pos c2_pos

/-- Scaling all scores and the sink scales the larger of them. -/
theorem top_mul {n : ℕ} (t : Fin n → EReal) (σ : EReal) :
    top (fun k => t k * (c2 : EReal)) (σ * (c2 : EReal)) = top t σ * (c2 : EReal) := by
  have h := Finset.fold_hom (op := (max : EReal → EReal → EReal)) (op' := (max : EReal → EReal → EReal)) (s := Finset.univ)
    (f := t) (b := ⊥) (m := fun x : EReal => x * (c2 : EReal)) (fun x y => mul_c2_mono.map_max)
  unfold top
  simp only [bot_mul_c2] at h
  rw [h]
  exact (mul_c2_mono.map_max (a := Finset.univ.fold max ⊥ t) (b := σ)).symm

/-- The larger of a finite sink and of scores below `⊤` is finite. -/
theorem top_real {n : ℕ} (t : Fin n → EReal) (σ : ℝ) (ht : ∀ k, t k ≠ ⊤) : ∃ μ : ℝ, top t σ = μ := by
  have h1 : top t σ ≠ ⊤ := by
    unfold top
    refine (max_lt ?_ (EReal.coe_lt_top σ)).ne
    rw [Finset.fold_max_lt]
    exact ⟨bot_lt_top, fun k _ => lt_top_iff_ne_top.mpr (ht k)⟩
  have h2 : top t σ ≠ ⊥ := by
    unfold top
    exact (lt_of_lt_of_le (EReal.bot_lt_coe σ) (le_max_right _ _)).ne'
  exact ⟨(top t σ).toReal, (EReal.coe_toReal h1 h2).symm⟩

/-- A power of two of a scaled difference is the exponential of the difference. -/
theorem exp2_scaled (x : EReal) (hx : x ≠ ⊤) (μ : ℝ) :
    Ideal.exp2 (x * (c2 : EReal) - (μ : EReal) * (c2 : EReal)) = Ideal.exp (x - μ) := by
  induction x with
  | top => exact absurd rfl hx
  | bot => rw [bot_mul_c2, ← EReal.coe_mul, EReal.bot_sub, EReal.bot_sub]; rfl
  | coe r =>
    rw [← EReal.coe_mul, ← EReal.coe_mul, ← EReal.coe_sub, ← EReal.coe_sub, Ideal.exp2_coe, Ideal.exp_coe]
    congr 1
    have : (2 : ℝ).rpow (r * c2 - μ * c2) = (2 : ℝ) ^ (r * c2 - μ * c2) := rfl
    rw [this, Real.rpow_def_of_pos (by norm_num)]
    congr 1
    have h2 : Real.log 2 ≠ 0 := (Real.log_pos (by norm_num)).ne'
    unfold c2; field_simp

/-- An exponential of a score below `⊤`, less a finite number, is a nonnegative real. -/
theorem exp_real (x : EReal) (hx : x ≠ ⊤) (μ : ℝ) : ∃ r : ℝ, 0 ≤ r ∧ Ideal.exp (x - μ) = r := by
  induction x with
  | top => exact absurd rfl hx
  | bot => exact ⟨0, le_rfl, by rw [EReal.bot_sub]; rfl⟩
  | coe r => exact ⟨Real.exp (r - μ), (Real.exp_pos _).le, by rw [← EReal.coe_sub, Ideal.exp_coe]⟩

/-- A nonnegative real factor goes into a finite sum of extended reals. -/
theorem sum_mul_real {n : ℕ} (f : Fin n → EReal) (r : ℝ) (hr : 0 ≤ r) :
    (∑ k, f k) * (r : EReal) = ∑ k, f k * (r : EReal) := by
  have key : ∀ s : Finset (Fin n), (∑ k ∈ s, f k) * (r : EReal) = ∑ k ∈ s, f k * (r : EReal) := by
    intro s
    induction s using Finset.cons_induction with
    | empty => simp
    | cons a s ha ih =>
      rw [Finset.sum_cons, Finset.sum_cons, ← ih, mul_comm, EReal.left_distrib_of_nonneg_of_ne_top (by exact_mod_cast hr)
        (EReal.coe_ne_top r), mul_comm, mul_comm (r : EReal)]
  exact key Finset.univ

/-- THE TWO FORMS OF THE MEAN AGREE, for a finite sink and scores below `⊤`, whatever the values. -/
theorem mean2_eq_mean {n : ℕ} (t v : Fin n → EReal) (σ : EReal) (hσ : σ ≠ ⊤) (hσ' : σ ≠ ⊥) (ht : ∀ k, t k ≠ ⊤) :
    mean2 (fun k => t k * (c2 : EReal)) v (σ * (c2 : EReal)) = mean t v σ := by
  lift σ to ℝ using ⟨hσ, hσ'⟩
  obtain ⟨μ, hμ⟩ := top_real t σ ht
  unfold mean2 mean
  rw [top_mul, hμ]
  simp only [exp2_scaled _ (ht _), exp2_scaled _ (EReal.coe_ne_top σ)]
  choose e he hee using fun k => exp_real (t k) (ht k) μ
  simp only [hee]
  have hs : Ideal.exp ((σ : EReal) - μ) = (Real.exp (σ - μ) : ℝ) := by rw [← EReal.coe_sub, Ideal.exp_coe]
  have hd : (∑ k, (e k : EReal)) + Ideal.exp ((σ : EReal) - μ) = ((∑ k, e k + Real.exp (σ - μ) : ℝ) : EReal) := by
    rw [hs, EReal.coe_add]
    congr 1
    exact (map_sum (⟨⟨Real.toEReal, rfl⟩, EReal.coe_add⟩ : ℝ →+ EReal) e Finset.univ).symm
  have hpos : 0 < ∑ k, e k + Real.exp (σ - μ) :=
    add_pos_of_nonneg_of_pos (Finset.sum_nonneg fun k _ => he k) (Real.exp_pos _)
  rw [hd]
  simp only [Ideal.div_coe hpos.ne']
  rw [sum_mul_real _ _ (by positivity)]
  exact Finset.sum_congr rfl fun k _ => mul_assoc _ _ _

end Swa

end
-- ==== Proof.Tile.lean ====
module

public import proofs.«01_k».proof.Proof.Gen.KernelIdeal.Skeleton
public import proofs.«01_k».proof.Proof.Softmax
public import Idealize.ShloMosaic.Lib.Pointwise
public import Idealize.ShloMosaic.Lib.ValueIdx

/-! One block of 128 query rows of the windowed attention's kernel, as functions of vectors: the four pieces of packed
query columns, the 384 keys and values that the block sees, the table of biases and the row of sinks. Each is read at
an index; the last lemma says what element (row, column) of the block's result is. -/

@[expose] public section

set_option maxRecDepth 16384

noncomputable section

namespace Swa

open Cert.KernelIdeal Cert.KernelIdeal.Gen Idealize.ShloMosaic

section Defs

variable {F : FTy → Type} [FloatOps F] [Named F]

/-- A piece of queries, scaled. -/
def tQ (q : Vec F S128x128 .bf16) : FVec F S128x128 .f32 :=
  mulf (extf .f32 q bitsLt_bf16_f32) (broadcast S128x128 (Named.named κ "q_scale" 0x3E38AA3B#32))

/-- The scaled piece with its upper 64 lanes cleared. -/
def tLo (q : Vec F S128x128 .bf16) : FVec F S128x128 .f32 :=
  select k0_pay4 (tQ q) (broadcast S128x128 (Scalar.ofBits .f32 0x00000000#32))

/-- The scaled piece with its lower 64 lanes cleared. -/
def tHi (q : Vec F S128x128 .bf16) : FVec F S128x128 .f32 :=
  select k0_pay4 (broadcast S128x128 (Scalar.ofBits .f32 0x00000000#32)) (tQ q)

/-- The eight heads' queries below each other. -/
def tQs (q0 q1 q2 q3 : Vec F S128x128 .bf16) : FVec F S1024x128 .bf16 :=
  truncf .bf16 (concatenate S1024x128 0 [⟨S128x128, tLo q0⟩, ⟨S128x128, tHi q0⟩, ⟨S128x128, tLo q1⟩, ⟨S128x128, tHi q1⟩,
    ⟨S128x128, tLo q2⟩, ⟨S128x128, tHi q2⟩, ⟨S128x128, tLo q3⟩, ⟨S128x128, tHi q3⟩]
    concatenates_S128x128_S128x128_S128x128_S128x128_S128x128_S128x128_S128x128_S128x128_S1024x128_d0) bitsLt_bf16_f32

/-- The scores: one row per key, one column per head and query. -/
def tS (K : FVec F S384x128 .bf16) (B : FVec F S384x1024 .f32) (q0 q1 q2 q3 : Vec F S128x128 .bf16) : FVec F S384x1024 .f32 :=
  addf (matmul dot_S384x128_S1024x128_S384x1024_1_1_0_0_n_n none K (tQs q0 q1 q2 q3) (constant S384x1024 .f32 0x00000000#32)) B

/-- The scores with a number added to those of the first 128 keys. -/
def tFirst (e : F .f32) (s : FVec F S384x1024 .f32) : FVec F S384x1024 .f32 :=
  concatenate S384x1024 0 [⟨S128x1024, addf (extractStridedSlice S128x1024 ![0, 0] s slices_S384x1024_o0_0_S128x1024) (broadcast S128x1024 e)⟩,
    ⟨S256x1024, extractStridedSlice S256x1024 ![128, 0] s slices_S384x1024_o128_0_S256x1024⟩]
    concatenates_S128x1024_S256x1024_S384x1024_d0

/-- The scores with a number added to those of the last 128 keys. -/
def tLast (e : F .f32) (s : FVec F S384x1024 .f32) : FVec F S384x1024 .f32 :=
  concatenate S384x1024 0 [⟨S256x1024, extractStridedSlice S256x1024 ![0, 0] s slices_S384x1024_o0_0_S256x1024⟩,
    ⟨S128x1024, addf (extractStridedSlice S128x1024 ![256, 0] s slices_S384x1024_o256_0_S128x1024) (broadcast S128x1024 e)⟩]
    concatenates_S256x1024_S128x1024_S384x1024_d0

/-- The larger of the sink and of each column's scores. -/
def tMax (snk : FVec F S1x1024 .f32) (s : FVec F S384x1024 .f32) : FVec F S1x1024 .f32 :=
  maximumf (shapeCast S1x1024 (multiReduction .maximumf [0] S1024 s 0xFF800000#32 reduces_S384x1024_S1024 (.inl rfl) rfl)
    shapeCasts_S1024_S1x1024) snk

/-- The weights before their division. -/
def tExp (snk : FVec F S1x1024 .f32) (s : FVec F S384x1024 .f32) : FVec F S384x1024 .f32 :=
  exp2 (subf s (broadcastTo S384x1024 (tMax snk s) broadcasts_S1x1024_S384x1024))

/-- The sum of the weights and of the sink's. -/
def tDen (snk : FVec F S1x1024 .f32) (s : FVec F S384x1024 .f32) : FVec F S1x1024 .f32 :=
  addf (shapeCast S1x1024 (multiReduction .add [0] S1024 (tExp snk s) 0x00000000#32 reduces_S384x1024_S1024 (.inl rfl) rfl)
    shapeCasts_S1024_S1x1024) (exp2 (subf snk (tMax snk s)))

/-- The weighted means, one column per head and query. -/
def tOut (Vt : FVec F S128x384 .bf16) (snk : FVec F S1x1024 .f32) (s : FVec F S384x1024 .f32) : FVec F S128x1024 .f32 :=
  divf (matmul dot_S128x384_S384x1024_S128x1024_1_0_0_1_n_n none Vt (truncf .bf16 (tExp snk s) bitsLt_bf16_f32)
    (constant S128x1024 .f32 0x00000000#32)) (broadcastTo S128x1024 (tDen snk s) broadcasts_S1x1024_S128x1024)

/-- Two heads' halves put together and turned to rows: heads 0 and 1. -/
def tSel0 (O : FVec F S128x1024 .f32) : FVec F S128x128 .bf16 :=
  truncf .bf16 (transpose S128x128 [1, 0] (concatenate S128x128 0
    [⟨S64x128, extractStridedSlice S64x128 ![0, 0] O slices_S128x1024_o0_0_S64x128⟩,
     ⟨S64x128, extractStridedSlice S64x128 ![64, 128] O slices_S128x1024_o64_128_S64x128⟩] concatenates_S64x128_S64x128_S128x128_d0)
    transposes_S128x128_p1_0_S128x128) bitsLt_bf16_f32

/-- The same for heads 2 and 3. -/
def tSel1 (O : FVec F S128x1024 .f32) : FVec F S128x128 .bf16 :=
  truncf .bf16 (transpose S128x128 [1, 0] (concatenate S128x128 0
    [⟨S64x128, extractStridedSlice S64x128 ![0, 256] O slices_S128x1024_o0_256_S64x128⟩,
     ⟨S64x128, extractStridedSlice S64x128 ![64, 384] O slices_S128x1024_o64_384_S64x128⟩] concatenates_S64x128_S64x128_S128x128_d0)
    transposes_S128x128_p1_0_S128x128) bitsLt_bf16_f32

/-- The same for heads 4 and 5. -/
def tSel2 (O : FVec F S128x1024 .f32) : FVec F S128x128 .bf16 :=
  truncf .bf16 (transpose S128x128 [1, 0] (concatenate S128x128 0
    [⟨S64x128, extractStridedSlice S64x128 ![0, 512] O slices_S128x1024_o0_512_S64x128⟩,
     ⟨S64x128, extractStridedSlice S64x128 ![64, 640] O slices_S128x1024_o64_640_S64x128⟩] concatenates_S64x128_S64x128_S128x128_d0)
    transposes_S128x128_p1_0_S128x128) bitsLt_bf16_f32

/-- The same for heads 6 and 7. -/
def tSel3 (O : FVec F S128x1024 .f32) : FVec F S128x128 .bf16 :=
  truncf .bf16 (transpose S128x128 [1, 0] (concatenate S128x128 0
    [⟨S64x128, extractStridedSlice S64x128 ![0, 768] O slices_S128x1024_o0_768_S64x128⟩,
     ⟨S64x128, extractStridedSlice S64x128 ![64, 896] O slices_S128x1024_o64_896_S64x128⟩] concatenates_S64x128_S64x128_S128x128_d0)
    transposes_S128x128_p1_0_S128x128) bitsLt_bf16_f32

end Defs

/-! ## Read at an index -/

/-- The named score factor, `1 / (8 log 2)`. -/
def qs : ℝ := 1 / 8 * c2

theorem q_scale_named : (Named.named κ "q_scale" 0x3E38AA3B#32 : Ideal .f32) = (qs : EReal) :=
  IdealRules.named_const.ideal_named_scalar _ _ _ _ rfl

theorem log2_e_named : (Named.named κ "log2_e" 0x3FB8AA3B#32 : Ideal .f32) = (c2 : EReal) :=
  IdealRules.named_const.ideal_named_scalar _ _ _ _ rfl

theorem mask_named : (Named.named κ "mask" 0xF149F2CA#32 : Ideal .f32) = (⊥ : EReal) :=
  IdealRules.named_const.ideal_named_scalar _ _ _ _ rfl

/-- A lane of a piece of the queries as the score of a head reads it: head `2c` reads the lower 64, head `2c + 1` the
    upper 64, each scaled, and the other half is zero. -/
def lane (g : ℕ) (q : EReal) (d : ℕ) : EReal := if d / 64 = g then q * (qs : EReal) else 0

/-- Two indices with equal coordinates. -/
theorem ix2_eq {a b : ℕ} {i i' : Fin a} {j j' : Fin b} (hi : i.val = i'.val) (hj : j.val = j'.val) : ix2 i j = ix2 i' j' := by
  rw [Fin.ext hi, Fin.ext hj]

theorem lt64 : ∀ d : Fin 128, Scalar.select (IntOp.cmpi .slt (BitVec.ofNat 32 d.val) 64#32) true false = decide (d.val < 64) := by
  decide +kernel

theorem select_lt64 {α : Type} (d : Fin 128) (x y : α) :
    Scalar.select (IntOp.cmpi .slt (BitVec.ofNat 32 d.val) 64#32) x y = if d.val < 64 then x else y := by
  have h := lt64 d
  unfold Scalar.select at h ⊢
  split <;> split <;> simp_all

theorem tLo_apply (q : Vec Ideal S128x128 .bf16) (i d : Fin 128) : tLo q (ix2 i d) = lane 0 (q (ix2 i d)) d.val := by
  pointwise [tLo, tQ, k0_pay4]
  rw [select_lt64, q_scale_named, lane]
  exact if_congr (by omega) rfl rfl

theorem tHi_apply (q : Vec Ideal S128x128 .bf16) (i d : Fin 128) : tHi q (ix2 i d) = lane 1 (q (ix2 i d)) d.val := by
  pointwise [tHi, tQ, k0_pay4]
  rw [select_lt64, q_scale_named, lane]
  have := d.isLt
  by_cases h : d.val < 64
  · rw [if_pos h, if_neg (by omega)]
  · rw [if_neg h, if_pos (by omega)]

theorem ofBits_bot : Ideal.ofBits .f32 0xFF800000#32 = (⊥ : EReal) := by simp [Ideal.ofBits, Ideal.ieee]

theorem tOut_apply (Vt : FVec Ideal S128x384 .bf16) (snk : FVec Ideal S1x1024 .f32) (s : FVec Ideal S384x1024 .f32) (j : Fin 128) (u : Fin 1024) :
    tOut Vt snk s (ix2 j u) = mean2 (fun k : Fin 384 => s (ix2 k u)) (fun k => Vt (ix2 j k)) (snk (ix2 0 u)) := by
  pointwise [tOut, tExp, tDen, tMax]
  rw [ofBits_bot]
  rfl

/-- Where column `u` of a pair of heads and query `i` lie in the means: the head's half, then the query. -/
theorem tSel0_apply (O : FVec Ideal S128x1024 .f32) (i u : Fin 128) :
    tSel0 O (ix2 i u) = O (ix2 u ⟨256 * 0 + 128 * (u.val / 64) + i.val, by omega⟩) := by
  pointwise [tSel0]
  split <;> exact congrArg O (ix2_eq (by dsimp only <;> omega) (by dsimp only <;> omega))

theorem tSel1_apply (O : FVec Ideal S128x1024 .f32) (i u : Fin 128) :
    tSel1 O (ix2 i u) = O (ix2 u ⟨256 * 1 + 128 * (u.val / 64) + i.val, by omega⟩) := by
  pointwise [tSel1]
  split <;> exact congrArg O (ix2_eq (by dsimp only <;> omega) (by dsimp only <;> omega))

theorem tSel2_apply (O : FVec Ideal S128x1024 .f32) (i u : Fin 128) :
    tSel2 O (ix2 i u) = O (ix2 u ⟨256 * 2 + 128 * (u.val / 64) + i.val, by omega⟩) := by
  pointwise [tSel2]
  split <;> exact congrArg O (ix2_eq (by dsimp only <;> omega) (by dsimp only <;> omega))

theorem tSel3_apply (O : FVec Ideal S128x1024 .f32) (i u : Fin 128) :
    tSel3 O (ix2 i u) = O (ix2 u ⟨256 * 3 + 128 * (u.val / 64) + i.val, by omega⟩) := by
  pointwise [tSel3]
  split <;> exact congrArg O (ix2_eq (by dsimp only <;> omega) (by dsimp only <;> omega))

theorem tFirst_apply (e : Ideal .f32) (s : FVec Ideal S384x1024 .f32) (k : Fin 384) (u : Fin 1024) :
    tFirst e s (ix2 k u) = if k.val < 128 then s (ix2 k u) + e else s (ix2 k u) := by
  pointwise [tFirst]
  split
  · rfl
  · exact congrArg s (ix2_eq (by dsimp only; omega) rfl)

theorem tLast_apply (e : Ideal .f32) (s : FVec Ideal S384x1024 .f32) (k : Fin 384) (u : Fin 1024) :
    tLast e s (ix2 k u) = if k.val < 256 then s (ix2 k u) else s (ix2 k u) + e := by
  pointwise [tLast]
  split
  · rfl
  · exact congrArg (s · + e) (ix2_eq (by dsimp only; omega) rfl)

/-- The packed queries: row `128 (2c + g) + i` is head `2c + g`'s query `i`. -/
theorem tQs_apply (q0 q1 q2 q3 : Vec Ideal S128x128 .bf16) (c : Fin 4) (g : Fin 2) (i d : Fin 128) (u : Fin 1024)
    (hu : u.val = 256 * c.val + 128 * g.val + i.val) :
    tQs q0 q1 q2 q3 (ix2 u d) = lane g.val ((![q0, q1, q2, q3] c) (ix2 i d)) d.val := by
  pointwise [tQs]
  simp only [tLo_apply, tHi_apply]
  have hi := i.isLt
  have hc := c.isLt
  have hg := g.isLt
  split
  · obtain rfl : c = 0 := Fin.ext (show c.val = 0 by omega)
    obtain rfl : g = 0 := Fin.ext (show g.val = 0 by omega)
    exact congrArg (fun x => lane 0 (q0 x) d.val) (ix2_eq (by simp at hu; dsimp only; omega) rfl)
  split
  · obtain rfl : c = 0 := Fin.ext (show c.val = 0 by omega)
    obtain rfl : g = 1 := Fin.ext (show g.val = 1 by omega)
    exact congrArg (fun x => lane 1 (q0 x) d.val) (ix2_eq (by simp at hu; dsimp only; omega) rfl)
  split
  · obtain rfl : c = 1 := Fin.ext (show c.val = 1 by omega)
    obtain rfl : g = 0 := Fin.ext (show g.val = 0 by omega)
    exact congrArg (fun x => lane 0 (q1 x) d.val) (ix2_eq (by simp at hu; dsimp only; omega) rfl)
  split
  · obtain rfl : c = 1 := Fin.ext (show c.val = 1 by omega)
    obtain rfl : g = 1 := Fin.ext (show g.val = 1 by omega)
    exact congrArg (fun x => lane 1 (q1 x) d.val) (ix2_eq (by simp at hu; dsimp only; omega) rfl)
  split
  · obtain rfl : c = 2 := Fin.ext (show c.val = 2 by omega)
    obtain rfl : g = 0 := Fin.ext (show g.val = 0 by omega)
    exact congrArg (fun x => lane 0 (q2 x) d.val) (ix2_eq (by simp at hu; dsimp only; omega) rfl)
  split
  · obtain rfl : c = 2 := Fin.ext (show c.val = 2 by omega)
    obtain rfl : g = 1 := Fin.ext (show g.val = 1 by omega)
    exact congrArg (fun x => lane 1 (q2 x) d.val) (ix2_eq (by simp at hu; dsimp only; omega) rfl)
  split
  · obtain rfl : c = 3 := Fin.ext (show c.val = 3 by omega)
    obtain rfl : g = 0 := Fin.ext (show g.val = 0 by omega)
    exact congrArg (fun x => lane 0 (q3 x) d.val) (ix2_eq (by simp at hu; dsimp only; omega) rfl)
  · obtain rfl : c = 3 := Fin.ext (show c.val = 3 by omega)
    obtain rfl : g = 1 := Fin.ext (show g.val = 1 by omega)
    exact congrArg (fun x => lane 1 (q3 x) d.val) (ix2_eq (by simp at hu; dsimp only; omega) rfl)

theorem tS_apply (K : FVec Ideal S384x128 .bf16) (B : FVec Ideal S384x1024 .f32) (q0 q1 q2 q3 : Vec Ideal S128x128 .bf16) (k : Fin 384) (u : Fin 1024) :
    tS K B q0 q1 q2 q3 (ix2 k u) = (∑ d : Fin 128, K (ix2 k d) * tQs q0 q1 q2 q3 (ix2 u d)) + B (ix2 k u) := by
  pointwise [tS]

end Swa

end

end
-- ==== Proof.BlockRows.lean ====
module

public import proofs.«01_k».proof.Proof.Tile
public import proofs.«01_k».proof.Proof.Gen.KernelIdeal.Frame

/-! What the kernel's body leaves in its output block: one function of the block's index, from the blocks it loads. The
body writes 64 pieces of 128 by 128; each is the same function of its place. -/

@[expose] public section

set_option maxRecDepth 16384

noncomputable section

namespace Swa

open Cert.KernelIdeal Cert.KernelIdeal.Gen Idealize.ShloMosaic Idealize.ShloMosaic.Tactic Idealize.SL.Sem

/-- One of the four pairs of heads of a block's means. -/
def selC (c : Fin 4) (O : FVec Ideal S128x1024 .f32) : FVec Ideal S128x128 .bf16 :=
  match c with
  | ⟨0, _⟩ => tSel0 O
  | ⟨1, _⟩ => tSel1 O
  | ⟨2, _⟩ => tSel2 O
  | ⟨_, _⟩ => tSel3 O

theorem selC_apply (c : Fin 4) (O : FVec Ideal S128x1024 .f32) (i u : Fin 128) :
    selC c O (ix2 i u) = O (ix2 u ⟨256 * c.val + 128 * (u.val / 64) + i.val, by omega⟩) := by
  match c with
  | ⟨0, _⟩ => exact tSel0_apply O i u
  | ⟨1, _⟩ => exact tSel1_apply O i u
  | ⟨2, _⟩ => exact tSel2_apply O i u
  | ⟨3, _⟩ => exact tSel3_apply O i u

/-- What is added to the score of key `k` of row block `r`: at the first block of a tile the number for the keys before
    it, at the last the number for the keys after it. -/
def edge (p : grid0.Coords) (r k : ℕ) : EReal :=
  if r = 0 ∧ k < 128 then k0_pay5 (F := Ideal) p else if r = 15 ∧ 256 ≤ k then k0_pay6 (F := Ideal) p else 0

section Block

variable (p : grid0.Coords) (x0 : Vec Ideal S2048x512 .bf16) (x1 : Vec Ideal S128x128 .bf16) (x2 : Vec Ideal S2048x128 .bf16)
  (x3 : Vec Ideal S128x128 .bf16) (x4 : Vec Ideal S128x128 .bf16) (x5 : Vec Ideal S2048x128 .bf16) (x6 : Vec Ideal S128x128 .bf16)
  (x7 : Vec Ideal S384x1024 .f32) (x8 : Vec Ideal S8x1024 .f32)

/-- The sinks' row, as the body loads it. -/
def snkRow : Vec Ideal S1x1024 .f32 := View.ld x8 (Rect.unit ![0, 0] S1x1024.size inb_S8x1024_S1x1024_0_0)

/-- The score of key `k` for row `128 r + i` and head `2 c + g` of the block. -/
def blkScore (r : Fin 16) (i : Fin 128) (c : Fin 4) (g : Fin 2) (k : Fin 384) : EReal :=
  (∑ d : Fin 128, k0_pay2 x1 x2 x3 (ix2 ⟨128 * r.val + k.val, by omega⟩ d)
      * lane g.val (x0 (ix2 ⟨128 * r.val + i.val, by omega⟩ ⟨128 * c.val + d.val, by omega⟩)) d.val)
    + k0_pay7 x7 (ix2 k ⟨256 * c.val + 128 * g.val + i.val, by omega⟩) + edge p r.val k.val

/-- The mean at row `128 r + i`, column `128 c + u`. -/
def blkAt (r : Fin 16) (i : Fin 128) (c : Fin 4) (u : Fin 128) : EReal :=
  mean2 (blkScore p x0 x1 x2 x3 x7 r i c ⟨u.val / 64, by omega⟩)
    (fun k => k0_pay3 x4 x5 x6 (ix2 u ⟨128 * r.val + k.val, by omega⟩))
    (k0_pay8 (snkRow x8) (ix2 0 ⟨256 * c.val + 128 * (u.val / 64) + i.val, by omega⟩))

/-- THE BLOCK, at an index. -/
def blk (y : S2048x512.Idx) : EReal :=
  blkAt p x0 x1 x2 x3 x4 x5 x6 x7 x8 ⟨(y 0).val / 128, by have : (y 0).val < 2048 := (y 0).isLt; omega⟩ ⟨(y 0).val % 128, by omega⟩
    ⟨(y 1).val / 128, by have : (y 1).val < 512 := (y 1).isLt; omega⟩ ⟨(y 1).val % 128, by omega⟩

theorem blk_ix2 (r : Fin 16) (i : Fin 128) (c : Fin 4) (u : Fin 128) :
    blk p x0 x1 x2 x3 x4 x5 x6 x7 x8 (ix2 ⟨128 * r.val + i.val, by omega⟩ ⟨128 * c.val + u.val, by omega⟩)
      = blkAt p x0 x1 x2 x3 x4 x5 x6 x7 x8 r i c u := by
  unfold blk
  congr 1
  · exact Fin.ext (show (128 * r.val + i.val) / 128 = r.val by omega)
  · exact Fin.ext (show (128 * r.val + i.val) % 128 = i.val by omega)
  · exact Fin.ext (show (128 * c.val + u.val) / 128 = c.val by omega)
  · exact Fin.ext (show (128 * c.val + u.val) % 128 = u.val by omega)

/-- ONE PIECE: from keys, values, queries and scores that are the block's at their places. -/
theorem cell (r : Fin 16) (K : FVec Ideal S384x128 .bf16) (Vt : FVec Ideal S128x384 .bf16)
    (q0 q1 q2 q3 : Vec Ideal S128x128 .bf16) (s : FVec Ideal S384x1024 .f32)
    (hK : ∀ (k : Fin 384) (d : Fin 128), K (ix2 k d) = k0_pay2 x1 x2 x3 (ix2 ⟨128 * r.val + k.val, by omega⟩ d))
    (hV : ∀ (j : Fin 128) (k : Fin 384), Vt (ix2 j k) = k0_pay3 x4 x5 x6 (ix2 j ⟨128 * r.val + k.val, by omega⟩))
    (hQ : ∀ (c : Fin 4) (i d : Fin 128), (![q0, q1, q2, q3] c) (ix2 i d)
      = x0 (ix2 ⟨128 * r.val + i.val, by omega⟩ ⟨128 * c.val + d.val, by omega⟩))
    (hs : ∀ (k : Fin 384) (u : Fin 1024), s (ix2 k u) = tS K (k0_pay7 x7) q0 q1 q2 q3 (ix2 k u) + edge p r.val k.val)
    (c : Fin 4) (i u : Fin 128) :
    selC c (tOut Vt (k0_pay8 (snkRow x8)) s) (ix2 i u) = blkAt p x0 x1 x2 x3 x4 x5 x6 x7 x8 r i c u := by
  rw [selC_apply, tOut_apply]
  unfold blkAt
  have h1 : (fun k : Fin 384 => s (ix2 k ⟨256 * c.val + 128 * (u.val / 64) + i.val, by omega⟩))
      = blkScore p x0 x1 x2 x3 x7 r i c ⟨u.val / 64, by omega⟩ := by
    funext k
    rw [hs, tS_apply]
    unfold blkScore
    have hq : ∀ d : Fin 128, tQs q0 q1 q2 q3 (ix2 ⟨256 * c.val + 128 * (u.val / 64) + i.val, by omega⟩ d)
        = lane (u.val / 64) (x0 (ix2 ⟨128 * r.val + i.val, by omega⟩ ⟨128 * c.val + d.val, by omega⟩)) d.val := fun d => by
      rw [tQs_apply q0 q1 q2 q3 c ⟨u.val / 64, by omega⟩ i d ⟨256 * c.val + 128 * (u.val / 64) + i.val, by omega⟩ rfl, hQ]
    simp only [hK, hq]
  rw [h1]
  simp only [hV]

/-- A piece's place in the block. -/
theorem emb_ix2 (a b : ℕ) (h : ∀ k, (![a, b] : Fin 2 → ℕ) k + (![128, 128] : Fin 2 → ℕ) k ≤ S2048x512.size k)
    (r : Fin 16) (c : Fin 4) (hr : a = 128 * r.val) (hc : b = 128 * c.val) (x : S128x128.Idx) :
    (Rect.unit (s := S2048x512) ![a, b] ![128, 128] h).emb x
      = ix2 ⟨128 * r.val + (x 0).val, by have : (x 0).val < 128 := (x 0).isLt; omega⟩
          ⟨128 * c.val + (x 1).val, by have : (x 1).val < 128 := (x 1).isLt; omega⟩ := by
  subst hr hc
  funext k
  match k with
  | ⟨0, _⟩ => exact Fin.ext (by rw [Rect.emb_apply]; show 128 * r.val + 1 * (x 0).val = 128 * r.val + (x 0).val; omega)
  | ⟨1, _⟩ => exact Fin.ext (by rw [Rect.emb_apply]; show 128 * c.val + 1 * (x 1).val = 128 * c.val + (x 1).val; omega)

/-- A piece of the queries, at an index. -/
theorem ld_q (a b : ℕ) (h : ∀ k, (![a, b] : Fin 2 → ℕ) k + S128x128.size k ≤ S2048x512.size k)
    (r : Fin 16) (c : Fin 4) (hr : a = 128 * r.val) (hc : b = 128 * c.val) (i d : Fin 128) :
    View.ld x0 (Rect.unit (s := S2048x512) ![a, b] S128x128.size h) (ix2 i d)
      = x0 (ix2 ⟨128 * r.val + i.val, by omega⟩ ⟨128 * c.val + d.val, by omega⟩) :=
  congrArg x0 (emb_ix2 a b h r c hr hc (ix2 i d))

/-- A PIECE AT ITS PLACE: row block `r`, pair `c`, for any scores that are the products', the biases' and the edge's sum. -/
theorem piece (r : Fin 16) (a : ℕ) (ha : a = 128 * r.val) (hK : S2304x128.Slices ![a, 0] S384x128) (hV : S128x2304.Slices ![0, a] S128x384)
    (h0 : ∀ k, (![a, 0] : Fin 2 → ℕ) k + S128x128.size k ≤ S2048x512.size k)
    (h1 : ∀ k, (![a, 128] : Fin 2 → ℕ) k + S128x128.size k ≤ S2048x512.size k)
    (h2 : ∀ k, (![a, 256] : Fin 2 → ℕ) k + S128x128.size k ≤ S2048x512.size k)
    (h3 : ∀ k, (![a, 384] : Fin 2 → ℕ) k + S128x128.size k ≤ S2048x512.size k)
    (s : FVec Ideal S384x1024 .f32)
    (hs : ∀ (k : Fin 384) (u : Fin 1024), s (ix2 k u) = (tS (extractStridedSlice S384x128 ![a, 0] (k0_pay2 x1 x2 x3) hK) (k0_pay7 x7)
      (View.ld x0 (Rect.unit ![a, 0] S128x128.size h0)) (View.ld x0 (Rect.unit ![a, 128] S128x128.size h1)) (View.ld x0 (Rect.unit ![a, 256] S128x128.size h2)) (View.ld x0 (Rect.unit ![a, 384] S128x128.size h3))) (ix2 k u) + edge p r.val k.val) (c : Fin 4) (b : ℕ)
    (hb : b = 128 * c.val) (h : ∀ k, (![a, b] : Fin 2 → ℕ) k + (![128, 128] : Fin 2 → ℕ) k ≤ S2048x512.size k) (x : S128x128.Idx) :
    selC c (tOut (extractStridedSlice S128x384 ![0, a] (k0_pay3 x4 x5 x6) hV) (k0_pay8 (snkRow x8)) s) x
      = blk p x0 x1 x2 x3 x4 x5 x6 x7 x8 ((Rect.unit (s := S2048x512) ![a, b] ![128, 128] h).emb x) := by
  subst ha
  have e : x = ix2 (x 0) (x 1) := by funext a; match a with | ⟨0, _⟩ => rfl | ⟨1, _⟩ => rfl
  rw [emb_ix2 _ b h r c rfl hb x]
  refine Eq.trans ?_ (blk_ix2 p x0 x1 x2 x3 x4 x5 x6 x7 x8 r (x 0) c (x 1)).symm
  conv_lhs => rw [e]
  refine cell p x0 x1 x2 x3 x4 x5 x6 x7 x8 r _ _ _ _ _ _ s (fun k d => ?_) (fun j k => ?_) (fun c i d => ?_) hs c (x 0) (x 1)
  · pointwise
  · pointwise
  · match c with
    | ⟨0, _⟩ => exact ld_q x0 _ 0 _ r 0 rfl rfl i d
    | ⟨1, _⟩ => exact ld_q x0 _ 128 _ r 1 rfl rfl i d
    | ⟨2, _⟩ => exact ld_q x0 _ 256 _ r 2 rfl rfl i d
    | ⟨3, _⟩ => exact ld_q x0 _ 384 _ r 3 rfl rfl i d

/-- The pieces of the row blocks between the first and the last. -/
theorem pieceMid (r : Fin 16) (a : ℕ) (ha : a = 128 * r.val) (hK : S2304x128.Slices ![a, 0] S384x128) (hV : S128x2304.Slices ![0, a] S128x384)
    (h0 : ∀ k, (![a, 0] : Fin 2 → ℕ) k + S128x128.size k ≤ S2048x512.size k)
    (h1 : ∀ k, (![a, 128] : Fin 2 → ℕ) k + S128x128.size k ≤ S2048x512.size k)
    (h2 : ∀ k, (![a, 256] : Fin 2 → ℕ) k + S128x128.size k ≤ S2048x512.size k)
    (h3 : ∀ k, (![a, 384] : Fin 2 → ℕ) k + S128x128.size k ≤ S2048x512.size k)
    (hr : r ≠ 0) (hr' : r ≠ 15) (c : Fin 4) (b : ℕ)
    (hb : b = 128 * c.val) (h : ∀ k, (![a, b] : Fin 2 → ℕ) k + (![128, 128] : Fin 2 → ℕ) k ≤ S2048x512.size k) (x : S128x128.Idx) :
    selC c (tOut (extractStridedSlice S128x384 ![0, a] (k0_pay3 x4 x5 x6) hV) (k0_pay8 (snkRow x8))
      (tS (extractStridedSlice S384x128 ![a, 0] (k0_pay2 x1 x2 x3) hK) (k0_pay7 x7)
      (View.ld x0 (Rect.unit ![a, 0] S128x128.size h0)) (View.ld x0 (Rect.unit ![a, 128] S128x128.size h1)) (View.ld x0 (Rect.unit ![a, 256] S128x128.size h2)) (View.ld x0 (Rect.unit ![a, 384] S128x128.size h3)))) x
      = blk p x0 x1 x2 x3 x4 x5 x6 x7 x8 ((Rect.unit (s := S2048x512) ![a, b] ![128, 128] h).emb x) :=
  piece p x0 x1 x2 x3 x4 x5 x6 x7 x8 r a ha hK hV h0 h1 h2 h3 _ (fun k u => by
    unfold edge
    rw [if_neg (fun hh => hr (Fin.ext hh.1)), if_neg (fun hh => hr' (Fin.ext hh.1)), add_zero]) c b hb h x

/-- The pieces of the first row block. -/
theorem pieceFirst (r : Fin 16) (a : ℕ) (ha : a = 128 * r.val) (hK : S2304x128.Slices ![a, 0] S384x128) (hV : S128x2304.Slices ![0, a] S128x384)
    (h0 : ∀ k, (![a, 0] : Fin 2 → ℕ) k + S128x128.size k ≤ S2048x512.size k)
    (h1 : ∀ k, (![a, 128] : Fin 2 → ℕ) k + S128x128.size k ≤ S2048x512.size k)
    (h2 : ∀ k, (![a, 256] : Fin 2 → ℕ) k + S128x128.size k ≤ S2048x512.size k)
    (h3 : ∀ k, (![a, 384] : Fin 2 → ℕ) k + S128x128.size k ≤ S2048x512.size k)
    (hr : r = 0) (c : Fin 4) (b : ℕ)
    (hb : b = 128 * c.val) (h : ∀ k, (![a, b] : Fin 2 → ℕ) k + (![128, 128] : Fin 2 → ℕ) k ≤ S2048x512.size k) (x : S128x128.Idx) :
    selC c (tOut (extractStridedSlice S128x384 ![0, a] (k0_pay3 x4 x5 x6) hV) (k0_pay8 (snkRow x8))
      (tFirst (k0_pay5 p) (tS (extractStridedSlice S384x128 ![a, 0] (k0_pay2 x1 x2 x3) hK) (k0_pay7 x7)
      (View.ld x0 (Rect.unit ![a, 0] S128x128.size h0)) (View.ld x0 (Rect.unit ![a, 128] S128x128.size h1)) (View.ld x0 (Rect.unit ![a, 256] S128x128.size h2)) (View.ld x0 (Rect.unit ![a, 384] S128x128.size h3))))) x
      = blk p x0 x1 x2 x3 x4 x5 x6 x7 x8 ((Rect.unit (s := S2048x512) ![a, b] ![128, 128] h).emb x) :=
  piece p x0 x1 x2 x3 x4 x5 x6 x7 x8 r a ha hK hV h0 h1 h2 h3 _ (fun k u => by
    subst hr
    rw [tFirst_apply]
    unfold edge
    by_cases hk : k.val < 128
    · rw [if_pos hk, if_pos ⟨rfl, hk⟩]
    · rw [if_neg hk, if_neg (fun hh => hk hh.2), if_neg (fun hh => absurd hh.1 (by decide)), add_zero]) c b hb h x

/-- The pieces of the last row block. -/
theorem pieceLast (r : Fin 16) (a : ℕ) (ha : a = 128 * r.val) (hK : S2304x128.Slices ![a, 0] S384x128) (hV : S128x2304.Slices ![0, a] S128x384)
    (h0 : ∀ k, (![a, 0] : Fin 2 → ℕ) k + S128x128.size k ≤ S2048x512.size k)
    (h1 : ∀ k, (![a, 128] : Fin 2 → ℕ) k + S128x128.size k ≤ S2048x512.size k)
    (h2 : ∀ k, (![a, 256] : Fin 2 → ℕ) k + S128x128.size k ≤ S2048x512.size k)
    (h3 : ∀ k, (![a, 384] : Fin 2 → ℕ) k + S128x128.size k ≤ S2048x512.size k)
    (hr : r = 15) (c : Fin 4) (b : ℕ)
    (hb : b = 128 * c.val) (h : ∀ k, (![a, b] : Fin 2 → ℕ) k + (![128, 128] : Fin 2 → ℕ) k ≤ S2048x512.size k) (x : S128x128.Idx) :
    selC c (tOut (extractStridedSlice S128x384 ![0, a] (k0_pay3 x4 x5 x6) hV) (k0_pay8 (snkRow x8))
      (tLast (k0_pay6 p) (tS (extractStridedSlice S384x128 ![a, 0] (k0_pay2 x1 x2 x3) hK) (k0_pay7 x7)
      (View.ld x0 (Rect.unit ![a, 0] S128x128.size h0)) (View.ld x0 (Rect.unit ![a, 128] S128x128.size h1)) (View.ld x0 (Rect.unit ![a, 256] S128x128.size h2)) (View.ld x0 (Rect.unit ![a, 384] S128x128.size h3))))) x
      = blk p x0 x1 x2 x3 x4 x5 x6 x7 x8 ((Rect.unit (s := S2048x512) ![a, b] ![128, 128] h).emb x) :=
  piece p x0 x1 x2 x3 x4 x5 x6 x7 x8 r a ha hK hV h0 h1 h2 h3 _ (fun k u => by
    subst hr
    rw [tLast_apply]
    unfold edge
    by_cases hk : k.val < 256
    · rw [if_pos hk, if_neg (fun hh => absurd hh.1 (by decide)), if_neg (fun hh => absurd hh.2 (by omega)), add_zero]
    · rw [if_neg hk, if_neg (fun hh => absurd hh.1 (by decide)), if_pos ⟨rfl, by omega⟩]) c b hb h x

end Block

end Swa

end

end
-- ==== Proof.Words.lean ====
module

public import Idealize.ShloMosaic.Lib.Affine
public import Idealize.ShloMosaic.Lib.Pointwise
public import Idealize.ShloMosaic.Lib.Tactic.WordOmega

/-! The words a program computes positions with: the offset of a key from a query, its bucket, the mask of the band. -/

@[expose] public section

set_option maxRecDepth 16384

noncomputable section

namespace Swa

open Idealize.ShloMosaic

/-- The offset of key `k` of a band from query `i` of its block. -/
def relW (i : Fin 128) (k : Fin 384) : BitVec 32 :=
  IntOp.subi (IntOp.subi (BitVec.ofNat 32 k.val) 128#32) (BitVec.ofNat 32 i.val)

/-- One where a distance has reached an edge, nought before. -/
def atLeast (n e : BitVec 32) : BitVec 32 := (IntOp.cmpi .sge n e).setWidth 32

/-- The bucket of an offset. -/
def bkW (z : BitVec 32) : BitVec 32 :=
  IntOp.addi (IntOp.muli ((IntOp.cmpi .sgt z 0#32).setWidth 32) 16#32)
    (Scalar.select (IntOp.cmpi .slt (IntOp.absi z) 8#32) (IntOp.absi z)
      (IntOp.addi 8#32 (IntOp.addi (IntOp.addi (IntOp.addi (IntOp.addi (IntOp.addi (IntOp.addi (IntOp.addi 0#32
        (atLeast (IntOp.absi z) 12#32)) (atLeast (IntOp.absi z) 16#32)) (atLeast (IntOp.absi z) 23#32))
        (atLeast (IntOp.absi z) 32#32)) (atLeast (IntOp.absi z) 46#32)) (atLeast (IntOp.absi z) 64#32))
        (atLeast (IntOp.absi z) 91#32))))

/-- An offset as a number from nought on. -/
theorem relW_eq (i : Fin 128) (k : Fin 384) : relW i k = BitVec.ofNat 32 (k.val + 127 - i.val) - 255#32 := by
  unfold relW IntOp.subi
  apply BitVec.eq_of_toNat_eq
  simp only [BitVec.toNat_sub, BitVec.toNat_ofNat]
  omega

theorem bkW_lt_all : ∀ d : Fin 511, (bkW (BitVec.ofNat 32 d.val - 255#32)).toNat < 32 := by decide +kernel

theorem bkW_lt (i : Fin 128) (k : Fin 384) : (bkW (relW i k)).toNat < 32 := by
  rw [relW_eq]
  exact bkW_lt_all ⟨k.val + 127 - i.val, by omega⟩

/-- The bucket of the offset of key `k` from query `i`. -/
def bk (i : Fin 128) (k : Fin 384) : Fin 32 := ⟨(bkW (relW i k)).toNat, bkW_lt i k⟩

theorem bkW_eq (i : Fin 128) (k : Fin 384) : bkW (relW i k) = BitVec.ofNat 32 (bk i k).val := by
  apply BitVec.eq_of_toNat_eq
  rw [BitVec.toNat_ofNat]
  have := bkW_lt i k
  show _ = (bkW (relW i k)).toNat % _
  omega

theorem small_toInt : ∀ e : Fin 32, (BitVec.ofNat 32 e.val).toInt.toNat = e.val ∧ IntOp.cmpi .slt (BitVec.ofNat 32 e.val) 0#32 = 0#1 := by
  decide +kernel

theorem small_eq : ∀ e b : Fin 32, IntOp.cmpi .eq (BitVec.ofNat 32 e.val) (BitVec.ofNat 32 b.val) = if e = b then 1#1 else 0#1 := by
  decide +kernel

theorem band_all : ∀ d : Fin 511, IntOp.cmpi .sle (IntOp.absi (BitVec.ofNat 32 d.val - 255#32)) 128#32
    = if 127 ≤ d.val ∧ d.val ≤ 383 then 1#1 else 0#1 := by decide +kernel

/-- A key is in the band when it is at most 128 from its query. -/
theorem band_apply (i : Fin 128) (k : Fin 384) :
    IntOp.cmpi .sle (IntOp.absi (relW i k)) 128#32 = if i.val ≤ k.val ∧ k.val ≤ i.val + 256 then 1#1 else 0#1 := by
  rw [relW_eq, band_all ⟨k.val + 127 - i.val, by omega⟩]
  refine if_congr ?_ rfl rfl
  show 127 ≤ k.val + 127 - i.val ∧ k.val + 127 - i.val ≤ 383 ↔ _
  omega

/-- The position of key `k` of the band of block `n`. -/
def posW (n : Fin 32) (k : Fin 384) : BitVec 32 :=
  IntOp.addi (IntOp.muli (IntOp.subi (BitVec.ofNat 32 n.val) 1#32) 128#32) (BitVec.ofNat 32 k.val)

theorem posW_toInt (n : Fin 32) (k : Fin 384) : (posW n k).toInt = 128 * (n.val : ℤ) + k.val - 128 := by
  unfold posW IntOp.addi IntOp.muli IntOp.subi
  word_omega

/-- A key's position is in the sequence. -/
theorem pos_apply (n : Fin 32) (k : Fin 384) :
    IntOp.andi (IntOp.cmpi .sge (posW n k) 0#32) (IntOp.cmpi .slt (posW n k) 4096#32)
      = if 128 ≤ 128 * n.val + k.val ∧ 128 * n.val + k.val < 4224 then 1#1 else 0#1 := by
  have hp := posW_toInt n k
  have h1 := IntOp.cmpi_sge (x := posW n k) (y := 0#32)
  have h2 := IntOp.cmpi_slt (x := posW n k) (y := 4096#32)
  rw [hp, show (0#32 : BitVec 32).toInt = 0 from by decide] at h1
  rw [hp, show (4096#32 : BitVec 32).toInt = 4096 from by decide] at h2
  by_cases h : 128 ≤ 128 * n.val + k.val ∧ 128 * n.val + k.val < 4224
  · rw [if_pos h, IntOp.andi_eq_one, h1, h2]
    omega
  · rw [if_neg h]
    refine (BitVec.eq_zero_or_eq_one _).resolve_right fun hh => h ?_
    rw [IntOp.andi_eq_one, h1, h2] at hh
    omega

end Swa

end

end
-- ==== Proof.Tables.lean ====
module

public import proofs.«01_k».proof.Proof.BlockRows
public import proofs.«01_k».proof.Proof.Words
public import Idealize.ShloMosaic.Lib.StableHlo.ReadAt

/-! The two tables that the kernel's host code prepares, read at an index: the biases of a query and a key, packed by
pairs of heads, and the sinks. -/

@[expose] public section

set_option maxRecDepth 16384

noncomputable section

namespace Swa

open Cert.KernelIdeal Cert.KernelIdeal.Gen Idealize.ShloMosaic Idealize.ShloMosaic.Tactic Idealize.SL.Sem Idealize.ShloMosaic.TcCoe

variable (m : (ℓ : Loc nD τ sig) → Buf (Elt Ideal) ℓ)

/-- The bias table and the sinks as launched. -/
abbrev biasArr (c : Dev nD) : Vec Ideal S32x8 .f32 := m ((c : Thread nD τ).loc main_arg2)
abbrev sinkArr (c : Dev nD) : Vec Ideal S8 .f32 := m ((c : Thread nD τ).loc main_arg1)

/-- What the host code holds before its last stretch. -/
def front (c : Dev nD) : Valuation τ sig (Elt Ideal) := StableHlo.after (List.flatten [hostOps0, hostOps0_1, hostOps0_2, hostOps0_3]) (fun b => m (c, b))

theorem after_append {l₁ l₂ : List (HloOp τ sig (Elt Ideal))} (W : Valuation τ sig (Elt Ideal)) :
    StableHlo.after (l₁ ++ l₂) W = StableHlo.after l₂ (StableHlo.after l₁ W) := by
  induction l₁ generalizing W with
  | nil => rfl
  | cons op l ih => exact ih _

theorem V_front (c : Dev nD) (b : Ref sig .tc) : V m c b = StableHlo.after hostOps0_4 (front m c) (Proc.devRef .tc b) := by
  unfold V front
  rw [← after_append]
  rfl

theorem uitofp_zero : (FloatOps.uitofp .f32 (0#1) : Ideal .f32) = (0 : EReal) := by
  show (((0#1 : BitVec 1).toNat : ℝ) : EReal) = 0
  simp

theorem uitofp_one : (FloatOps.uitofp .f32 (1#1) : Ideal .f32) = (1 : EReal) := by
  show (((1#1 : BitVec 1).toNat : ℝ) : EReal) = 1
  simp

/-- The biases with the band's edge, by head, query and key. -/
theorem biasHead_at (c : Dev nD) (h : Fin 8) (i : Fin 128) (k : Fin 384) :
    front m c (Proc.devRef .tc main_v62) (ix3 h i k)
      = if i.val ≤ k.val ∧ k.val ≤ i.val + 256 then biasArr m c (ix2 (bk i k) h) else (⊥ : EReal) := by
  unfold front
  after_reads_at
  change Scalar.select (IntOp.cmpi .sle (IntOp.absi (relW i k)) 128#32)
    (∑ x : Fin 32, (biasArr m c (ix2 x h) : EReal)
      * ((FloatOps.uitofp .f32 (IntOp.cmpi .eq (bkW (relW i k)) (BitVec.ofNat 32 x.val)) : Ideal .f32) : EReal)) (Ideal.ofBits .f32 0xFF800000#32) = _
  rw [ofBits_bot, band_apply, bkW_eq]
  split
  · refine (if_pos rfl).trans ((Finset.sum_eq_single (bk i k) ?_ ?_).trans ?_)
    · intro b _ hb
      rw [small_eq, if_neg (fun h => hb (Fin.ext (congrArg Fin.val h).symm))]
      rw [uitofp_zero]
      exact mul_zero _
    · exact fun h => absurd (Finset.mem_univ _) h
    · rw [small_eq, if_pos rfl, uitofp_one]
      exact mul_one _
  · exact if_neg (by decide)

theorem ix3_eq {a b d : ℕ} {i i' : Fin a} {j j' : Fin b} {k k' : Fin d} (hi : i.val = i'.val) (hj : j.val = j'.val) (hk : k.val = k'.val) :
    ix3 i j k = ix3 i' j' k' := by
  rw [Fin.ext hi, Fin.ext hj, Fin.ext hk]

set_option maxHeartbeats 4000000 in
/-- The packed biases: column `256c + 128g + i` is head `4g + c`'s query `i`. -/
theorem biasTable_at (c : Dev nD) (p : Fin 4) (g : Fin 2) (i : Fin 128) (k : Fin 384) (u : Fin 1024) (hu : u.val = 256 * p.val + 128 * g.val + i.val) :
    (V m c main_v80 : Vec Ideal S384x1024 .f32) (ix2 k u) = front m c (Proc.devRef .tc main_v62) (ix3 ⟨4 * g.val + p.val, by omega⟩ i k) := by
  rw [V_front]
  generalize front m c = W
  after_reads_at
  have hi := i.isLt
  have hc := p.isLt
  have hg := g.isLt
  repeat' split
  all_goals
    after_reads_at
    refine congrArg (W (Proc.devRef .tc main_v62)) (ix3_eq ?_ ?_ rfl) <;> dsimp only <;> omega

theorem front_arg1 (c : Dev nD) : front m c (Proc.devRef .tc main_arg1) = m ((c : Thread nD τ).loc main_arg1) := by
  unfold front
  after_reads_simp

set_option maxHeartbeats 4000000 in
/-- The packed sinks. -/
theorem sinkTable_at (c : Dev nD) (p : Fin 4) (g : Fin 2) (i : Fin 128) (u : Fin 1024) (hu : u.val = 256 * p.val + 128 * g.val + i.val) :
    (V m c main_v113 : Vec Ideal S8x1024 .f32) (ix2 0 u) = sinkArr m c (ix1 ⟨4 * g.val + p.val, by omega⟩) := by
  rw [V_front]; refine Eq.trans ?_ (congrFun (front_arg1 m c) _)
  generalize front m c = W
  after_reads_at
  have hi := i.isLt
  have hc := p.isLt
  have hg := g.isLt
  repeat' split
  all_goals
    after_reads_at
    refine congrArg (W (Proc.devRef .tc main_arg1)) (congrArg ix1 (Fin.ext ?_))
    first | omega | (dsimp only; omega) | (simp only [Fin.isValue, Fin.val_zero, Fin.val_one, Fin.val_ofNat]; omega) | (simp; omega)

end Swa

end

end
-- ==== Proof.Arrays.lean ====
module

public import proofs.«01_k».proof.Proof.BlockRows

/-! What the windows of a grid point show of the argument: its queries, and the keys and values of its own rows and of the
128 rows before and after them. -/

@[expose] public section

set_option maxRecDepth 16384

noncomputable section

namespace Swa

open Cert.KernelIdeal Cert.KernelIdeal.Gen Idealize.ShloMosaic Idealize.ShloMosaic.Tactic Idealize.SL.Sem Idealize.ShloMosaic.TcCoe

variable (m : (ℓ : Loc nD τ sig) → Buf (Elt Ideal) ℓ)

/-- The packed layer input as launched. -/
abbrev hArr (c : Dev nD) : Vec Ideal S32768x3840 .bf16 := m ((c : Thread nD τ).loc main_arg0)

theorem N_eq : cfg0.N = 16 := by decide

theorem idx1 : ∀ t : Fin grid0.N, win0_1.index t 0 = (if t.val % 2 = 0 then 16 * t.val else 16 * t.val - 1) ∧ win0_1.index t 1 = 28 := by decide +kernel
theorem idx2 : ∀ t : Fin grid0.N, win0_2.index t 0 = t.val ∧ win0_2.index t 1 = 28 := by decide +kernel
theorem idx3 : ∀ t : Fin grid0.N, win0_3.index t 0 = (if t.val % 2 = 0 then 16 * t.val + 16 else 16 * t.val + 15) ∧ win0_3.index t 1 = 28 := by decide +kernel
theorem idx4 : ∀ t : Fin grid0.N, win0_4.index t 0 = (if t.val % 2 = 0 then 16 * t.val else 16 * t.val - 1) ∧ win0_4.index t 1 = 29 := by decide +kernel
theorem idx5 : ∀ t : Fin grid0.N, win0_5.index t 0 = t.val ∧ win0_5.index t 1 = 29 := by decide +kernel
theorem idx6 : ∀ t : Fin grid0.N, win0_6.index t 0 = (if t.val % 2 = 0 then 16 * t.val + 16 else 16 * t.val + 15) ∧ win0_6.index t 1 = 29 := by decide +kernel
theorem idx0 : ∀ t : Fin grid0.N, win0_0.index t 0 = t.val ∧ win0_0.index t 1 = 6 := by decide +kernel
theorem idx7 : ∀ t : Fin grid0.N, win0_7.index t 0 = 0 ∧ win0_7.index t 1 = 0 := by decide +kernel
theorem idx8 : ∀ t : Fin grid0.N, win0_8.index t 0 = 0 ∧ win0_8.index t 1 = 0 := by decide +kernel
theorem idx9 : ∀ t : Fin grid0.N, win0_9.index t 0 = t.val ∧ win0_9.index t 1 = 0 := by decide +kernel
theorem coord1 : ∀ t : Fin grid0.N, ((grid0.coords t) 1).val = t.val % 2 := by decide +kernel

theorem iblk1_at (c : Dev nD) (t : Fin cfg0.N) (i : Fin 128) (d : Fin 128) (q : S32768x3840.Idx) (h0 : (q 0).val = win0_1.index t 0 * 128 + i.val)
    (h1 : (q 1).val = win0_1.index t 1 * 128 + d.val) : (iblk m c 1 t : Vec Ideal S128x128 .bf16) (ix2 i d) = (hArr m c) q := by
  unfold iblk
  rw [View.read_apply, cast_eq]
  exact (congrFun (V_main_arg0 m c) _).trans (congrArg (hArr m c) (funext fun a => by
    fin_cases a
    · exact Fin.ext (Eq.trans (by show _ + 1 * _ = _; rw [one_mul]; rfl) h0.symm)
    · exact Fin.ext (Eq.trans (by show _ + 1 * _ = _; rw [one_mul]; rfl) h1.symm)))

theorem iblk2_at (c : Dev nD) (t : Fin cfg0.N) (i : Fin 2048) (d : Fin 128) (q : S32768x3840.Idx) (h0 : (q 0).val = win0_2.index t 0 * 2048 + i.val)
    (h1 : (q 1).val = win0_2.index t 1 * 128 + d.val) : (iblk m c 2 t : Vec Ideal S2048x128 .bf16) (ix2 i d) = (hArr m c) q := by
  unfold iblk
  rw [View.read_apply, cast_eq]
  exact (congrFun (V_main_arg0 m c) _).trans (congrArg (hArr m c) (funext fun a => by
    fin_cases a
    · exact Fin.ext (Eq.trans (by show _ + 1 * _ = _; rw [one_mul]; rfl) h0.symm)
    · exact Fin.ext (Eq.trans (by show _ + 1 * _ = _; rw [one_mul]; rfl) h1.symm)))

theorem iblk3_at (c : Dev nD) (t : Fin cfg0.N) (i : Fin 128) (d : Fin 128) (q : S32768x3840.Idx) (h0 : (q 0).val = win0_3.index t 0 * 128 + i.val)
    (h1 : (q 1).val = win0_3.index t 1 * 128 + d.val) : (iblk m c 3 t : Vec Ideal S128x128 .bf16) (ix2 i d) = (hArr m c) q := by
  unfold iblk
  rw [View.read_apply, cast_eq]
  exact (congrFun (V_main_arg0 m c) _).trans (congrArg (hArr m c) (funext fun a => by
    fin_cases a
    · exact Fin.ext (Eq.trans (by show _ + 1 * _ = _; rw [one_mul]; rfl) h0.symm)
    · exact Fin.ext (Eq.trans (by show _ + 1 * _ = _; rw [one_mul]; rfl) h1.symm)))

theorem iblk4_at (c : Dev nD) (t : Fin cfg0.N) (i : Fin 128) (d : Fin 128) (q : S32768x3840.Idx) (h0 : (q 0).val = win0_4.index t 0 * 128 + i.val)
    (h1 : (q 1).val = win0_4.index t 1 * 128 + d.val) : (iblk m c 4 t : Vec Ideal S128x128 .bf16) (ix2 i d) = (hArr m c) q := by
  unfold iblk
  rw [View.read_apply, cast_eq]
  exact (congrFun (V_main_arg0 m c) _).trans (congrArg (hArr m c) (funext fun a => by
    fin_cases a
    · exact Fin.ext (Eq.trans (by show _ + 1 * _ = _; rw [one_mul]; rfl) h0.symm)
    · exact Fin.ext (Eq.trans (by show _ + 1 * _ = _; rw [one_mul]; rfl) h1.symm)))

theorem iblk5_at (c : Dev nD) (t : Fin cfg0.N) (i : Fin 2048) (d : Fin 128) (q : S32768x3840.Idx) (h0 : (q 0).val = win0_5.index t 0 * 2048 + i.val)
    (h1 : (q 1).val = win0_5.index t 1 * 128 + d.val) : (iblk m c 5 t : Vec Ideal S2048x128 .bf16) (ix2 i d) = (hArr m c) q := by
  unfold iblk
  rw [View.read_apply, cast_eq]
  exact (congrFun (V_main_arg0 m c) _).trans (congrArg (hArr m c) (funext fun a => by
    fin_cases a
    · exact Fin.ext (Eq.trans (by show _ + 1 * _ = _; rw [one_mul]; rfl) h0.symm)
    · exact Fin.ext (Eq.trans (by show _ + 1 * _ = _; rw [one_mul]; rfl) h1.symm)))

theorem iblk6_at (c : Dev nD) (t : Fin cfg0.N) (i : Fin 128) (d : Fin 128) (q : S32768x3840.Idx) (h0 : (q 0).val = win0_6.index t 0 * 128 + i.val)
    (h1 : (q 1).val = win0_6.index t 1 * 128 + d.val) : (iblk m c 6 t : Vec Ideal S128x128 .bf16) (ix2 i d) = (hArr m c) q := by
  unfold iblk
  rw [View.read_apply, cast_eq]
  exact (congrFun (V_main_arg0 m c) _).trans (congrArg (hArr m c) (funext fun a => by
    fin_cases a
    · exact Fin.ext (Eq.trans (by show _ + 1 * _ = _; rw [one_mul]; rfl) h0.symm)
    · exact Fin.ext (Eq.trans (by show _ + 1 * _ = _; rw [one_mul]; rfl) h1.symm)))

theorem iblk7_at (c : Dev nD) (t : Fin cfg0.N) (i : Fin 384) (d : Fin 1024) (q : S384x1024.Idx) (h0 : (q 0).val = win0_7.index t 0 * 384 + i.val)
    (h1 : (q 1).val = win0_7.index t 1 * 1024 + d.val) : (iblk m c 7 t : Vec Ideal S384x1024 .f32) (ix2 i d) = (V m c main_v80) q := by
  unfold iblk
  rw [View.read_apply, cast_eq]
  exact (congrArg (V m c main_v80) (funext fun a => by
    fin_cases a
    · exact Fin.ext (Eq.trans (by show _ + 1 * _ = _; rw [one_mul]; rfl) h0.symm)
    · exact Fin.ext (Eq.trans (by show _ + 1 * _ = _; rw [one_mul]; rfl) h1.symm)))

theorem iblk8_at (c : Dev nD) (t : Fin cfg0.N) (i : Fin 8) (d : Fin 1024) (q : S8x1024.Idx) (h0 : (q 0).val = win0_8.index t 0 * 8 + i.val)
    (h1 : (q 1).val = win0_8.index t 1 * 1024 + d.val) : (iblk m c 8 t : Vec Ideal S8x1024 .f32) (ix2 i d) = (V m c main_v113) q := by
  unfold iblk
  rw [View.read_apply, cast_eq]
  exact (congrArg (V m c main_v113) (funext fun a => by
    fin_cases a
    · exact Fin.ext (Eq.trans (by show _ + 1 * _ = _; rw [one_mul]; rfl) h0.symm)
    · exact Fin.ext (Eq.trans (by show _ + 1 * _ = _; rw [one_mul]; rfl) h1.symm)))

theorem x0_at (c : Dev nD) (t : Fin cfg0.N) (i : Fin 2048) (d : Fin 512) (q : S32768x3840.Idx) (h0 : (q 0).val = win0_0.index t 0 * 2048 + i.val)
    (h1 : (q 1).val = win0_0.index t 1 * 512 + d.val) : (X0_0 m c t : Vec Ideal S2048x512 .bf16) (ix2 i d) = hArr m c q := by
  unfold X0_0 Pipeline.Window.fill
  rw [dif_pos (moved0_0 t _)]
  unfold iblk
  rw [View.read_apply, cast_eq]
  refine (congrFun (V_main_arg0 m c) _).trans (congrArg (hArr m c) ?_)
  funext a
  fin_cases a
  · refine Fin.ext (Eq.trans ?_ h0.symm)
    show _ + 1 * _ = _
    rw [one_mul]
    rfl
  · refine Fin.ext (Eq.trans ?_ h1.symm)
    show _ + 1 * _ = _
    rw [one_mul]
    rfl

/-- The keys that a grid point sees, row `p` of its 2304. -/
theorem keys_at (c : Dev nD) (t : Fin cfg0.N) (p : Fin 2304) (d : Fin 128) (q : S32768x3840.Idx)
    (hv : 128 ≤ 2048 * (t.val % 2) + p.val ∧ 2048 * (t.val % 2) + p.val < 4224)
    (h0 : (q 0).val + 128 = 2048 * t.val + p.val) (h1 : (q 1).val = 3584 + d.val) :
    k0_pay2 (F := Ideal) (iblk m c 1 t) (iblk m c 2 t) (iblk m c 3 t) (ix2 p d) = hArr m c q := by
  have e1 := idx1 t
  have e2 := idx2 t
  have e3 := idx3 t
  have hp := p.isLt
  pointwise [k0_pay2]
  split
  · refine iblk1_at m c t _ _ q ?_ (by rw [e1.2]; omega)
    rw [e1.1]
    split <;> dsimp only <;> omega
  split
  · exact iblk2_at m c t _ _ q (by rw [e2.1]; dsimp only; omega) (by rw [e2.2]; omega)
  · refine iblk3_at m c t _ _ q ?_ (by rw [e3.2]; omega)
    rw [e3.1]
    split <;> dsimp only <;> omega

/-- The values that it sees, turned. -/
theorem vals_at (c : Dev nD) (t : Fin cfg0.N) (p : Fin 2304) (d : Fin 128) (q : S32768x3840.Idx)
    (hv : 128 ≤ 2048 * (t.val % 2) + p.val ∧ 2048 * (t.val % 2) + p.val < 4224)
    (h0 : (q 0).val + 128 = 2048 * t.val + p.val) (h1 : (q 1).val = 3712 + d.val) :
    k0_pay3 (F := Ideal) (iblk m c 4 t) (iblk m c 5 t) (iblk m c 6 t) (ix2 d p) = hArr m c q := by
  have e1 := idx4 t
  have e2 := idx5 t
  have e3 := idx6 t
  have hp := p.isLt
  pointwise [k0_pay3]
  split
  · refine iblk4_at m c t _ _ q ?_ (by rw [e1.2]; omega)
    rw [e1.1]
    split <;> dsimp only <;> omega
  split
  · exact iblk5_at m c t _ _ q (by rw [e2.1]; dsimp only; omega) (by rw [e2.2]; omega)
  · refine iblk6_at m c t _ _ q ?_ (by rw [e3.2]; omega)
    rw [e3.1]
    split <;> dsimp only <;> omega

end Swa

end

end
-- ==== Proof.Ref.lean ====
module

public import proofs.«01_k».proof.Proof.Softmax
public import proofs.«01_k».proof.Proof.Gen.ReferenceIdeal.Read
public import Idealize.ShloMosaic.Lib.Pointwise
public import Idealize.ShloMosaic.Lib.ValueIdxRank6

/-! The reference at an index: which elements of `h`, of the biases and of the sinks an element of its result is made of. -/

@[expose] public section

set_option maxRecDepth 16384

noncomputable section

namespace Swa

open Cert.ReferenceIdeal Cert.ReferenceIdeal.Gen Cert.ReferenceIdeal.Read Idealize.ShloMosaic

variable (H : Vec Ideal S32768x3840 .bf16)

/-- `h` at row `s` of sequence `b`. -/
theorem v1_at (b : Fin 8) (s : Fin 4096) (j : Fin 3840) :
    val_main_v1 (F := Ideal) H (ix3 b s j) = H (ix2 ⟨4096 * b.val + s.val, by omega⟩ j) := by
  rw [val_main_v1_apply, val_main_v0_apply]
  refine congrArg H (funext fun a => ?_)
  match a with
  | ⟨0, _⟩ => exact Fin.ext (show ((b.val * 4096 + s.val) * 3840 + j.val) / 3840 = 4096 * b.val + s.val by omega)
  | ⟨1, _⟩ => exact Fin.ext (show ((b.val * 4096 + s.val) * 3840 + j.val) % 3840 = j.val by omega)

/-- A row's queries: pair `c`, key head `g`, lane `d`. -/
theorem v3_at (b : Fin 8) (s : Fin 4096) (c : Fin 4) (g : Fin 2) (d : Fin 64) :
    val_main_v3 (F := Ideal) H (ix5 b s c g d)
      = H (ix2 ⟨4096 * b.val + s.val, by omega⟩ ⟨3072 + (128 * c.val + 64 * g.val + d.val), by omega⟩) := by
  have e : idx_main_v2 (idx_main_v3 (ix5 b s c g d)) = ix3 b s ⟨3072 + (128 * c.val + 64 * g.val + d.val), by omega⟩ := by
    funext a
    match a with
    | ⟨0, _⟩ => exact Fin.ext (show ((((b.val * 4096 + s.val) * 4 + c.val) * 2 + g.val) * 64 + d.val) / 2097152 = b.val by omega)
    | ⟨1, _⟩ => exact Fin.ext (show ((((b.val * 4096 + s.val) * 4 + c.val) * 2 + g.val) * 64 + d.val) / 512 % 4096 = s.val by omega)
    | ⟨2, _⟩ => exact Fin.ext (show 3072 + ((((b.val * 4096 + s.val) * 4 + c.val) * 2 + g.val) * 64 + d.val) % 512 = 3072 + (128 * c.val + 64 * g.val + d.val) by omega)
  rw [val_main_v3_apply, val_main_v2_apply, e, v1_at]

/-- A row's queries by head. -/
theorem v5_at (b : Fin 8) (s : Fin 4096) (g : Fin 2) (c : Fin 4) (d : Fin 64) :
    val_main_v5 (F := Ideal) H (ix4 b s ⟨4 * g.val + c.val, by omega⟩ d)
      = H (ix2 ⟨4096 * b.val + s.val, by omega⟩ ⟨3072 + (128 * c.val + 64 * g.val + d.val), by omega⟩) := by
  have e : idx_main_v4 (idx_main_v5 (ix4 b s ⟨4 * g.val + c.val, by omega⟩ d)) = ix5 b s c g d := by
    funext a
    match a with
    | ⟨0, _⟩ => exact Fin.ext (show (((b.val * 4096 + s.val) * 8 + (4 * g.val + c.val)) * 64 + d.val) / 2097152 = b.val by omega)
    | ⟨1, _⟩ => exact Fin.ext (show (((b.val * 4096 + s.val) * 8 + (4 * g.val + c.val)) * 64 + d.val) / 512 % 4096 = s.val by omega)
    | ⟨2, _⟩ => exact Fin.ext (show (((b.val * 4096 + s.val) * 8 + (4 * g.val + c.val)) * 64 + d.val) / 64 % 4 = c.val by omega)
    | ⟨3, _⟩ => exact Fin.ext (show (((b.val * 4096 + s.val) * 8 + (4 * g.val + c.val)) * 64 + d.val) / 256 % 2 = g.val by omega)
    | ⟨4, _⟩ => exact Fin.ext (show (((b.val * 4096 + s.val) * 8 + (4 * g.val + c.val)) * 64 + d.val) % 64 = d.val by omega)
  rw [val_main_v5_apply, val_main_v4_apply, e, v3_at]

/-- The queries, by block. -/
theorem v10_at (b : Fin 8) (n : Fin 32) (i : Fin 128) (g : Fin 2) (c : Fin 4) (d : Fin 64) :
    val_main_v10 (F := Ideal) H (ix6 b n i g c d)
      = H (ix2 ⟨4096 * b.val + (128 * n.val + i.val), by omega⟩ ⟨3072 + (128 * c.val + 64 * g.val + d.val), by omega⟩) := by
  unfold val_main_v10
  refine (shapeCast_apply _ _ _ (ix4 b ⟨128 * n.val + i.val, by omega⟩ ⟨4 * g.val + c.val, by omega⟩ d) ?_).trans (v5_at H b _ g c d)
  rw [Shape.rowMajor_val_four, Shape.rowMajor_val_six]
  show ((b.val * 4096 + (128 * n.val + i.val)) * 8 + (4 * g.val + c.val)) * 64 + d.val
    = ((((b.val * 32 + n.val) * 128 + i.val) * 2 + g.val) * 4 + c.val) * 64 + d.val
  omega

theorem v7_at (b : Fin 8) (s : Fin 4096) (g : Fin 2) (d : Fin 64) :
    val_main_v7 (F := Ideal) H (ix4 b s g d)
      = H (ix2 ⟨4096 * b.val + s.val, by omega⟩ ⟨3584 + (64 * g.val + d.val), by omega⟩) := by
  have e : idx_main_v6 (idx_main_v7 (ix4 b s g d)) = ix3 b s ⟨3584 + (64 * g.val + d.val), by omega⟩ := by
    funext a
    match a with
    | ⟨0, _⟩ => exact Fin.ext (show (((b.val * 4096 + s.val) * 2 + g.val) * 64 + d.val) / 524288 = b.val by omega)
    | ⟨1, _⟩ => exact Fin.ext (show (((b.val * 4096 + s.val) * 2 + g.val) * 64 + d.val) / 128 % 4096 = s.val by omega)
    | ⟨2, _⟩ => exact Fin.ext (show 3584 + (((b.val * 4096 + s.val) * 2 + g.val) * 64 + d.val) % 128 = 3584 + (64 * g.val + d.val) by omega)
  rw [val_main_v7_apply, val_main_v6_apply, e, v1_at]

theorem v9_at (b : Fin 8) (s : Fin 4096) (g : Fin 2) (d : Fin 64) :
    val_main_v9 (F := Ideal) H (ix4 b s g d)
      = H (ix2 ⟨4096 * b.val + s.val, by omega⟩ ⟨3712 + (64 * g.val + d.val), by omega⟩) := by
  have e : idx_main_v8 (idx_main_v9 (ix4 b s g d)) = ix3 b s ⟨3712 + (64 * g.val + d.val), by omega⟩ := by
    funext a
    match a with
    | ⟨0, _⟩ => exact Fin.ext (show (((b.val * 4096 + s.val) * 2 + g.val) * 64 + d.val) / 524288 = b.val by omega)
    | ⟨1, _⟩ => exact Fin.ext (show (((b.val * 4096 + s.val) * 2 + g.val) * 64 + d.val) / 128 % 4096 = s.val by omega)
    | ⟨2, _⟩ => exact Fin.ext (show 3712 + (((b.val * 4096 + s.val) * 2 + g.val) * 64 + d.val) % 128 = 3712 + (64 * g.val + d.val) by omega)
  rw [val_main_v9_apply, val_main_v8_apply, e, v1_at]

/-- Column `col` of `h` at key `k` of the band of block `n` of sequence `b`: nought outside the sequence. -/
def bandAt (b : Fin 8) (n : Fin 32) (k : Fin 384) (col : Fin 3840) : EReal :=
  if h : 128 ≤ 128 * n.val + k.val ∧ 128 * n.val + k.val < 4224 then
    H (ix2 ⟨4096 * b.val + (128 * n.val + k.val - 128), by omega⟩ col)
  else 0

theorem pad0 (h : 0 < S_.numel) : val_main_call0_v0 (F := Ideal) (Shape.Idx.first h) = 0 := by
  rw [val_main_call0_v0_apply]
  show (((0#32 : BitVec 32).toInt : ℝ) : EReal) = 0
  rw [show (0#32 : BitVec 32).toInt = 0 from by decide]; simp

theorem pad1 (h : 0 < S_.numel) : val_main_call1_v0 (F := Ideal) (Shape.Idx.first h) = 0 := pad0 h

/-- The padded keys at row `p`. -/
theorem v11_at (b : Fin 8) (p : Fin 4352) (g : Fin 2) (d : Fin 64) :
    val_main_v11 (F := Ideal) H (ix4 b p g d)
      = if h : 128 ≤ p.val ∧ p.val < 4224 then
          H (ix2 ⟨4096 * b.val + (p.val - 128), by omega⟩ ⟨3584 + (64 * g.val + d.val), by omega⟩) else 0 := by
  unfold val_main_v11
  by_cases h : 128 ≤ p.val ∧ p.val < 4224
  · rw [dif_pos h, pad_apply, dif_pos]
    · refine Eq.trans (congrArg (val_main_v7 (F := Ideal) H) (funext fun a => ?_)) (v7_at H b ⟨p.val - 128, by omega⟩ g d)
      match a with
      | ⟨0, _⟩ => exact Fin.ext (show (b.val - 0) / (0 + 1) = b.val by omega)
      | ⟨1, _⟩ => exact Fin.ext (show (p.val - 128) / (0 + 1) = p.val - 128 by omega)
      | ⟨2, _⟩ => exact Fin.ext (show (g.val - 0) / (0 + 1) = g.val by omega)
      | ⟨3, _⟩ => exact Fin.ext (show (d.val - 0) / (0 + 1) = d.val by omega)
    · intro a
      match a with
      | ⟨0, _⟩ => exact (show 0 ≤ b.val ∧ (b.val - 0) % (0 + 1) = 0 ∧ (b.val - 0) / (0 + 1) < 8 by omega)
      | ⟨1, _⟩ => exact (show 128 ≤ p.val ∧ (p.val - 128) % (0 + 1) = 0 ∧ (p.val - 128) / (0 + 1) < 4096 by omega)
      | ⟨2, _⟩ => exact (show 0 ≤ g.val ∧ (g.val - 0) % (0 + 1) = 0 ∧ (g.val - 0) / (0 + 1) < 2 by omega)
      | ⟨3, _⟩ => exact (show 0 ≤ d.val ∧ (d.val - 0) % (0 + 1) = 0 ∧ (d.val - 0) / (0 + 1) < 64 by omega)
  · rw [dif_neg h, pad_apply, dif_neg, pad0]
    intro hh
    have h1 : 128 ≤ p.val ∧ (p.val - 128) % (0 + 1) = 0 ∧ (p.val - 128) / (0 + 1) < 4096 := hh 1
    omega

/-- The padded values at row `p`. -/
theorem v17_at (b : Fin 8) (p : Fin 4352) (g : Fin 2) (d : Fin 64) :
    val_main_v17 (F := Ideal) H (ix4 b p g d)
      = if h : 128 ≤ p.val ∧ p.val < 4224 then
          H (ix2 ⟨4096 * b.val + (p.val - 128), by omega⟩ ⟨3712 + (64 * g.val + d.val), by omega⟩) else 0 := by
  unfold val_main_v17
  by_cases h : 128 ≤ p.val ∧ p.val < 4224
  · rw [dif_pos h, pad_apply, dif_pos]
    · refine Eq.trans (congrArg (val_main_v9 (F := Ideal) H) (funext fun a => ?_)) (v9_at H b ⟨p.val - 128, by omega⟩ g d)
      match a with
      | ⟨0, _⟩ => exact Fin.ext (show (b.val - 0) / (0 + 1) = b.val by omega)
      | ⟨1, _⟩ => exact Fin.ext (show (p.val - 128) / (0 + 1) = p.val - 128 by omega)
      | ⟨2, _⟩ => exact Fin.ext (show (g.val - 0) / (0 + 1) = g.val by omega)
      | ⟨3, _⟩ => exact Fin.ext (show (d.val - 0) / (0 + 1) = d.val by omega)
    · intro a
      match a with
      | ⟨0, _⟩ => exact (show 0 ≤ b.val ∧ (b.val - 0) % (0 + 1) = 0 ∧ (b.val - 0) / (0 + 1) < 8 by omega)
      | ⟨1, _⟩ => exact (show 128 ≤ p.val ∧ (p.val - 128) % (0 + 1) = 0 ∧ (p.val - 128) / (0 + 1) < 4096 by omega)
      | ⟨2, _⟩ => exact (show 0 ≤ g.val ∧ (g.val - 0) % (0 + 1) = 0 ∧ (g.val - 0) / (0 + 1) < 2 by omega)
      | ⟨3, _⟩ => exact (show 0 ≤ d.val ∧ (d.val - 0) % (0 + 1) = 0 ∧ (d.val - 0) / (0 + 1) < 64 by omega)
  · rw [dif_neg h, pad_apply, dif_neg, pad1]
    intro hh
    have h1 : 128 ≤ p.val ∧ (p.val - 128) % (0 + 1) = 0 ∧ (p.val - 128) / (0 + 1) < 4096 := hh 1
    omega

/-- The padded keys, by block. -/
theorem v12_at (b : Fin 8) (N : Fin 34) (r : Fin 128) (g : Fin 2) (d : Fin 64) :
    val_main_v12 (F := Ideal) H (ix5 b N r g d) = val_main_v11 (F := Ideal) H (ix4 b ⟨128 * N.val + r.val, by omega⟩ g d) := by
  rw [val_main_v12_apply]
  refine congrArg _ (funext fun a => ?_)
  match a with
  | ⟨0, _⟩ => exact Fin.ext (show ((((b.val * 34 + N.val) * 128 + r.val) * 2 + g.val) * 64 + d.val) / 557056 = b.val by omega)
  | ⟨1, _⟩ => exact Fin.ext (show ((((b.val * 34 + N.val) * 128 + r.val) * 2 + g.val) * 64 + d.val) / 128 % 4352 = 128 * N.val + r.val by omega)
  | ⟨2, _⟩ => exact Fin.ext (show ((((b.val * 34 + N.val) * 128 + r.val) * 2 + g.val) * 64 + d.val) / 64 % 2 = g.val by omega)
  | ⟨3, _⟩ => exact Fin.ext (show ((((b.val * 34 + N.val) * 128 + r.val) * 2 + g.val) * 64 + d.val) % 64 = d.val by omega)

/-- The padded values, by block. -/
theorem v18_at (b : Fin 8) (N : Fin 34) (r : Fin 128) (g : Fin 2) (d : Fin 64) :
    val_main_v18 (F := Ideal) H (ix5 b N r g d) = val_main_v17 (F := Ideal) H (ix4 b ⟨128 * N.val + r.val, by omega⟩ g d) := by
  rw [val_main_v18_apply]
  refine congrArg _ (funext fun a => ?_)
  match a with
  | ⟨0, _⟩ => exact Fin.ext (show ((((b.val * 34 + N.val) * 128 + r.val) * 2 + g.val) * 64 + d.val) / 557056 = b.val by omega)
  | ⟨1, _⟩ => exact Fin.ext (show ((((b.val * 34 + N.val) * 128 + r.val) * 2 + g.val) * 64 + d.val) / 128 % 4352 = 128 * N.val + r.val by omega)
  | ⟨2, _⟩ => exact Fin.ext (show ((((b.val * 34 + N.val) * 128 + r.val) * 2 + g.val) * 64 + d.val) / 64 % 2 = g.val by omega)
  | ⟨3, _⟩ => exact Fin.ext (show ((((b.val * 34 + N.val) * 128 + r.val) * 2 + g.val) * 64 + d.val) % 64 = d.val by omega)

/-- The keys of a block's band. -/
theorem v16_at (b : Fin 8) (n : Fin 32) (k : Fin 384) (g : Fin 2) (d : Fin 64) :
    val_main_v16 (F := Ideal) H (ix5 b n k g d) = bandAt H b n k ⟨3584 + (64 * g.val + d.val), by omega⟩ := by
  have e : val_main_v16 (F := Ideal) H (ix5 b n k g d) = val_main_v11 (F := Ideal) H (ix4 b ⟨128 * n.val + k.val, by omega⟩ g d) := by
    unfold val_main_v16
    pointwise
    split
    · rename_i h
      rw [val_main_v13_apply]
      refine Eq.trans ?_ ((v12_at H b ⟨n.val, by omega⟩ ⟨k.val, h⟩ g d).trans ?_)
      · refine congrArg _ (funext fun a => ?_)
        match a with
        | ⟨0, _⟩ => rfl
        | ⟨1, _⟩ => rfl
        | ⟨2, _⟩ => rfl
        | ⟨3, _⟩ => rfl
        | ⟨4, _⟩ => rfl
      · rfl
    · split
      · rename_i h1 h2
        rw [val_main_v14_apply]
        refine Eq.trans ?_ ((v12_at H b ⟨n.val + 1, by omega⟩ ⟨k.val - 128, by omega⟩ g d).trans ?_)
        · refine congrArg _ (funext fun a => ?_)
          match a with
          | ⟨0, _⟩ => rfl
          | ⟨1, _⟩ => exact Fin.ext (show 1 + n.val = n.val + 1 by omega)
          | ⟨2, _⟩ => rfl
          | ⟨3, _⟩ => rfl
          | ⟨4, _⟩ => rfl
        · refine congrArg (fun p => val_main_v11 (F := Ideal) H (ix4 b p g d)) (Fin.ext ?_)
          show 128 * (n.val + 1) + (k.val - 128) = 128 * n.val + k.val
          omega
      · rename_i h1 h2
        rw [val_main_v15_apply]
        refine Eq.trans ?_ ((v12_at H b ⟨n.val + 2, by omega⟩ ⟨k.val - 256, by omega⟩ g d).trans ?_)
        · refine congrArg _ (funext fun a => ?_)
          match a with
          | ⟨0, _⟩ => rfl
          | ⟨1, _⟩ => exact Fin.ext (show 2 + n.val = n.val + 2 by omega)
          | ⟨2, _⟩ => exact Fin.ext (show k.val - 128 - 128 = k.val - 256 by omega)
          | ⟨3, _⟩ => rfl
          | ⟨4, _⟩ => rfl
        · refine congrArg (fun p => val_main_v11 (F := Ideal) H (ix4 b p g d)) (Fin.ext ?_)
          show 128 * (n.val + 2) + (k.val - 256) = 128 * n.val + k.val
          omega
  rw [e, v11_at]
  rfl

/-- The values of a block's band. -/
theorem v22_at (b : Fin 8) (n : Fin 32) (k : Fin 384) (g : Fin 2) (d : Fin 64) :
    val_main_v22 (F := Ideal) H (ix5 b n k g d) = bandAt H b n k ⟨3712 + (64 * g.val + d.val), by omega⟩ := by
  have e : val_main_v22 (F := Ideal) H (ix5 b n k g d) = val_main_v17 (F := Ideal) H (ix4 b ⟨128 * n.val + k.val, by omega⟩ g d) := by
    unfold val_main_v22
    pointwise
    split
    · rename_i h
      rw [val_main_v19_apply]
      refine Eq.trans ?_ ((v18_at H b ⟨n.val, by omega⟩ ⟨k.val, h⟩ g d).trans ?_)
      · refine congrArg _ (funext fun a => ?_)
        match a with
        | ⟨0, _⟩ => rfl
        | ⟨1, _⟩ => rfl
        | ⟨2, _⟩ => rfl
        | ⟨3, _⟩ => rfl
        | ⟨4, _⟩ => rfl
      · rfl
    · split
      · rename_i h1 h2
        rw [val_main_v20_apply]
        refine Eq.trans ?_ ((v18_at H b ⟨n.val + 1, by omega⟩ ⟨k.val - 128, by omega⟩ g d).trans ?_)
        · refine congrArg _ (funext fun a => ?_)
          match a with
          | ⟨0, _⟩ => rfl
          | ⟨1, _⟩ => exact Fin.ext (show 1 + n.val = n.val + 1 by omega)
          | ⟨2, _⟩ => rfl
          | ⟨3, _⟩ => rfl
          | ⟨4, _⟩ => rfl
        · refine congrArg (fun p => val_main_v17 (F := Ideal) H (ix4 b p g d)) (Fin.ext ?_)
          show 128 * (n.val + 1) + (k.val - 128) = 128 * n.val + k.val
          omega
      · rename_i h1 h2
        rw [val_main_v21_apply]
        refine Eq.trans ?_ ((v18_at H b ⟨n.val + 2, by omega⟩ ⟨k.val - 256, by omega⟩ g d).trans ?_)
        · refine congrArg _ (funext fun a => ?_)
          match a with
          | ⟨0, _⟩ => rfl
          | ⟨1, _⟩ => exact Fin.ext (show 2 + n.val = n.val + 2 by omega)
          | ⟨2, _⟩ => exact Fin.ext (show k.val - 128 - 128 = k.val - 256 by omega)
          | ⟨3, _⟩ => rfl
          | ⟨4, _⟩ => rfl
        · refine congrArg (fun p => val_main_v17 (F := Ideal) H (ix4 b p g d)) (Fin.ext ?_)
          show 128 * (n.val + 2) + (k.val - 256) = 128 * n.val + k.val
          omega
  rw [e, v17_at]
  rfl

end Swa

end

end
-- ==== Proof.Ref2.lean ====
module

public import proofs.«01_k».proof.Proof.Ref
public import proofs.«01_k».proof.Proof.Words

/-! The reference's result at an index: a weighted mean of the values of a block's band. -/

@[expose] public section

set_option maxRecDepth 16384

noncomputable section

namespace Swa

open Cert.ReferenceIdeal Cert.ReferenceIdeal.Gen Cert.ReferenceIdeal.Read Idealize.ShloMosaic

variable (H : Vec Ideal S32768x3840 .bf16) (S : Vec Ideal S8 .f32) (R : Vec Ideal S32x8 .f32)

theorem v31_at (i : Fin 128) (k : Fin 384) : val_main_v31 (F := Ideal) (ix2 i k) = relW i k := by
  simp only [val_main_v31_apply, val_main_v29_apply, val_main_v30_apply, val_main_v28_apply, val_main_v27_apply, val_main_v26_apply,
    val_main_v25_apply, val_main_v24_apply, val_main_v23_apply, val_main_c_1_apply]
  rfl

theorem v72_at (i : Fin 128) (k : Fin 384) : val_main_v72 (F := Ideal) (ix2 i k) = BitVec.ofNat 32 (bk i k).val := by
  rw [← bkW_eq]
  simp only [val_main_v72_apply, val_main_v71_apply, val_main_v70_apply, val_main_v69_apply, val_main_v68_apply, val_main_v67_apply,
    val_main_v66_apply, val_main_v65_apply, val_main_v64_apply, val_main_v63_apply, val_main_v62_apply, val_main_v61_apply, val_main_v60_apply,
    val_main_v59_apply, val_main_v58_apply, val_main_v57_apply, val_main_v56_apply, val_main_v55_apply, val_main_v54_apply, val_main_v53_apply,
    val_main_v52_apply, val_main_v51_apply, val_main_v50_apply, val_main_v49_apply, val_main_v48_apply, val_main_v47_apply, val_main_v46_apply,
    val_main_v45_apply, val_main_v44_apply, val_main_v43_apply, val_main_v42_apply, val_main_v41_apply, val_main_v40_apply, val_main_v39_apply,
    val_main_v38_apply, val_main_v37_apply, val_main_v36_apply, val_main_v35_apply, val_main_v34_apply, val_main_v33_apply, val_main_v32_apply,
    v31_at, val_main_c_2_apply, val_main_c_3_apply, val_main_c_4_apply, val_main_c_5_apply, val_main_c_6_apply, val_main_c_7_apply,
    val_main_c_8_apply, val_main_c_9_apply, val_main_c_10_apply, val_main_c_11_apply, val_main_c_12_apply, val_main_c_13_apply]
  rfl

theorem v77_at (i : Fin 128) (k : Fin 384) : val_main_v77 (F := Ideal) (ix2 i k) = BitVec.ofNat 32 (bk i k).val := by
  rw [val_main_v77_apply, val_main_v74_apply, val_main_v73_apply, val_main_c_14_apply, v72_at, (small_toInt _).2]
  exact if_neg (by decide)

theorem v78_at (i : Fin 128) (k : Fin 384) : val_main_v78 (F := Ideal) (ix3 i k 0) = BitVec.ofNat 32 (bk i k).val := by
  rw [val_main_v78_apply]
  exact (congrArg _ (eq_ix2 _)).trans (v77_at i k)

/-- The biases of a bucket, read for a query and a key. -/
theorem v79_at (i : Fin 128) (k : Fin 384) (h : Fin 8) : val_main_v79 (F := Ideal) R (ix3 i k h) = R (ix2 (bk i k) h) := by
  unfold val_main_v79
  unfold Host.gather
  congr 1
  funext a
  refine Fin.ext ?_
  show gather_S32x8_S128x384x1_S128x384x8_2_0_n_n_0_2_18.start _ _ a + gather_S32x8_S128x384x1_S128x384x8_2_0_n_n_0_2_18.batchCoord _ a
      + gather_S32x8_S128x384x1_S128x384x8_2_0_n_n_0_2_18.offCoord _ a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp [gather_S32x8_S128x384x1_S128x384x8_2_0_n_n_0_2_18] at h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x8_S128x384x1_S128x384x8_2_0_n_n_0_2_18.startIndexMap from List.mem_singleton.mpr rfl)]
    have hsi : gather_S32x8_S128x384x1_S128x384x8_2_0_n_n_0_2_18.siIdx (ix3 i k h)
        ⟨List.idxOf (0 : Fin 2) gather_S32x8_S128x384x1_S128x384x8_2_0_n_n_0_2_18.startIndexMap,
        List.idxOf_lt_length_iff.2 (List.mem_singleton.mpr rfl)⟩ = ix3 i k 0 := by
      funext b; refine Fin.ext ?_
      match b with
      | ⟨0, _⟩ => rfl
      | ⟨1, _⟩ => rfl
      | ⟨2, _⟩ => rfl
    rw [hsi, v78_at, (small_toInt _).1]
    show min (bk i k).val (32 - 1) = (bk i k).val
    have := (bk i k).isLt
    omega
  · rw [GatherDims.batchCoord_eq_zero _ _ _ (fun h => by simp [gather_S32x8_S128x384x1_S128x384x8_2_0_n_n_0_2_18] at h)]
    have hs : gather_S32x8_S128x384x1_S128x384x8_2_0_n_n_0_2_18.start (ix3 i k h) (val_main_v78 (F := Ideal)) 1 = 0 := by
      unfold GatherDims.start
      exact dif_neg (by simp [gather_S32x8_S128x384x1_S128x384x8_2_0_n_n_0_2_18])
    rw [hs]
    show 0 + 0 + h.val = h.val
    omega

/-- The bias of pair `c`, key head `g`, for a query and a key. -/
theorem v111_at (b : Fin 8) (n : Fin 32) (g : Fin 2) (c : Fin 4) (i : Fin 128) (k : Fin 384) :
    val_main_v111 (F := Ideal) R (ix6 b n g c i k) = R (ix2 (bk i k) ⟨4 * g.val + c.val, by omega⟩) := by
  rw [val_main_v111_apply, val_main_v110_apply, val_main_v81_apply, val_main_v80_apply]
  refine Eq.trans (congrArg _ (funext fun a => ?_)) (v79_at R i k ⟨4 * g.val + c.val, by omega⟩)
  match a with
  | ⟨0, _⟩ => exact Fin.ext (show (((g.val * 4 + c.val) * 128 + i.val) * 384 + k.val) / 384 % 128 = i.val by omega)
  | ⟨1, _⟩ => exact Fin.ext (show (((g.val * 4 + c.val) * 128 + i.val) * 384 + k.val) % 384 = k.val by omega)
  | ⟨2, _⟩ => exact Fin.ext (show (((g.val * 4 + c.val) * 128 + i.val) * 384 + k.val) / 49152 = 4 * g.val + c.val by omega)

/-- A key counts for a query when it is in the band and in the sequence. -/
abbrev Valid (n : Fin 32) (i : Fin 128) (k : Fin 384) : Prop :=
  (i.val ≤ k.val ∧ k.val ≤ i.val + 256) ∧ 128 ≤ 128 * n.val + k.val ∧ 128 * n.val + k.val < 4224

theorem v114_at (b : Fin 8) (n : Fin 32) (g : Fin 2) (c : Fin 4) (i : Fin 128) (k : Fin 384) :
    val_main_v114 (F := Ideal) (ix6 b n g c i k) = if Valid n i k then 1#1 else 0#1 := by
  have e : val_main_v114 (F := Ideal) (ix6 b n g c i k)
      = IntOp.andi (IntOp.cmpi .sle (IntOp.absi (relW i k)) 128#32)
          (IntOp.andi (IntOp.cmpi .sge (posW n k) 0#32) (IntOp.cmpi .slt (posW n k) 4096#32)) := by
    rw [← v31_at]
    simp only [val_main_v114_apply, val_main_v113_apply, val_main_v105_apply, val_main_v104_apply, val_main_v103_apply, val_main_v102_apply,
      val_main_v101_apply, val_main_v100_apply, val_main_v99_apply, val_main_v98_apply, val_main_v97_apply, val_main_v96_apply,
      val_main_v95_apply, val_main_v94_apply, val_main_v93_apply, val_main_v92_apply, val_main_v91_apply, val_main_v90_apply,
      val_main_v89_apply, val_main_v88_apply, val_main_v87_apply, val_main_v86_apply, val_main_v85_apply, val_main_v84_apply,
      val_main_v83_apply, val_main_v82_apply, val_main_c_16_apply, val_main_c_17_apply, val_main_c_18_apply, val_main_c_19_apply, val_main_c_20_apply]
    congr 3
  rw [e, band_apply, pos_apply]
  by_cases h1 : i.val ≤ k.val ∧ k.val ≤ i.val + 256
  · by_cases h2 : 128 ≤ 128 * n.val + k.val ∧ 128 * n.val + k.val < 4224
    · rw [if_pos h1, if_pos h2, if_pos ⟨h1, h2⟩]; rfl
    · rw [if_pos h1, if_neg h2, if_neg (fun hh => h2 hh.2)]; rfl
  · rw [if_neg h1, if_neg (show ¬ Valid n i k from fun hh => h1 hh.1)]
    split <;> rfl

/-- The product of a query and a key. -/
def dot (b : Fin 8) (n : Fin 32) (g : Fin 2) (c : Fin 4) (i : Fin 128) (k : Fin 384) : EReal :=
  ∑ d : Fin 64, bandAt H b n k ⟨3584 + (64 * g.val + d.val), by omega⟩
    * H (ix2 ⟨4096 * b.val + (128 * n.val + i.val), by omega⟩ ⟨3072 + (128 * c.val + 64 * g.val + d.val), by omega⟩)

theorem v107_at (b : Fin 8) (n : Fin 32) (g : Fin 2) (c : Fin 4) (i : Fin 128) (k : Fin 384) :
    val_main_v107 (F := Ideal) H (ix6 b n g c i k) = dot H b n g c i k := by
  rw [val_main_v107_apply, val_main_v106_apply]
  refine Finset.sum_congr rfl fun d _ => ?_
  congr 1
  · exact (congrArg _ (eq_ix5 _)).trans (v16_at H b n k g d)
  · exact (congrArg _ (eq_ix6 _)).trans (v10_at H b n i g c d)

theorem eighth : Ideal.ofBits .f32 0x3E000000#32 = (((1 : ℝ) / 8 : ℝ) : EReal) := by
  simp [Ideal.ofBits, Ideal.ieee, -EReal.coe_mul]; norm_num

theorem f32_bot : Ideal.ofBits .f32 0xFF800000#32 = (⊥ : EReal) := by simp [Ideal.ofBits, Ideal.ieee]

/-- The score of a key for a query. -/
def score (b : Fin 8) (n : Fin 32) (g : Fin 2) (c : Fin 4) (i : Fin 128) (k : Fin 384) : EReal :=
  if Valid n i k then dot H b n g c i k * (((1 : ℝ) / 8 : ℝ) : EReal) + R (ix2 (bk i k) ⟨4 * g.val + c.val, by omega⟩) else ⊥

theorem v116_at (b : Fin 8) (n : Fin 32) (g : Fin 2) (c : Fin 4) (i : Fin 128) (k : Fin 384) :
    val_main_v116 (F := Ideal) H R (ix6 b n g c i k) = score H R b n g c i k := by
  rw [val_main_v116_apply, v114_at, val_main_v112_apply, val_main_v109_apply, v107_at, v111_at, val_main_v108_apply, val_main_cst_apply,
    val_main_v115_apply, val_main_cst_21_apply]
  unfold score
  by_cases h : Valid n i k
  · rw [if_pos h, if_pos h]
    refine (show Scalar.select 1#1 _ _ = _ from if_pos rfl).trans ?_
    show dot H b n g c i k * Ideal.ofBits .f32 0x3E000000#32 + _ = _
    rw [eighth]
  · rw [if_neg h, if_neg h]
    exact (show Scalar.select 0#1 _ _ = _ from if_neg (by decide)).trans f32_bot

/-- The sink of a head. -/
def sinkOf (g : Fin 2) (c : Fin 4) : EReal := S (ix1 ⟨4 * g.val + c.val, by omega⟩)

theorem v118_at (g : Fin 2) (c : Fin 4) (x : S1x1x2x4x1x1.Idx) (h2 : (x 2).val = g.val) (h3 : (x 3).val = c.val) :
    val_main_v118 (F := Ideal) S x = sinkOf S g c := by
  rw [val_main_v118_apply, val_main_v117_apply]
  refine congrArg S (funext fun a => ?_)
  match a with
  | ⟨0, _⟩ => exact Fin.ext (show (x 2).val * 4 + (x 3).val = 4 * g.val + c.val by omega)

/-- The largest score of a query, or the sink. -/
theorem v122_at (b : Fin 8) (n : Fin 32) (g : Fin 2) (c : Fin 4) (i : Fin 128) (z : Fin 1) :
    val_main_v122 (F := Ideal) H S R (ix6 b n g c i z) = top (score H R b n g c i) (sinkOf S g c) := by
  rw [val_main_v122_apply, val_main_v120_apply, val_main_v121_apply, v118_at S g c _ rfl rfl]
  have e : val_main_v119 (F := Ideal) H R (ix5 b n g c i) = Finset.univ.fold max ⊥ (score H R b n g c i) := by
    unfold val_main_v119
    rw [Host.reduce_eq_fold_single _ _ _ _ (by decide) _ _, val_main_cst_22_apply]
    refine (congrArg (fun q => Finset.univ.fold max q _) f32_bot).trans ?_
    refine Finset.fold_congr fun k _ => ?_
    exact (congrArg _ (eq_ix6 _)).trans (v116_at H R b n g c i k)
  rw [show idx_main_v120 (ix6 b n g c i z) = ix5 b n g c i from eq_ix5 _, e]
  rfl

theorem v125_at (b : Fin 8) (n : Fin 32) (g : Fin 2) (c : Fin 4) (i : Fin 128) (k : Fin 384) :
    val_main_v125 (F := Ideal) H S R (ix6 b n g c i k)
      = Ideal.exp (score H R b n g c i k - top (score H R b n g c i) (sinkOf S g c)) := by
  rw [val_main_v125_apply, val_main_v124_apply, val_main_v123_apply, v116_at,
    show idx_main_v123 (ix6 b n g c i k) = ix6 b n g c i 0 from eq_ix6 _, v122_at]
  rfl

theorem v131_at (b : Fin 8) (n : Fin 32) (g : Fin 2) (c : Fin 4) (i : Fin 128) (z : Fin 1) :
    val_main_v131 (F := Ideal) H S R (ix6 b n g c i z)
      = (∑ k, Ideal.exp (score H R b n g c i k - top (score H R b n g c i) (sinkOf S g c)))
        + Ideal.exp (sinkOf S g c - top (score H R b n g c i) (sinkOf S g c)) := by
  rw [val_main_v131_apply, val_main_v130_apply, val_main_v129_apply, val_main_v128_apply, v118_at S g c _ rfl rfl, v122_at,
    val_main_v127_apply, val_main_v126_apply, val_main_cst_23_apply]
  have h0 : FloatOps.ofBits (F := Ideal) .f32 0x00000000#32 = (0 : EReal) := Ideal.ofBits_zero_f32
  rw [h0, zero_add]
  refine congrArg₂ (· + ·) (Finset.sum_congr rfl fun k _ => ?_) rfl
  exact (congrArg _ (eq_ix6 _)).trans (v125_at H S R b n g c i k)

theorem v135_at (b : Fin 8) (n : Fin 32) (i : Fin 128) (g : Fin 2) (c : Fin 4) (j : Fin 64) :
    val_main_v135 (F := Ideal) H S R (ix6 b n i g c j)
      = mean (score H R b n g c i) (fun k => bandAt H b n k ⟨3712 + (64 * g.val + j.val), by omega⟩) (sinkOf S g c) := by
  rw [val_main_v135_apply, val_main_v134_apply]
  unfold mean
  refine Finset.sum_congr rfl fun k _ => ?_
  congr 1
  · exact (congrArg _ (eq_ix5 _)).trans (v22_at H b n k g j)
  · rw [show ridx_main_v134 (idx_main_v135 (ix6 b n i g c j)) k = ix6 b n g c i k from eq_ix6 _, val_main_v133_apply, v125_at,
      val_main_v132_apply, show idx_main_v132 (ix6 b n g c i k) = ix6 b n g c i 0 from eq_ix6 _, v131_at]
    rfl

theorem idx137_at (b : Fin 8) (n : Fin 32) (i : Fin 128) (g : Fin 2) (c : Fin 4) (j : Fin 64) :
    idx_main_v137 (ix5 b ⟨128 * n.val + i.val, by omega⟩ g c j)
      = ix3 b ⟨128 * n.val + i.val, by omega⟩ ⟨256 * g.val + 64 * c.val + j.val, by omega⟩ := by
  funext a
  match a with
  | ⟨0, _⟩ => exact Fin.ext (show ((((b.val * 4096 + (128 * n.val + i.val)) * 2 + g.val) * 4 + c.val) * 64 + j.val) / 2097152 = b.val by omega)
  | ⟨1, _⟩ => exact Fin.ext (show ((((b.val * 4096 + (128 * n.val + i.val)) * 2 + g.val) * 4 + c.val) * 64 + j.val) / 512 % 4096 = 128 * n.val + i.val by omega)
  | ⟨2, _⟩ => exact Fin.ext (show ((((b.val * 4096 + (128 * n.val + i.val)) * 2 + g.val) * 4 + c.val) * 64 + j.val) % 512 = 256 * g.val + 64 * c.val + j.val by omega)

/-- THE REFERENCE'S RESULT, at sequence `b`, row `i` of block `n`, pair `c`, key head `g`, lane `j`. -/
theorem ref_at (b : Fin 8) (n : Fin 32) (i : Fin 128) (c : Fin 4) (g : Fin 2) (j : Fin 64) (y : S32768x512.Idx)
    (h0 : (y 0).val = 4096 * b.val + (128 * n.val + i.val)) (h1 : (y 1).val = 128 * c.val + (64 * g.val + j.val)) :
    val_main_v140 (F := Ideal) H S R y
      = mean (score H R b n g c i) (fun k => bandAt H b n k ⟨3712 + (64 * g.val + j.val), by omega⟩) (sinkOf S g c) := by
  rw [← v135_at, val_main_v140_apply]
  show val_main_v139 (F := Ideal) H S R y = _
  have e : idx_main_v137 (idx_main_v138 (idx_main_v139 y))
      = ix3 b ⟨128 * n.val + i.val, by omega⟩ ⟨256 * g.val + 64 * c.val + j.val, by omega⟩ := by
    have e0 : ((y 0).val * 512 + (y 1).val) / 2097152 = b.val := by omega
    have e1 : ((y 0).val * 512 + (y 1).val) / 512 % 4096 = 128 * n.val + i.val := by omega
    have e2 : ((y 0).val * 512 + (y 1).val) / 128 % 4 = c.val := by omega
    have e3 : ((y 0).val * 512 + (y 1).val) / 64 % 2 = g.val := by omega
    have e4 : ((y 0).val * 512 + (y 1).val) % 64 = j.val := by omega
    have e5 : idx_main_v138 (idx_main_v139 y) = ix5 b ⟨128 * n.val + i.val, by omega⟩ g c j := by
      funext a
      match a with
      | ⟨0, _⟩ => exact Fin.ext e0
      | ⟨1, _⟩ => exact Fin.ext e1
      | ⟨2, _⟩ => exact Fin.ext e3
      | ⟨3, _⟩ => exact Fin.ext e2
      | ⟨4, _⟩ => exact Fin.ext e4
    rw [e5]
    exact idx137_at b n i g c j
  rw [val_main_v139_apply, val_main_v138_apply, val_main_v137_apply, e]
  unfold val_main_v136
  refine shapeCast_apply _ _ _ (ix6 b n i g c j) ?_
  rw [Shape.rowMajor_val_three, Shape.rowMajor_val_six]
  show ((((b.val * 32 + n.val) * 128 + i.val) * 2 + g.val) * 4 + c.val) * 64 + j.val
    = (b.val * 4096 + (128 * n.val + i.val)) * 512 + (256 * g.val + 64 * c.val + j.val)
  omega

end Swa

end

end
-- ==== Proof.Lanes.lean ====
module

public import proofs.«01_k».proof.Proof.BlockRows
public import proofs.«01_k».proof.Proof.Arrays
public import proofs.«01_k».proof.Proof.Ref2

/-! The parts of a grid point's scores: the scalar product over the packed lanes, and the number added at the sequence's
ends. -/

@[expose] public section

set_option maxRecDepth 16384

noncomputable section

namespace Swa

open Cert.KernelIdeal Cert.KernelIdeal.Gen Idealize.ShloMosaic Idealize.ShloMosaic.Tactic Idealize.SL.Sem Idealize.ShloMosaic.TcCoe

variable (m : (ℓ : Loc nD τ sig) → Buf (Elt Ideal) ℓ)

/-- A sum over 128 lanes of which one half is zero. -/
theorem sum_lanes (f : Fin 128 → EReal) (g : Fin 2) :
    (∑ d : Fin 128, if d.val / 64 = g.val then f d else 0) = ∑ d : Fin 64, f ⟨64 * g.val + d.val, by omega⟩ := by
  have e := Fin.sum_univ_add (a := 64) (b := 64) (fun d : Fin (64 + 64) => if d.val / 64 = g.val then f d else 0)
  refine e.trans ?_
  match g with
  | ⟨0, _⟩ =>
    rw [Finset.sum_eq_zero (s := Finset.univ) (f := fun i : Fin 64 => if (Fin.natAdd 64 i).val / 64 = 0 then f (Fin.natAdd 64 i) else 0), add_zero]
    · refine Finset.sum_congr rfl fun d _ => ?_
      rw [if_pos (by show d.val / 64 = 0; omega)]
      exact congrArg f (Fin.ext (by show d.val = 64 * 0 + d.val; omega))
    · intro d _
      exact if_neg (by show ¬ (64 + d.val) / 64 = 0; omega)
  | ⟨1, _⟩ =>
    rw [Finset.sum_eq_zero (s := Finset.univ) (f := fun i : Fin 64 => if (Fin.castAdd 64 i).val / 64 = 1 then f (Fin.castAdd 64 i) else 0), zero_add]
    · refine Finset.sum_congr rfl fun d _ => ?_
      rw [if_pos (by show (64 + d.val) / 64 = 1; omega)]
      exact congrArg f (Fin.ext (by show 64 + d.val = 64 * 1 + d.val; omega))
    · intro d _
      exact if_neg (by show ¬ d.val / 64 = 1; omega)

/-- The scalar product of a key and a packed query is the head's own, scaled. -/
theorem lanes_dot (K q : Fin 128 → EReal) (g : Fin 2) :
    (∑ d : Fin 128, K d * lane g.val (q d) d.val)
      = (∑ d : Fin 64, K ⟨64 * g.val + d.val, by omega⟩ * q ⟨64 * g.val + d.val, by omega⟩) * ((1 / 8 : ℝ) : EReal) * (c2 : EReal) := by
  have e : ∀ d : Fin 128, K d * lane g.val (q d) d.val = if d.val / 64 = g.val then K d * q d * (qs : EReal) else 0 := by
    intro d
    unfold lane
    split
    · rw [mul_assoc]
    · rw [mul_zero]
  rw [Finset.sum_congr rfl fun d _ => e d, sum_lanes (fun d => K d * q d * (qs : EReal)) g, mul_assoc, ← EReal.coe_mul,
    sum_mul_real _ _ (by have := c2_pos; positivity)]
  rfl

/-- A mean looks at a value only where its score is not minus infinity. -/
theorem mean2_congr {n : ℕ} (t v v' : Fin n → EReal) (σ : EReal) (h : ∀ k, t k ≠ ⊥ → v k = v' k) : mean2 t v σ = mean2 t v' σ := by
  unfold mean2
  congr 1
  refine Finset.sum_congr rfl fun k _ => ?_
  by_cases hk : t k = ⊥
  · have e0 : Ideal.exp2 (t k - top t σ) = 0 := by rw [hk, sub_eq_add_neg, EReal.bot_add]; rfl
    rw [e0, mul_zero, mul_zero]
  · rw [h k hk]

theorem pay5_eq (t : Fin cfg0.N) (h : t.val % 2 = 0) : k0_pay5 (F := Ideal) (grid0.coords t) = ⊥ := by
  unfold k0_pay5
  dsimp only
  rw [coord1 t, h, mask_named]
  exact if_neg (by decide)

theorem pay5_zero (t : Fin cfg0.N) (h : t.val % 2 = 1) : k0_pay5 (F := Ideal) (grid0.coords t) = 0 := by
  unfold k0_pay5
  dsimp only
  rw [coord1 t, h]
  refine (if_pos (by decide)).trans ?_
  show Ideal.ofBits .f32 0x00000000#32 = 0
  simp [Ideal.ofBits, Ideal.ieee]

theorem pay6_eq (t : Fin cfg0.N) (h : t.val % 2 = 1) : k0_pay6 (F := Ideal) (grid0.coords t) = ⊥ := by
  unfold k0_pay6
  dsimp only
  rw [coord1 t, h, mask_named]
  exact if_neg (by decide)

theorem pay6_zero (t : Fin cfg0.N) (h : t.val % 2 = 0) : k0_pay6 (F := Ideal) (grid0.coords t) = 0 := by
  unfold k0_pay6
  dsimp only
  rw [coord1 t, h]
  refine (if_pos (by decide)).trans ?_
  show Ideal.ofBits .f32 0x00000000#32 = 0
  simp [Ideal.ofBits, Ideal.ieee]

/-- Inside the sequence nothing is added. -/
theorem edge_inside (t : Fin cfg0.N) (r : Fin 16) (k : Fin 384)
    (h : 128 ≤ 128 * (16 * (t.val % 2) + r.val) + k.val ∧ 128 * (16 * (t.val % 2) + r.val) + k.val < 4224) :
    edge (grid0.coords t) r.val k.val = 0 := by
  unfold edge
  split
  · exact pay5_zero t (by omega)
  split
  · exact pay6_zero t (by omega)
  · rfl

/-- Outside it minus infinity is added. -/
theorem edge_outside (t : Fin cfg0.N) (r : Fin 16) (k : Fin 384)
    (h : ¬ (128 ≤ 128 * (16 * (t.val % 2) + r.val) + k.val ∧ 128 * (16 * (t.val % 2) + r.val) + k.val < 4224)) :
    edge (grid0.coords t) r.val k.val = ⊥ := by
  have hr := r.isLt
  have hk := k.isLt
  unfold edge
  split
  · exact pay5_eq t (by omega)
  split
  · exact pay6_eq t (by omega)
  · omega

end Swa

end

end
-- ==== Proof.Finite.lean ====
module

public import proofs.«01_k».proof.Proof.Ref2
public import proofs.«01_k».proof.Proof.Gen.Pre_finite_scores
public import Idealize.ShloMosaic.Lib.ReduceAll
public import Idealize.ShloMosaic.Lib.Pointwise

/-! What the precondition says of the elements, and that the scores are then numbers or minus infinity. -/

@[expose] public section

set_option maxRecDepth 16384

noncomputable section

namespace Swa

open Idealize.ShloMosaic

/-- A number, neither infinity. -/
def IsNum (x : EReal) : Prop := ∃ r : ℝ, x = (r : EReal)

theorem IsNum.ne_top {x : EReal} (h : IsNum x) : x ≠ ⊤ := by
  obtain ⟨r, rfl⟩ := h
  exact EReal.coe_ne_top r

theorem IsNum.ne_bot {x : EReal} (h : IsNum x) : x ≠ ⊥ := by
  obtain ⟨r, rfl⟩ := h
  exact EReal.coe_ne_bot r

theorem IsNum.add {x y : EReal} (hx : IsNum x) (hy : IsNum y) : IsNum (x + y) := by
  obtain ⟨r, rfl⟩ := hx
  obtain ⟨s, rfl⟩ := hy
  exact ⟨r + s, (EReal.coe_add r s).symm⟩

theorem IsNum.mul {x y : EReal} (hx : IsNum x) (hy : IsNum y) : IsNum (x * y) := by
  obtain ⟨r, rfl⟩ := hx
  obtain ⟨s, rfl⟩ := hy
  exact ⟨r * s, (EReal.coe_mul r s).symm⟩

theorem IsNum.sum {ι : Type} (s : Finset ι) (f : ι → EReal) (h : ∀ k, IsNum (f k)) : IsNum (∑ k ∈ s, f k) := by
  induction s using Finset.cons_induction with
  | empty => exact ⟨0, by simp⟩
  | cons a s ha ih => rw [Finset.sum_cons]; exact (h a).add ih

/-- A comparison with infinity that holds names a number. -/
theorem isNum_of_abs_lt (x : EReal) (h : (FloatOps.cmpf .olt (FloatOps.hostAbsf (F := Ideal) (φ := .f32) x) (Ideal.ofBits .f32 0x7F800000#32) : BitVec 1) = 1#1) : IsNum x := by
  have hinf : Ideal.ofBits .f32 0x7F800000#32 = (⊤ : EReal) := by simp [Ideal.ofBits, Ideal.ieee]
  rw [hinf] at h
  have h' : Ideal.cmp .olt (max x (-x)) ⊤ = 1#1 := h
  have hlt : max x (-x) < ⊤ := by
    by_contra hn
    simp [Ideal.cmp, hn] at h'
  induction x using EReal.rec with
  | bot => simp at hlt
  | top => simp at hlt
  | coe r => exact ⟨r, rfl⟩

section Pre

variable (H : Vec Ideal Cert.ReferenceIdeal.S32768x3840 .bf16) (S : Vec Ideal Cert.ReferenceIdeal.S8 .f32) (R : Vec Ideal Cert.ReferenceIdeal.S32x8 .f32)

/-- What the precondition says: the queries and keys, the sinks and the biases are numbers. -/
structure Nums : Prop where
  h : ∀ (r : Fin 32768) (k : Fin 640), IsNum (H (ix2 r ⟨3072 + k.val, by omega⟩))
  s : ∀ i, IsNum (S (ix1 i))
  r : ∀ i j, IsNum (R (ix2 i j))

theorem nums_of_pre (hp : Cert.Pre_finite_scores.fn (F := Ideal) H S R = fun _ => 1#1) : Nums H S R := by
  have h := congrFun hp ix0
  dsimp only [Cert.Pre_finite_scores.fn] at h
  obtain ⟨h12, h3⟩ := IntOp.andi_eq_one.mp h
  obtain ⟨h1, h2⟩ := IntOp.andi_eq_one.mp h12
  refine ⟨fun r k => ?_, fun i => ?_, fun i j => ?_⟩
  · have e := Host.reduce_andi_all _ _ _ _ _ h1 (ix2 r k)
    pointwise at e
    exact isNum_of_abs_lt _ e
  · have e := Host.reduce_andi_all _ _ _ _ _ h2 (ix1 i)
    exact isNum_of_abs_lt _ e
  · have e := Host.reduce_andi_all _ _ _ _ _ h3 (ix2 i j)
    exact isNum_of_abs_lt _ e

variable {H S R}

theorem sinkOf_num (hN : Nums H S R) (g : Fin 2) (c : Fin 4) : IsNum (sinkOf S g c) := hN.s _

theorem bandAt_num (hN : Nums H S R) (b : Fin 8) (n : Fin 32) (k : Fin 384) (j : Fin 640) (col : Fin 3840) (hc : col.val = 3072 + j.val) :
    IsNum (bandAt H b n k col) := by
  unfold bandAt
  split
  · obtain ⟨v, hv⟩ := col
    obtain rfl : v = 3072 + j.val := hc
    exact hN.h _ j
  · exact ⟨0, rfl⟩

theorem score_ne_top (hN : Nums H S R) (b : Fin 8) (n : Fin 32) (g : Fin 2) (c : Fin 4) (i : Fin 128) (k : Fin 384) :
    score H R b n g c i k ≠ ⊤ := by
  unfold score
  split
  · refine (IsNum.add (IsNum.mul (IsNum.sum _ _ fun d => ?_) ⟨_, rfl⟩) (hN.r _ _)).ne_top
    exact (bandAt_num hN b n k ⟨512 + (64 * g.val + d.val), by omega⟩ _ (by dsimp only; omega)).mul
      (hN.h _ ⟨128 * c.val + 64 * g.val + d.val, by omega⟩)
  · exact bot_ne_top

end Pre

end Swa

end

end
-- ==== Proof.Block.lean ====
module

public import proofs.«01_k».proof.Proof.BlockRows
public import Idealize.ShloMosaic.Lib.Pipeline.ValueKit.Acc

/-! What a grid point leaves in its output block. -/

@[expose] public section

set_option maxRecDepth 16384

noncomputable section

namespace Swa

open Cert.KernelIdeal Cert.KernelIdeal.Gen Idealize.ShloMosaic Idealize.ShloMosaic.Tactic Idealize.SL.Sem

variable (m : (ℓ : Loc nD τ sig) → Buf (Elt Ideal) ℓ)

/-- WHAT A GRID POINT LEAVES IN ITS OUTPUT BLOCK. -/
theorem outs_apply (c : Dev nD) (t : Fin cfg0.N) (y : S2048x512.Idx) :
    outsAt0 m c t y = blk (grid0.coords t) (X0_0 m c t) (iblk m c 1 t) (iblk m c 2 t) (iblk m c 3 t) (iblk m c 4 t) (iblk m c 5 t) (iblk m c 6 t) (iblk m c 7 t) (iblk m c 8 t) y := by
  have hcov := cover0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (X0_0 m c t) (iblk m c 1 t) (iblk m c 2 t) (iblk m c 3 t) (iblk m c 4 t) (iblk m c 5 t) (iblk m c 6 t) (iblk m c 7 t) (iblk m c 8 t)
  unfold outsAt0 out0_A_9
  rw [View.read_writes_eq_canon _ _ _ hcov]
  refine View.canon_apply_of_pieces (blk (grid0.coords t) (X0_0 m c t) (iblk m c 1 t) (iblk m c 2 t) (iblk m c 3 t) (iblk m c 4 t) (iblk m c 5 t) (iblk m c 6 t) (iblk m c 7 t) (iblk m c 8 t)) _ ?_ y (hcov y)
  clear hcov
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  simp only [View.ld_unit_lit' (S := S128x128) inb_S128x128_S128x128_0_0 _ (fun a => by fin_cases a <;> rfl),
    View.ld_unit_lit' (S := S2048x128) inb_S2048x128_S2048x128_0_0 _ (fun a => by fin_cases a <;> rfl),
    View.ld_unit_lit' (S := S384x1024) inb_S384x1024_S384x1024_0_0 _ (fun a => by fin_cases a <;> rfl)]
  refine List.forall_mem_cons.mpr ⟨fun x => pieceLast _ _ _ _ _ _ _ _ _ _ 15 1920 rfl slices_S2304x128_o1920_0_S384x128 slices_S128x2304_o0_1920_S128x384 _ _ _ _ rfl 3 384 rfl inb_S2048x512_S128x128_1920_384 x, ?_⟩
  refine List.forall_mem_cons.mpr ⟨fun x => pieceLast _ _ _ _ _ _ _ _ _ _ 15 1920 rfl slices_S2304x128_o1920_0_S384x128 slices_S128x2304_o0_1920_S128x384 _ _ _ _ rfl 2 256 rfl inb_S2048x512_S128x128_1920_256 x, ?_⟩
  refine List.forall_mem_cons.mpr ⟨fun x => pieceLast _ _ _ _ _ _ _ _ _ _ 15 1920 rfl slices_S2304x128_o1920_0_S384x128 slices_S128x2304_o0_1920_S128x384 _ _ _ _ rfl 1 128 rfl inb_S2048x512_S128x128_1920_128 x, ?_⟩
  refine List.forall_mem_cons.mpr ⟨fun x => pieceLast _ _ _ _ _ _ _ _ _ _ 15 1920 rfl slices_S2304x128_o1920_0_S384x128 slices_S128x2304_o0_1920_S128x384 _ _ _ _ rfl 0 0 rfl inb_S2048x512_S128x128_1920_0 x, ?_⟩
  refine List.forall_mem_cons.mpr ⟨fun x => pieceMid _ _ _ _ _ _ _ _ _ _ 14 1792 rfl slices_S2304x128_o1792_0_S384x128 slices_S128x2304_o0_1792_S128x384 _ _ _ _ (by decide) (by decide) 3 384 rfl inb_S2048x512_S128x128_1792_384 x, ?_⟩
  refine List.forall_mem_cons.mpr ⟨fun x => pieceMid _ _ _ _ _ _ _ _ _ _ 14 1792 rfl slices_S2304x128_o1792_0_S384x128 slices_S128x2304_o0_1792_S128x384 _ _ _ _ (by decide) (by decide) 2 256 rfl inb_S2048x512_S128x128_1792_256 x, ?_⟩
  refine List.forall_mem_cons.mpr ⟨fun x => pieceMid _ _ _ _ _ _ _ _ _ _ 14 1792 rfl slices_S2304x128_o1792_0_S384x128 slices_S128x2304_o0_1792_S128x384 _ _ _ _ (by decide) (by decide) 1 128 rfl inb_S2048x512_S128x128_1792_128 x, ?_⟩
  refine List.forall_mem_cons.mpr ⟨fun x => pieceMid _ _ _ _ _ _ _ _ _ _ 14 1792 rfl slices_S2304x128_o1792_0_S384x128 slices_S128x2304_o0_1792_S128x384 _ _ _ _ (by decide) (by decide) 0 0 rfl inb_S2048x512_S128x128_1792_0 x, ?_⟩
  refine List.forall_mem_cons.mpr ⟨fun x => pieceMid _ _ _ _ _ _ _ _ _ _ 13 1664 rfl slices_S2304x128_o1664_0_S384x128 slices_S128x2304_o0_1664_S128x384 _ _ _ _ (by decide) (by decide) 3 384 rfl inb_S2048x512_S128x128_1664_384 x, ?_⟩
  refine List.forall_mem_cons.mpr ⟨fun x => pieceMid _ _ _ _ _ _ _ _ _ _ 13 1664 rfl slices_S2304x128_o1664_0_S384x128 slices_S128x2304_o0_1664_S128x384 _ _ _ _ (by decide) (by decide) 2 256 rfl inb_S2048x512_S128x128_1664_256 x, ?_⟩
  refine List.forall_mem_cons.mpr ⟨fun x => pieceMid _ _ _ _ _ _ _ _ _ _ 13 1664 rfl slices_S2304x128_o1664_0_S384x128 slices_S128x2304_o0_1664_S128x384 _ _ _ _ (by decide) (by decide) 1 128 rfl inb_S2048x512_S128x128_1664_128 x, ?_⟩
  refine List.forall_mem_cons.mpr ⟨fun x => pieceMid _ _ _ _ _ _ _ _ _ _ 13 1664 rfl slices_S2304x128_o1664_0_S384x128 slices_S128x2304_o0_1664_S128x384 _ _ _ _ (by decide) (by decide) 0 0 rfl inb_S2048x512_S128x128_1664_0 x, ?_⟩
  refine List.forall_mem_cons.mpr ⟨fun x => pieceMid _ _ _ _ _ _ _ _ _ _ 12 1536 rfl slices_S2304x128_o1536_0_S384x128 slices_S128x2304_o0_1536_S128x384 _ _ _ _ (by decide) (by decide) 3 384 rfl inb_S2048x512_S128x128_1536_384 x, ?_⟩
  refine List.forall_mem_cons.mpr ⟨fun x => pieceMid _ _ _ _ _ _ _ _ _ _ 12 1536 rfl slices_S2304x128_o1536_0_S384x128 slices_S128x2304_o0_1536_S128x384 _ _ _ _ (by decide) (by decide) 2 256 rfl inb_S2048x512_S128x128_1536_256 x, ?_⟩
  refine List.forall_mem_cons.mpr ⟨fun x => pieceMid _ _ _ _ _ _ _ _ _ _ 12 1536 rfl slices_S2304x128_o1536_0_S384x128 slices_S128x2304_o0_1536_S128x384 _ _ _ _ (by decide) (by decide) 1 128 rfl inb_S2048x512_S128x128_1536_128 x, ?_⟩
  refine List.forall_mem_cons.mpr ⟨fun x => pieceMid _ _ _ _ _ _ _ _ _ _ 12 1536 rfl slices_S2304x128_o1536_0_S384x128 slices_S128x2304_o0_1536_S128x384 _ _ _ _ (by decide) (by decide) 0 0 rfl inb_S2048x512_S128x128_1536_0 x, ?_⟩
  refine List.forall_mem_cons.mpr ⟨fun x => pieceMid _ _ _ _ _ _ _ _ _ _ 11 1408 rfl slices_S2304x128_o1408_0_S384x128 slices_S128x2304_o0_1408_S128x384 _ _ _ _ (by decide) (by decide) 3 384 rfl inb_S2048x512_S128x128_1408_384 x, ?_⟩
  refine List.forall_mem_cons.mpr ⟨fun x => pieceMid _ _ _ _ _ _ _ _ _ _ 11 1408 rfl slices_S2304x128_o1408_0_S384x128 slices_S128x2304_o0_1408_S128x384 _ _ _ _ (by decide) (by decide) 2 256 rfl inb_S2048x512_S128x128_1408_256 x, ?_⟩
  refine List.forall_mem_cons.mpr ⟨fun x => pieceMid _ _ _ _ _ _ _ _ _ _ 11 1408 rfl slices_S2304x128_o1408_0_S384x128 slices_S128x2304_o0_1408_S128x384 _ _ _ _ (by decide) (by decide) 1 128 rfl inb_S2048x512_S128x128_1408_128 x, ?_⟩
  refine List.forall_mem_cons.mpr ⟨fun x => pieceMid _ _ _ _ _ _ _ _ _ _ 11 1408 rfl slices_S2304x128_o1408_0_S384x128 slices_S128x2304_o0_1408_S128x384 _ _ _ _ (by decide) (by decide) 0 0 rfl inb_S2048x512_S128x128_1408_0 x, ?_⟩
  refine List.forall_mem_cons.mpr ⟨fun x => pieceMid _ _ _ _ _ _ _ _ _ _ 10 1280 rfl slices_S2304x128_o1280_0_S384x128 slices_S128x2304_o0_1280_S128x384 _ _ _ _ (by decide) (by decide) 3 384 rfl inb_S2048x512_S128x128_1280_384 x, ?_⟩
  refine List.forall_mem_cons.mpr ⟨fun x => pieceMid _ _ _ _ _ _ _ _ _ _ 10 1280 rfl slices_S2304x128_o1280_0_S384x128 slices_S128x2304_o0_1280_S128x384 _ _ _ _ (by decide) (by decide) 2 256 rfl inb_S2048x512_S128x128_1280_256 x, ?_⟩
  refine List.forall_mem_cons.mpr ⟨fun x => pieceMid _ _ _ _ _ _ _ _ _ _ 10 1280 rfl slices_S2304x128_o1280_0_S384x128 slices_S128x2304_o0_1280_S128x384 _ _ _ _ (by decide) (by decide) 1 128 rfl inb_S2048x512_S128x128_1280_128 x, ?_⟩
  refine List.forall_mem_cons.mpr ⟨fun x => pieceMid _ _ _ _ _ _ _ _ _ _ 10 1280 rfl slices_S2304x128_o1280_0_S384x128 slices_S128x2304_o0_1280_S128x384 _ _ _ _ (by decide) (by decide) 0 0 rfl inb_S2048x512_S128x128_1280_0 x, ?_⟩
  refine List.forall_mem_cons.mpr ⟨fun x => pieceMid _ _ _ _ _ _ _ _ _ _ 9 1152 rfl slices_S2304x128_o1152_0_S384x128 slices_S128x2304_o0_1152_S128x384 _ _ _ _ (by decide) (by decide) 3 384 rfl inb_S2048x512_S128x128_1152_384 x, ?_⟩
  refine List.forall_mem_cons.mpr ⟨fun x => pieceMid _ _ _ _ _ _ _ _ _ _ 9 1152 rfl slices_S2304x128_o1152_0_S384x128 slices_S128x2304_o0_1152_S128x384 _ _ _ _ (by decide) (by decide) 2 256 rfl inb_S2048x512_S128x128_1152_256 x, ?_⟩
  refine List.forall_mem_cons.mpr ⟨fun x => pieceMid _ _ _ _ _ _ _ _ _ _ 9 1152 rfl slices_S2304x128_o1152_0_S384x128 slices_S128x2304_o0_1152_S128x384 _ _ _ _ (by decide) (by decide) 1 128 rfl inb_S2048x512_S128x128_1152_128 x, ?_⟩
  refine List.forall_mem_cons.mpr ⟨fun x => pieceMid _ _ _ _ _ _ _ _ _ _ 9 1152 rfl slices_S2304x128_o1152_0_S384x128 slices_S128x2304_o0_1152_S128x384 _ _ _ _ (by decide) (by decide) 0 0 rfl inb_S2048x512_S128x128_1152_0 x, ?_⟩
  refine List.forall_mem_cons.mpr ⟨fun x => pieceMid _ _ _ _ _ _ _ _ _ _ 8 1024 rfl slices_S2304x128_o1024_0_S384x128 slices_S128x2304_o0_1024_S128x384 _ _ _ _ (by decide) (by decide) 3 384 rfl inb_S2048x512_S128x128_1024_384 x, ?_⟩
  refine List.forall_mem_cons.mpr ⟨fun x => pieceMid _ _ _ _ _ _ _ _ _ _ 8 1024 rfl slices_S2304x128_o1024_0_S384x128 slices_S128x2304_o0_1024_S128x384 _ _ _ _ (by decide) (by decide) 2 256 rfl inb_S2048x512_S128x128_1024_256 x, ?_⟩
  refine List.forall_mem_cons.mpr ⟨fun x => pieceMid _ _ _ _ _ _ _ _ _ _ 8 1024 rfl slices_S2304x128_o1024_0_S384x128 slices_S128x2304_o0_1024_S128x384 _ _ _ _ (by decide) (by decide) 1 128 rfl inb_S2048x512_S128x128_1024_128 x, ?_⟩
  refine List.forall_mem_cons.mpr ⟨fun x => pieceMid _ _ _ _ _ _ _ _ _ _ 8 1024 rfl slices_S2304x128_o1024_0_S384x128 slices_S128x2304_o0_1024_S128x384 _ _ _ _ (by decide) (by decide) 0 0 rfl inb_S2048x512_S128x128_1024_0 x, ?_⟩
  refine List.forall_mem_cons.mpr ⟨fun x => pieceMid _ _ _ _ _ _ _ _ _ _ 7 896 rfl slices_S2304x128_o896_0_S384x128 slices_S128x2304_o0_896_S128x384 _ _ _ _ (by decide) (by decide) 3 384 rfl inb_S2048x512_S128x128_896_384 x, ?_⟩
  refine List.forall_mem_cons.mpr ⟨fun x => pieceMid _ _ _ _ _ _ _ _ _ _ 7 896 rfl slices_S2304x128_o896_0_S384x128 slices_S128x2304_o0_896_S128x384 _ _ _ _ (by decide) (by decide) 2 256 rfl inb_S2048x512_S128x128_896_256 x, ?_⟩
  refine List.forall_mem_cons.mpr ⟨fun x => pieceMid _ _ _ _ _ _ _ _ _ _ 7 896 rfl slices_S2304x128_o896_0_S384x128 slices_S128x2304_o0_896_S128x384 _ _ _ _ (by decide) (by decide) 1 128 rfl inb_S2048x512_S128x128_896_128 x, ?_⟩
  refine List.forall_mem_cons.mpr ⟨fun x => pieceMid _ _ _ _ _ _ _ _ _ _ 7 896 rfl slices_S2304x128_o896_0_S384x128 slices_S128x2304_o0_896_S128x384 _ _ _ _ (by decide) (by decide) 0 0 rfl inb_S2048x512_S128x128_896_0 x, ?_⟩
  refine List.forall_mem_cons.mpr ⟨fun x => pieceMid _ _ _ _ _ _ _ _ _ _ 6 768 rfl slices_S2304x128_o768_0_S384x128 slices_S128x2304_o0_768_S128x384 _ _ _ _ (by decide) (by decide) 3 384 rfl inb_S2048x512_S128x128_768_384 x, ?_⟩
  refine List.forall_mem_cons.mpr ⟨fun x => pieceMid _ _ _ _ _ _ _ _ _ _ 6 768 rfl slices_S2304x128_o768_0_S384x128 slices_S128x2304_o0_768_S128x384 _ _ _ _ (by decide) (by decide) 2 256 rfl inb_S2048x512_S128x128_768_256 x, ?_⟩
  refine List.forall_mem_cons.mpr ⟨fun x => pieceMid _ _ _ _ _ _ _ _ _ _ 6 768 rfl slices_S2304x128_o768_0_S384x128 slices_S128x2304_o0_768_S128x384 _ _ _ _ (by decide) (by decide) 1 128 rfl inb_S2048x512_S128x128_768_128 x, ?_⟩
  refine List.forall_mem_cons.mpr ⟨fun x => pieceMid _ _ _ _ _ _ _ _ _ _ 6 768 rfl slices_S2304x128_o768_0_S384x128 slices_S128x2304_o0_768_S128x384 _ _ _ _ (by decide) (by decide) 0 0 rfl inb_S2048x512_S128x128_768_0 x, ?_⟩
  refine List.forall_mem_cons.mpr ⟨fun x => pieceMid _ _ _ _ _ _ _ _ _ _ 5 640 rfl slices_S2304x128_o640_0_S384x128 slices_S128x2304_o0_640_S128x384 _ _ _ _ (by decide) (by decide) 3 384 rfl inb_S2048x512_S128x128_640_384 x, ?_⟩
  refine List.forall_mem_cons.mpr ⟨fun x => pieceMid _ _ _ _ _ _ _ _ _ _ 5 640 rfl slices_S2304x128_o640_0_S384x128 slices_S128x2304_o0_640_S128x384 _ _ _ _ (by decide) (by decide) 2 256 rfl inb_S2048x512_S128x128_640_256 x, ?_⟩
  refine List.forall_mem_cons.mpr ⟨fun x => pieceMid _ _ _ _ _ _ _ _ _ _ 5 640 rfl slices_S2304x128_o640_0_S384x128 slices_S128x2304_o0_640_S128x384 _ _ _ _ (by decide) (by decide) 1 128 rfl inb_S2048x512_S128x128_640_128 x, ?_⟩
  refine List.forall_mem_cons.mpr ⟨fun x => pieceMid _ _ _ _ _ _ _ _ _ _ 5 640 rfl slices_S2304x128_o640_0_S384x128 slices_S128x2304_o0_640_S128x384 _ _ _ _ (by decide) (by decide) 0 0 rfl inb_S2048x512_S128x128_640_0 x, ?_⟩
  refine List.forall_mem_cons.mpr ⟨fun x => pieceMid _ _ _ _ _ _ _ _ _ _ 4 512 rfl slices_S2304x128_o512_0_S384x128 slices_S128x2304_o0_512_S128x384 _ _ _ _ (by decide) (by decide) 3 384 rfl inb_S2048x512_S128x128_512_384 x, ?_⟩
  refine List.forall_mem_cons.mpr ⟨fun x => pieceMid _ _ _ _ _ _ _ _ _ _ 4 512 rfl slices_S2304x128_o512_0_S384x128 slices_S128x2304_o0_512_S128x384 _ _ _ _ (by decide) (by decide) 2 256 rfl inb_S2048x512_S128x128_512_256 x, ?_⟩
  refine List.forall_mem_cons.mpr ⟨fun x => pieceMid _ _ _ _ _ _ _ _ _ _ 4 512 rfl slices_S2304x128_o512_0_S384x128 slices_S128x2304_o0_512_S128x384 _ _ _ _ (by decide) (by decide) 1 128 rfl inb_S2048x512_S128x128_512_128 x, ?_⟩
  refine List.forall_mem_cons.mpr ⟨fun x => pieceMid _ _ _ _ _ _ _ _ _ _ 4 512 rfl slices_S2304x128_o512_0_S384x128 slices_S128x2304_o0_512_S128x384 _ _ _ _ (by decide) (by decide) 0 0 rfl inb_S2048x512_S128x128_512_0 x, ?_⟩
  refine List.forall_mem_cons.mpr ⟨fun x => pieceMid _ _ _ _ _ _ _ _ _ _ 3 384 rfl slices_S2304x128_o384_0_S384x128 slices_S128x2304_o0_384_S128x384 _ _ _ _ (by decide) (by decide) 3 384 rfl inb_S2048x512_S128x128_384_384 x, ?_⟩
  refine List.forall_mem_cons.mpr ⟨fun x => pieceMid _ _ _ _ _ _ _ _ _ _ 3 384 rfl slices_S2304x128_o384_0_S384x128 slices_S128x2304_o0_384_S128x384 _ _ _ _ (by decide) (by decide) 2 256 rfl inb_S2048x512_S128x128_384_256 x, ?_⟩
  refine List.forall_mem_cons.mpr ⟨fun x => pieceMid _ _ _ _ _ _ _ _ _ _ 3 384 rfl slices_S2304x128_o384_0_S384x128 slices_S128x2304_o0_384_S128x384 _ _ _ _ (by decide) (by decide) 1 128 rfl inb_S2048x512_S128x128_384_128 x, ?_⟩
  refine List.forall_mem_cons.mpr ⟨fun x => pieceMid _ _ _ _ _ _ _ _ _ _ 3 384 rfl slices_S2304x128_o384_0_S384x128 slices_S128x2304_o0_384_S128x384 _ _ _ _ (by decide) (by decide) 0 0 rfl inb_S2048x512_S128x128_384_0 x, ?_⟩
  refine List.forall_mem_cons.mpr ⟨fun x => pieceMid _ _ _ _ _ _ _ _ _ _ 2 256 rfl slices_S2304x128_o256_0_S384x128 slices_S128x2304_o0_256_S128x384 _ _ _ _ (by decide) (by decide) 3 384 rfl inb_S2048x512_S128x128_256_384 x, ?_⟩
  refine List.forall_mem_cons.mpr ⟨fun x => pieceMid _ _ _ _ _ _ _ _ _ _ 2 256 rfl slices_S2304x128_o256_0_S384x128 slices_S128x2304_o0_256_S128x384 _ _ _ _ (by decide) (by decide) 2 256 rfl inb_S2048x512_S128x128_256_256 x, ?_⟩
  refine List.forall_mem_cons.mpr ⟨fun x => pieceMid _ _ _ _ _ _ _ _ _ _ 2 256 rfl slices_S2304x128_o256_0_S384x128 slices_S128x2304_o0_256_S128x384 _ _ _ _ (by decide) (by decide) 1 128 rfl inb_S2048x512_S128x128_256_128 x, ?_⟩
  refine List.forall_mem_cons.mpr ⟨fun x => pieceMid _ _ _ _ _ _ _ _ _ _ 2 256 rfl slices_S2304x128_o256_0_S384x128 slices_S128x2304_o0_256_S128x384 _ _ _ _ (by decide) (by decide) 0 0 rfl inb_S2048x512_S128x128_256_0 x, ?_⟩
  refine List.forall_mem_cons.mpr ⟨fun x => pieceMid _ _ _ _ _ _ _ _ _ _ 1 128 rfl slices_S2304x128_o128_0_S384x128 slices_S128x2304_o0_128_S128x384 _ _ _ _ (by decide) (by decide) 3 384 rfl inb_S2048x512_S128x128_128_384 x, ?_⟩
  refine List.forall_mem_cons.mpr ⟨fun x => pieceMid _ _ _ _ _ _ _ _ _ _ 1 128 rfl slices_S2304x128_o128_0_S384x128 slices_S128x2304_o0_128_S128x384 _ _ _ _ (by decide) (by decide) 2 256 rfl inb_S2048x512_S128x128_128_256 x, ?_⟩
  refine List.forall_mem_cons.mpr ⟨fun x => pieceMid _ _ _ _ _ _ _ _ _ _ 1 128 rfl slices_S2304x128_o128_0_S384x128 slices_S128x2304_o0_128_S128x384 _ _ _ _ (by decide) (by decide) 1 128 rfl inb_S2048x512_S128x128_128_128 x, ?_⟩
  refine List.forall_mem_cons.mpr ⟨fun x => pieceMid _ _ _ _ _ _ _ _ _ _ 1 128 rfl slices_S2304x128_o128_0_S384x128 slices_S128x2304_o0_128_S128x384 _ _ _ _ (by decide) (by decide) 0 0 rfl inb_S2048x512_S128x128_128_0 x, ?_⟩
  refine List.forall_mem_cons.mpr ⟨fun x => pieceFirst _ _ _ _ _ _ _ _ _ _ 0 0 rfl slices_S2304x128_o0_0_S384x128 slices_S128x2304_o0_0_S128x384 _ _ _ _ rfl 3 384 rfl inb_S2048x512_S128x128_0_384 x, ?_⟩
  refine List.forall_mem_cons.mpr ⟨fun x => pieceFirst _ _ _ _ _ _ _ _ _ _ 0 0 rfl slices_S2304x128_o0_0_S384x128 slices_S128x2304_o0_0_S128x384 _ _ _ _ rfl 2 256 rfl inb_S2048x512_S128x128_0_256 x, ?_⟩
  refine List.forall_mem_cons.mpr ⟨fun x => pieceFirst _ _ _ _ _ _ _ _ _ _ 0 0 rfl slices_S2304x128_o0_0_S384x128 slices_S128x2304_o0_0_S128x384 _ _ _ _ rfl 1 128 rfl inb_S2048x512_S128x128_0_128 x, ?_⟩
  refine List.forall_mem_cons.mpr ⟨fun x => pieceFirst _ _ _ _ _ _ _ _ _ _ 0 0 rfl slices_S2304x128_o0_0_S384x128 slices_S128x2304_o0_0_S128x384 _ _ _ _ rfl 0 0 rfl inb_S2048x512_S128x128_0_0 x, ?_⟩
  exact fun p hp => absurd hp List.not_mem_nil

end Swa

end

end
-- ==== Proof.Equation.lean ====
module

public import proofs.«01_k».proof.Proof.Tables
public import proofs.«01_k».proof.Proof.Lanes
public import proofs.«01_k».proof.Proof.Finite
public import proofs.«01_k».proof.Proof.Block

/-! The kernel's result, a block at a time, is the reference's: at every grid point the scores are the reference's times `1 / log 2`,
and the two means are then equal. -/

@[expose] public section

set_option maxRecDepth 16384

noncomputable section

namespace Swa

open Cert.KernelIdeal Cert.KernelIdeal.Gen Idealize.ShloMosaic Idealize.ShloMosaic.Tactic Idealize.SL.Sem Idealize.ShloMosaic.TcCoe

variable (m : (ℓ : Loc nD τ sig) → Buf (Elt Ideal) ℓ)

/-- The sequence that a grid point belongs to, and the block of 128 rows in it. -/
def seqOf (t : Fin cfg0.N) : Fin 8 := ⟨t.val / 2, by have h : t.val < 16 := N_eq ▸ t.isLt; omega⟩
def blockOf (t : Fin cfg0.N) (r : Fin 16) : Fin 32 := ⟨16 * (t.val % 2) + r.val, by omega⟩

theorem pay7_apply (x : Vec Ideal S384x1024 .f32) (k : Fin 384) (u : Fin 1024) : k0_pay7 (F := Ideal) x (ix2 k u) = x (ix2 k u) * (c2 : EReal) := by
  have hk : (Shape.rowMajor S384x1024 (ix2 k u)).val = (Shape.rowMajor S384x1024 (ix2 k u)).val := rfl
  unfold k0_pay7
  show shapeCast S384x1024 x shapeCasts_S384x1024_S384x1024 (ix2 k u) * _ = _
  rw [shapeCast_apply x _ (ix2 k u) (ix2 k u) rfl]
  show _ * (Named.named κ "log2_e" 0x3FB8AA3B#32 : Ideal .f32) = _
  rw [log2_e_named]

theorem pay8_apply (x : Vec Ideal S1x1024 .f32) (u : Fin 1024) : k0_pay8 (F := Ideal) x (ix2 0 u) = x (ix2 0 u) * (c2 : EReal) := by
  unfold k0_pay8
  show shapeCast S1x1024 x shapeCasts_S1x1024_S1x1024 (ix2 0 u) * _ = _
  rw [shapeCast_apply x _ (ix2 0 u) (ix2 0 u) rfl]
  show _ * (Named.named κ "log2_e" 0x3FB8AA3B#32 : Ideal .f32) = _
  rw [log2_e_named]

/-- The bias that a grid point adds. -/
theorem bias_at (d : Dev nD) (t : Fin cfg0.N) (c : Fin 4) (g : Fin 2) (i : Fin 128) (k : Fin 384) :
    k0_pay7 (F := Ideal) (iblk m d 7 t) (ix2 k ⟨256 * c.val + 128 * g.val + i.val, by omega⟩)
      = (if i.val ≤ k.val ∧ k.val ≤ i.val + 256 then biasArr m d (ix2 (bk i k) ⟨4 * g.val + c.val, by omega⟩) else ⊥) * (c2 : EReal) := by
  have e7 := idx7 t
  rw [pay7_apply]
  refine congrArg (· * (c2 : EReal)) ((iblk7_at m d t k _ (ix2 k ⟨256 * c.val + 128 * g.val + i.val, by omega⟩) ?_ ?_).trans
    ((biasTable_at m d c g i k _ rfl).trans (biasHead_at m d _ i k)))
  · rw [e7.1]; show k.val = _; omega
  · rw [e7.2]; show 256 * c.val + 128 * g.val + i.val = 0 * 1024 + (256 * c.val + 128 * g.val + i.val); omega

theorem emb_row (u : Fin 1024) :
    (Rect.unit (s := S8x1024) ![0, 0] S1x1024.size inb_S8x1024_S1x1024_0_0).emb (ix2 0 u) = ix2 0 u := by
  funext k
  match k with
  | ⟨0, _⟩ => exact Fin.ext (by rw [Rect.emb_apply]; rfl)
  | ⟨1, _⟩ => exact Fin.ext (by rw [Rect.emb_apply]; show 0 + 1 * u.val = u.val; omega)

/-- The sink that it reads. -/
theorem sink_at (d : Dev nD) (t : Fin cfg0.N) (c : Fin 4) (g : Fin 2) (i : Fin 128) :
    k0_pay8 (F := Ideal) (snkRow (iblk m d 8 t)) (ix2 0 ⟨256 * c.val + 128 * g.val + i.val, by omega⟩)
      = sinkOf (sinkArr m d) g c * (c2 : EReal) := by
  have e8 := idx8 t
  rw [pay8_apply]
  refine congrArg (· * (c2 : EReal)) (Eq.trans (congrArg (iblk m d 8 t : Vec Ideal S8x1024 .f32) (emb_row _)) ((iblk8_at m d t 0 _
    (ix2 0 ⟨256 * c.val + 128 * g.val + i.val, by omega⟩) ?_ ?_).trans (sinkTable_at m d c g i _ rfl)))
  · rw [e8.1]; rfl
  · rw [e8.2]; show 256 * c.val + 128 * g.val + i.val = 0 * 1024 + (256 * c.val + 128 * g.val + i.val); omega

/-- THE SCORES: the reference's times `1 / log 2`. -/
theorem blkScore_eq (d : Dev nD) (t : Fin cfg0.N) (r : Fin 16) (i : Fin 128) (c : Fin 4) (g : Fin 2) (k : Fin 384) :
    blkScore (grid0.coords t) (X0_0 m d t) (iblk m d 1 t) (iblk m d 2 t) (iblk m d 3 t) (iblk m d 7 t) r i c g k
      = score (hArr m d) (biasArr m d) (seqOf t) (blockOf t r) g c i k * (c2 : EReal) := by
  have ht : t.val < 16 := N_eq ▸ t.isLt
  unfold blkScore score
  rw [bias_at]
  by_cases hin : 128 ≤ 128 * (16 * (t.val % 2) + r.val) + k.val ∧ 128 * (16 * (t.val % 2) + r.val) + k.val < 4224
  · rw [edge_inside t r k hin, add_zero]
    by_cases hb : i.val ≤ k.val ∧ k.val ≤ i.val + 256
    · rw [if_pos hb, if_pos (show Valid (blockOf t r) i k from ⟨hb, hin⟩), EReal.right_distrib_of_nonneg_of_ne_top (by exact_mod_cast c2_pos.le) (EReal.coe_ne_top _),
        lanes_dot]
      refine congrArg (fun x => x * ((1 / 8 : ℝ) : EReal) * (c2 : EReal) + _) (Finset.sum_congr rfl fun e _ => ?_)
      refine congrArg₂ (· * ·) ?_ ?_
      · unfold bandAt
        refine Eq.trans ?_ (dif_pos hin).symm
        exact keys_at m d t _ _ _ (by dsimp only; omega) (by unfold seqOf blockOf; show 4096 * (t.val / 2) + (128 * (16 * (t.val % 2) + r.val) + k.val - 128) + 128 = 2048 * t.val + (128 * r.val + k.val); omega) rfl
      · exact x0_at m d t _ _ _ (by rw [(idx0 t).1]; show 4096 * (t.val / 2) + (128 * (16 * (t.val % 2) + r.val) + i.val) = t.val * 2048 + (128 * r.val + i.val); omega)
          (by rw [(idx0 t).2]; show 3072 + (128 * c.val + 64 * g.val + e.val) = 6 * 512 + (128 * c.val + (64 * g.val + e.val)); omega)
    · rw [if_neg hb, if_neg (show ¬ Valid (blockOf t r) i k from fun h => hb h.1), bot_mul_c2, EReal.add_bot]
  · rw [edge_outside t r k hin, EReal.add_bot, if_neg (show ¬ Valid (blockOf t r) i k from fun h => hin h.2), bot_mul_c2]

/-- A GRID POINT'S RESULT, at a row and a column. -/
theorem blkAt_eq (d : Dev nD) (hN : Nums (hArr m d) (sinkArr m d) (biasArr m d)) (t : Fin cfg0.N) (r : Fin 16) (i : Fin 128) (c : Fin 4) (g : Fin 2) (j : Fin 64)
    (u : Fin 128) (hu : u.val = 64 * g.val + j.val) :
    blkAt (grid0.coords t) (X0_0 m d t) (iblk m d 1 t) (iblk m d 2 t) (iblk m d 3 t) (iblk m d 4 t) (iblk m d 5 t) (iblk m d 6 t) (iblk m d 7 t) (iblk m d 8 t) r i c u
      = mean (score (hArr m d) (biasArr m d) (seqOf t) (blockOf t r) g c i)
          (fun k => bandAt (hArr m d) (seqOf t) (blockOf t r) k ⟨3712 + (64 * g.val + j.val), by omega⟩) (sinkOf (sinkArr m d) g c) := by
  have ht : t.val < 16 := N_eq ▸ t.isLt
  have hg : u.val / 64 = g.val := by omega
  obtain ⟨v, hv⟩ := u
  obtain rfl : v = 64 * g.val + j.val := hu
  have hg' : (⟨(64 * g.val + j.val) / 64, by omega⟩ : Fin 2) = g := Fin.ext hg
  unfold blkAt
  dsimp only
  rw [hg']
  have hs : k0_pay8 (F := Ideal) (snkRow (iblk m d 8 t)) (ix2 0 ⟨256 * c.val + 128 * ((64 * g.val + j.val) / 64) + i.val, by omega⟩)
      = sinkOf (sinkArr m d) g c * (c2 : EReal) := (congrArg _ (ix2_eq rfl (by dsimp only; dsimp only at hg; rw [hg]))).trans (sink_at m d t c g i)
  rw [hs, funext fun k => blkScore_eq m d t r i c g k, mean2_congr _ _ (fun k => bandAt (hArr m d) (seqOf t) (blockOf t r) k ⟨3712 + (64 * g.val + j.val), by omega⟩)]
  · exact mean2_eq_mean _ _ _ (sinkOf_num hN g c).ne_top (sinkOf_num hN g c).ne_bot (fun k => score_ne_top hN _ _ _ _ _ _)
  · intro k hk
    have hval : Valid (blockOf t r) i k := by
      by_contra hn
      refine hk ?_
      unfold score
      rw [if_neg hn, bot_mul_c2]
    have hin : 128 ≤ 128 * (16 * (t.val % 2) + r.val) + k.val ∧ 128 * (16 * (t.val % 2) + r.val) + k.val < 4224 := hval.2
    unfold bandAt
    refine Eq.trans ?_ (dif_pos hin).symm
    exact vals_at m d t _ _ _ (by dsimp only; omega) (by show 4096 * (t.val / 2) + (128 * (16 * (t.val % 2) + r.val) + k.val - 128) + 128 = 2048 * t.val + (128 * r.val + k.val); omega) rfl

end Swa

end

end
-- ==== Proof.Result.lean ====
module

public import proofs.«01_k».proof.Proof.Equation
public import proofs.«01_k».proof.Proof.Gen.KernelIdeal.Value
public import Idealize.ShloMosaic.Lib.Pipeline.Value

/-! The kernel's result array is the reference's: every block that a grid point writes is, and the blocks tile the
array. -/

@[expose] public section

set_option maxRecDepth 16384

noncomputable section

namespace Swa

open Cert.KernelIdeal Cert.KernelIdeal.Gen Idealize.ShloMosaic Idealize.ShloMosaic.Tactic Idealize.SL.Sem Idealize.ShloMosaic.TcCoe

variable (m : (ℓ : Loc nD τ sig) → Buf (Elt Ideal) ℓ)

/-- The output window cuts nothing off. -/
theorem cut9 (t : Fin cfg0.N) (f : Vec Ideal S2048x512 .bf16) (y : S2048x512.Idx) : (cfg0.win 9).cut (grid0.coords t) f y = f y := rfl

/-- Where an element of a point's block lies in the array. -/
theorem emb9_0 (t : Fin cfg0.N) (y : S2048x512.Idx) : ((win0_9.blk t).view.emb y 0).val = 2048 * t.val + (y 0).val := by
  show win0_9.index t 0 * 2048 + 1 * (y 0).val = _
  rw [(idx9 t).1]; omega
theorem emb9_1 (t : Fin cfg0.N) (y : S2048x512.Idx) : ((win0_9.blk t).view.emb y 1).val = (y 1).val := by
  show win0_9.index t 1 * 512 + 1 * (y 1).val = _
  rw [(idx9 t).2]; omega

/-- The blocks tile the array. -/
theorem mem9 (t : Fin cfg0.N) (i : S32768x512.Idx) (h : (i 0).val / 2048 = t.val) : i ∈ ((cfg0.win 9).blk t).view.set := by
  have h1 : (i 1).val < 512 := (i 1).isLt
  show i ∈ ((View.whole main_v114).slice (win0_9.rect t)).set
  rw [View.set_slice_whole, Rect.mem_set_unit]
  intro a
  match a with
  | ⟨0, _⟩ =>
    show win0_9.index t 0 * 2048 ≤ (i 0).val ∧ (i 0).val < win0_9.index t 0 * 2048 + 2048
    rw [(idx9 t).1]; omega
  | ⟨1, _⟩ =>
    show win0_9.index t 1 * 512 ≤ (i 1).val ∧ (i 1).val < win0_9.index t 1 * 512 + 512
    rw [(idx9 t).2]; omega

theorem cover9 (i : S32768x512.Idx) : ∃ t : Fin cfg0.N, (cfg0.win 9).flush t = true ∧ i ∈ ((cfg0.win 9).blk t).view.set := by
  have h0 : (i 0).val < 32768 := (i 0).isLt
  exact ⟨⟨(i 0).val / 2048, by rw [N_eq]; omega⟩, flush0_9 _, mem9 _ i rfl⟩

/-- An array that every point's block agrees with is the result. -/
theorem arr_of (d : Dev nD) (G : Buf (Elt Ideal) ((d : Thread nD τ).loc main_v114))
    (h : ∀ (t : Fin cfg0.N) (y : S2048x512.Idx), outsAt0 m d t y = G ((win0_9.blk t).view.emb y)) : (dats m 0 d).arrAt 9 cfg0.N = G := by
  refine (dats m 0 d).arrAt_eq_of_cover 9 G (fun t _ => ?_) cover9
  refine (Cert.KernelIdeal.Value.flushed9 m d t).trans (funext fun y => ?_)
  exact (cut9 t _ y).trans (h t y)

/-- A point's block is the reference's. -/
theorem point_eq (d : Dev nD) (hN : Nums (hArr m d) (sinkArr m d) (biasArr m d)) (t : Fin cfg0.N) (y : S2048x512.Idx) (q : S32768x512.Idx)
    (e0 : (q 0).val = 2048 * t.val + (y 0).val) (e1 : (q 1).val = (y 1).val) :
    outsAt0 m d t y = Cert.ReferenceIdeal.Read.val_main_v140 (F := Ideal) (hArr m d) (sinkArr m d) (biasArr m d) q := by
  have h0 : (y 0).val < 2048 := (y 0).isLt
  have h1 : (y 1).val < 512 := (y 1).isLt
  refine (outs_apply m d t y).trans ?_
  unfold blk
  refine (blkAt_eq m d hN t _ _ _ ⟨(y 1).val % 128 / 64, by omega⟩ ⟨(y 1).val % 64, by omega⟩ _ (by dsimp only; omega)).trans ?_
  refine (ref_at (hArr m d) (sinkArr m d) (biasArr m d) (seqOf t) (blockOf t _) _ _ _ _ q ?_ ?_).symm
  · rw [e0]
    show _ = 4096 * (t.val / 2) + (128 * (16 * (t.val % 2) + (y 0).val / 128) + (y 0).val % 128)
    omega
  · rw [e1]
    show _ = 128 * ((y 1).val / 128) + (64 * ((y 1).val % 128 / 64) + (y 1).val % 64)
    omega

/-- THE RESULT ARRAY. -/
theorem result_eq (d : Dev nD) (hN : Nums (hArr m d) (sinkArr m d) (biasArr m d)) :
    (dats m 0 d).arrAt 9 cfg0.N = Cert.ReferenceIdeal.Read.val_main_v140 (F := Ideal) (hArr m d) (sinkArr m d) (biasArr m d) :=
  arr_of m d _ fun t y => point_eq m d hN t y _ (emb9_0 t y) (emb9_1 t y)

end Swa

end

end
-- ==== Proof.MoeTables.lean ====
module

public import proofs.«01_k».proof.Proof.Gen.Kernel2Ideal
public import proofs.«01_k».proof.Proof.Gen.Kernel2Ideal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.WordCmp

/-! The two tables that steer the grouped product: the expert of each tile of tokens, and how many tiles hold tokens.
They stay symbolic; what the kernel reads of them, and where its windows stand, is stated in plain numbers. -/

@[expose] public section

set_option maxRecDepth 16384

noncomputable section

namespace Moe

open Cert.Kernel2Ideal Cert.Kernel2Ideal.Gen
open Idealize.ShloMosaic
open Idealize.ShloMosaic.TcCoe Idealize.ShloMosaic.Tactic
open Idealize.SL.Sem

/-- The buffers of the tables and of the scratch, whole. -/
abbrev tbM0_0 : Memref sig .tc .smem S137 .i32 := Memref.whole main_arg0
abbrev tbM0_1 : Memref sig .tc .smem S1 .i32 := Memref.whole main_arg1
abbrev scM0_0 : Memref sig .tc .vmem S512x1024 .bf16 := Memref.whole cc0_scratch0
abbrev scM0_1 : Memref sig .tc .vmem S512x1024 .f32 := Memref.whole cc0_scratch1

/-- The tables of a program at the floats `F`: each tile's expert is one of eight, and the number of tiles that hold tokens is positive. -/
structure Tabs (F : FTy → Type) where
  T0 : S137.Idx → BitVec 32
  n : BitVec 32
  lt8 : ∀ x, (T0 x).toNat < 8
  pos : 1 ≤ n.toNat
  lt31 : n.toNat < 2147483648

variable {F : FTy → Type} [FloatOps F] (T : Tabs F)

/-- The second table as the kernel holds it: one word. -/
def Tabs.T1 (T : Tabs F) : S1.Idx → BitVec 32 := fun _ => T.n

/-- The tables' contents. -/
def tabPf : pre0.Contents (Elt F) := fun | ⟨0, _⟩ => T.T0 | ⟨1, _⟩ => T.T1 | ⟨_ + 2, h⟩ => absurd h (by simp)

/-- Where a grid point's tile stands in the first table. -/
def rowIdx (i : grid0.Coords) : S137.Idx := fun a => ⟨(i 0).val, by fin_cases a; exact (i 0).isLt⟩

theorem i0_lt (i : grid0.Coords) : (i 0).val < 137 := (i 0).isLt
theorem i1_lt (i : grid0.Coords) : (i 1).val < 2 := (i 1).isLt

/-! ## The body's decisions -/

theorem ne_extui (b : Bool) : Scalar.cmpi .ne (Scalar.extui (BitVec.ofBool b)) 0#32 = BitVec.ofBool b := by cases b <;> rfl

theorem ofBool_one (b : Bool) : BitVec.ofBool b = 1#1 ↔ b = true := by cases b <;> decide

theorem toNat_small {a : ℕ} (h : a < 137) : (BitVec.ofNat 32 a).toNat = a := by
  rw [BitVec.toNat_ofNat]; omega

theorem toInt_small {x : BitVec 32} (h : x.toNat < 2147483648) : x.toInt = (x.toNat : ℤ) := by
  rw [BitVec.toInt_eq_toNat_cond]; split <;> omega

theorem slt_small {a : ℕ} (ha : a < 137) {w : BitVec 32} (hw : w.toNat < 2147483648) :
    Scalar.cmpi .slt (BitVec.ofNat 32 a) w = BitVec.ofBool (decide (a < w.toNat)) := by
  show BitVec.ofBool (decide ((BitVec.ofNat 32 a).toInt < w.toInt)) = _
  rw [toInt_small (by rw [toNat_small ha]; omega), toInt_small hw, toNat_small ha]
  simp only [Nat.cast_lt]

theorem sge_small {a : ℕ} (ha : a < 137) {w : BitVec 32} (hw : w.toNat < 2147483648) :
    Scalar.cmpi .sge (BitVec.ofNat 32 a) w = BitVec.ofBool (decide (w.toNat ≤ a)) := by
  show BitVec.ofBool (decide (w.toInt ≤ (BitVec.ofNat 32 a).toInt)) = _
  rw [toInt_small hw, toInt_small (by rw [toNat_small ha]; omega), toNat_small ha]
  simp only [Nat.cast_le]

/-- The tile holds tokens. -/
theorem cond1_iff (i : grid0.Coords) : k0_cond1 i T.n = 1#1 ↔ (i 0).val < T.n.toNat := by
  unfold k0_cond1
  dsimp only
  rw [slt_small (i0_lt i) T.lt31, ne_extui, ofBool_one, decide_eq_true_iff]

/-- The first half of the hidden units. -/
theorem cond2_iff (i : grid0.Coords) :
    (Scalar.cmpi .ne (Scalar.extui (Scalar.cmpi .eq (BitVec.ofNat 32 (i 1).val) 0#32)) 0#32) = 1#1 ↔ (i 1).val = 0 := by
  have h := i1_lt i
  rcases (by omega : (i 1).val = 0 ∨ (i 1).val = 1) with e | e <;> rw [e] <;> decide

/-- The second half of the hidden units. -/
theorem cond3_iff (i : grid0.Coords) : k0_cond3 i = 1#1 ↔ (i 1).val = 1 := by
  unfold k0_cond3
  dsimp only
  have h := i1_lt i
  rcases (by omega : (i 1).val = 0 ∨ (i 1).val = 1) with e | e <;> rw [e] <;> decide

/-- The tile holds no tokens, first half. -/
theorem cond4_iff (i : grid0.Coords) : k0_cond4 i T.n = 1#1 ↔ T.n.toNat ≤ (i 0).val ∧ (i 1).val = 0 := by
  unfold k0_cond4
  dsimp only
  rw [sge_small (i0_lt i) T.lt31]
  have h := i1_lt i
  by_cases hc : T.n.toNat ≤ (i 0).val
  · rw [decide_eq_true hc]
    rcases (by omega : (i 1).val = 0 ∨ (i 1).val = 1) with e | e <;> rw [e] <;> simp only [hc, true_and] <;> decide
  · rw [decide_eq_false hc]
    rcases (by omega : (i 1).val = 0 ∨ (i 1).val = 1) with e | e <;> rw [e] <;> simp only [hc, false_and, iff_false] <;> decide

/-! ## Where the windows stand -/

theorem pf_at_one (r : Rect (pre0.ref 1).ty.shape) (h : r.shape.numel = 1) : (tabPf T).at 1 r h = T.n := rfl

theorem minsi_small {a : ℕ} (ha : a < 137) : (Scalar.minsi (BitVec.ofNat 32 a) (Scalar.subi T.n 1#32)).toNat = min a (T.n.toNat - 1) := by
  have hp := T.pos
  have hl := T.lt31
  have hs : (Scalar.subi T.n 1#32).toNat = T.n.toNat - 1 := by
    show (T.n - 1#32).toNat = _
    rw [BitVec.toNat_sub, show (1#32).toNat = 1 from rfl]; omega
  show (if (BitVec.ofNat 32 a).slt (Scalar.subi T.n 1#32) then BitVec.ofNat 32 a else Scalar.subi T.n 1#32).toNat = _
  have hc : (BitVec.ofNat 32 a).slt (Scalar.subi T.n 1#32) = decide (a < T.n.toNat - 1) := by
    show decide ((BitVec.ofNat 32 a).toInt < (Scalar.subi T.n 1#32).toInt) = _
    rw [toInt_small (by rw [toNat_small ha]; omega), toInt_small (by rw [hs]; omega), toNat_small ha, hs]
    simp only [Nat.cast_lt]
  rw [hc]
  by_cases h : a < T.n.toNat - 1
  · rw [decide_eq_true h, if_pos rfl, toNat_small ha]; omega
  · rw [decide_eq_false h, if_neg Bool.false_ne_true, hs]; omega

/-- The half of the hidden units a point reads: a tile without tokens stays at the last. -/
def half (i : grid0.Coords) : ℕ := if (i 0).val < T.n.toNat then (i 1).val else 1

theorem half_lt (i : grid0.Coords) : half T i < 2 := by
  unfold half; split
  · exact i1_lt i
  · decide

theorem select_half (i : grid0.Coords) :
    (Scalar.select (Scalar.cmpi .slt (BitVec.ofNat 32 (i 0).val) T.n) (BitVec.ofNat 32 (i 1).val) 1#32).toNat = half T i := by
  rw [slt_small (i0_lt i) T.lt31]
  unfold half
  have h := i1_lt i
  by_cases hc : (i 0).val < T.n.toNat
  · rw [decide_eq_true hc, if_pos hc]
    show (BitVec.ofNat 32 (i 1).val).toNat = _
    exact toNat_small (by omega)
  · rw [decide_eq_false hc, if_neg hc]
    rfl

theorem row_at (i : grid0.Coords) : (tabPf T).at 0 (Rect.unit (s := S137) (k0_off1 i) S1.size (k0_off1_inb i)) numel1_S1 = T.T0 (rowIdx i) := by
  show T.T0 _ = T.T0 _
  refine congrArg T.T0 (funext fun a => Fin.ext ?_)
  have hf : ((Shape.Idx.first (numel1_S1.symm ▸ Nat.one_pos) : S1.Idx) 0).val = 0 :=
    Nat.lt_one_iff.mp ((Shape.Idx.first (numel1_S1.symm ▸ Nat.one_pos) : S1.Idx) 0).isLt
  fin_cases a
  show (BitVec.ofNat 32 (i 0).val).toNat + 1 * ((Shape.Idx.first (numel1_S1.symm ▸ Nat.one_pos) : S1.Idx) 0).val = (i 0).val
  rw [hf, toNat_small (i0_lt i), Nat.mul_zero, Nat.add_zero]

theorem tr0 (i : grid0.Coords) : cc0_transform_0 inb_S1_S1_0 numel1_S1 (tabPf T) i = ![min (i 0).val (T.n.toNat - 1), 0, 0] := by
  show ![(Scalar.minsi (BitVec.ofNat 32 (i 0).val) (Scalar.subi T.n 1#32)).toNat, 0, 0] = _
  rw [minsi_small T (i0_lt i)]

theorem tr1 (i : grid0.Coords) : cc0_transform_1 k0_off1_inb numel1_S1 inb_S1_S1_0 (tabPf T) i = ![(T.T0 (rowIdx i)).toNat, 0, half T i] := by
  rw [← select_half, ← row_at]
  rfl

theorem tr2 (i : grid0.Coords) : cc0_transform_2 k0_off1_inb numel1_S1 inb_S1_S1_0 (tabPf T) i = ![(T.T0 (rowIdx i)).toNat, 0, half T i] := by
  rw [← select_half, ← row_at]
  rfl

theorem tr3 (i : grid0.Coords) : cc0_transform_3 k0_off1_inb numel1_S1 inb_S1_S1_0 (tabPf T) i = ![(T.T0 (rowIdx i)).toNat, half T i, 0] := by
  rw [← select_half, ← row_at]
  rfl

/-- The windows' blocks are inside their arrays at any such tables. -/
theorem tab_ok : ok0 (F := F) (tabPf T) := by
  have h0 := T.lt8
  have hp := T.pos
  have hl := T.lt31
  refine ⟨fun i => ⟨?_, .inl rfl⟩, fun i => ⟨?_, .inr (Affine.block_words_dvd (s := S8x1024x3584) (p := EltTy.packing .bf16) (by decide) (by decide))⟩,
    fun i => ⟨?_, .inr (Affine.block_words_dvd (s := S8x1024x3584) (p := EltTy.packing .bf16) (by decide) (by decide))⟩,
    fun i => ⟨?_, .inr (Affine.block_words_dvd (s := S8x3584x1024) (p := EltTy.packing .bf16) (by decide) (by decide))⟩⟩
  · intro a
    rw [tr0]
    have := i0_lt i
    fin_cases a
    · show (min (i 0).val (T.n.toNat - 1) + 1) * 512 ≤ 70144; omega
    · show (0 + 1) * 8 ≤ 8; omega
    · show (0 + 1) * 128 ≤ 128; omega
  · intro a
    rw [tr1]
    have h1 := h0 (rowIdx i)
    have h2 := half_lt T i
    fin_cases a
    · show ((T.T0 (rowIdx i)).toNat + 1) * 1 ≤ 8; omega
    · show (0 + 1) * 1024 ≤ 1024; omega
    · show (half T i + 1) * 1792 ≤ 3584; omega
  · intro a
    rw [tr2]
    have h1 := h0 (rowIdx i)
    have h2 := half_lt T i
    fin_cases a
    · show ((T.T0 (rowIdx i)).toNat + 1) * 1 ≤ 8; omega
    · show (0 + 1) * 1024 ≤ 1024; omega
    · show (half T i + 1) * 1792 ≤ 3584; omega
  · intro a
    rw [tr3]
    have h1 := h0 (rowIdx i)
    have h2 := half_lt T i
    fin_cases a
    · show ((T.T0 (rowIdx i)).toNat + 1) * 1 ≤ 8; omega
    · show (half T i + 1) * 1792 ≤ 3584; omega
    · show (0 + 1) * 1024 ≤ 1024; omega

/-- The tables with the fact that the windows stand inside their arrays at them. -/
def adm : (pcfg0 (F := F)).Adm := ⟨tabPf T, tab_ok T⟩
abbrev cfgT : Pipeline.Cfg sig Λ₀ := cfg0 (F := F) (adm T)
abbrev pcsT : Fin 1 → Pipeline.Cfg sig Λ₀ := Pipeline.pin (pcfgs (F := F)) fun _ => adm T

/-! ## The schedule -/

/-- Point `t`'s coordinates: tile `t / 2`, half `t % 2`. -/
abbrev crd (t : Fin (cfgT T).N) : grid0.Coords := (cfgT T).grid.coords t

theorem t_lt (t : Fin (cfgT T).N) : t.val < 274 := lt_of_lt_of_eq t.isLt N_0

theorem crd0 (t : Fin (cfgT T).N) : (crd T t 0).val = t.val / 2 := by
  have h := t_lt T t
  refine (Pipeline.Grid.coords_val (G := grid0) t 0 (S := 2) (B := 137) (by decide) (by decide)).trans ?_
  omega

theorem crd1 (t : Fin (cfgT T).N) : (crd T t 1).val = t.val % 2 := by
  refine (Pipeline.Grid.coords_val (G := grid0) t 1 (S := 1) (B := 2) (by decide) (by decide)).trans ?_
  omega

/-- The tile of point `t` holds tokens. -/
abbrev Live (t : Fin (cfgT T).N) : Prop := t.val / 2 < T.n.toNat

theorem idle_eq (t : Fin (cfgT T).N) : (cfgT T).idle (4 : Fin 5) (crd T t) = decide (Live T t ↔ t.val % 2 = 0) := by
  show (!(k0_cond1 (crd T t) T.n == 1#1 && k0_cond3 (crd T t) == 1#1) && !(k0_cond4 (crd T t) T.n == 1#1)) = _
  have h1 := cond1_iff T (crd T t)
  have h3 := cond3_iff (crd T t)
  have h4 := cond4_iff T (crd T t)
  rw [crd0] at h1 h4
  rw [crd1] at h3 h4
  have e : ∀ x : BitVec 1, (x == 1#1) = decide (x = 1#1) := fun x => by
    by_cases h : x = 1#1
    · rw [h]; rfl
    · rw [decide_eq_false h]; exact beq_eq_false_iff_ne.mpr h
  rw [e, e, e, Bool.eq_iff_iff]
  simp only [Bool.and_eq_true, Bool.not_eq_true', Bool.and_eq_false_iff, decide_eq_false_iff_not, decide_eq_true_iff, h1, h3, h4, Live]
  omega

theorem flush_tab : ∀ t : Fin grid0.N, Pipeline.Window.flushOf grid0 true cc0_transform_4 t = decide (t.val % 2 = 1) := by decide +kernel

theorem flush_eq (t : Fin (cfgT T).N) : ((cfgT T).win (4 : Fin 5)).flush t = decide (t.val % 2 = 1) := flush_tab t

/-- Nothing has been stored into the output's staging buffer before position `k` since its last write-back. -/
def freshTab (k : ℕ) : Bool := decide (k % 2 = 0 ∨ (k - 1) / 2 < T.n.toNat)

theorem fresh_eq (t : Fin (cfgT T).N) : (cfgT T).fresh (4 : Fin 5) t.val = decide (t.val % 2 = 0 ∨ Live T t) := by
  refine (Pipeline.Cfg.fresh_tab (cfgT T) (4 : Fin 5) (freshTab T) rfl (fun s => ?_) t.val (Nat.le_of_lt t.isLt)).trans ?_
  · rw [flush_eq, idle_eq]
    unfold freshTab
    rw [Bool.eq_iff_iff]
    simp only [Bool.or_eq_true, Bool.and_eq_true, decide_eq_true_iff, Live]
    omega
  · unfold freshTab
    rw [Bool.eq_iff_iff]
    simp only [decide_eq_true_iff, Live]
    omega

end Moe

end
-- ==== Proof.MoeRun.lean ====
module

public import proofs.«01_k».proof.Proof.Gen.Kernel2Ideal.Skeleton
public import proofs.«01_k».proof.Proof.MoeTables
public import Idealize.ShloMosaic.Lib.Pipeline.ValueKit.Acc

/-! The body run on its four paths, at any floats, and what it leaves: the sum of one half's products, the finished block, or zeros. -/

@[expose] public section

set_option maxRecDepth 16384

noncomputable section

namespace Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The resources the proof speaks of. -/
abbrev MM (F : FTy → Type) := MT nD τ sig Unit (Elt F) ℕ (UR sig nD τ) ℕ
abbrev EM : Emb (UR sig nD τ) (MM F) := emb₁

/-- What the accumulator holds after one half of the hidden units, from what it held before. -/
abbrev halfSum (x0 : S512x8x128.Idx → Elt F .f32) (x1 x2 : S1x1024x1792.Idx → Elt F .bf16) (x3 : S1x1792x1024.Idx → Elt F .bf16)
    (a : S512x1024.Idx → Elt F .f32) : S512x1024.Idx → Elt F .f32 :=
  k0_pay1 (F := F) (k0_pay5 (F := F) x0 x1 x2 a x3)

theorem off2 : ∀ a : Fin 2, (![0, 0] : Fin 2 → ℕ) a = 0 := by decide
theorem off3 : ∀ a : Fin 3, (![0, 0, 0] : Fin 3 → ℕ) a = 0 := by decide

/-- After a store that covers the whole shape, the view reads what was stored. -/
theorem read_writes_unit {S : Shape} {e : EltTy} {κ : Kind} {sp : Space} (v : View sig κ sp S e) (f : v.ty.Contents (Elt F))
    {off : Fin S.rank → ℕ} (inb : ∀ a, off a + S.size a ≤ S.size a) (w : S.Idx → Elt F e) (L : List (View.Piece (Elt F) S e))
    (h : ∀ a, off a = 0) : v.read (Elt F) (v.writes (Elt F) f (⟨Rect.unit off S.size inb, w⟩ :: L)) = w := by
  obtain rfl : off = fun _ => 0 := funext h
  rw [View.read_writes_eq_canon _ _ _ (fun y => ⟨_, List.mem_cons_self, by
    show y ∈ (Rect.whole S).set; rw [Rect.set_whole]; exact Finset.mem_univ y⟩)]
  exact View.canon_cons_unit_lit' inb w L h

/-- A load of the whole shape reads what the buffer was given. -/
theorem readAt_unit_rep {S : Shape} {e : EltTy} {κ : Kind} {sp : Space} (v : View sig κ sp S e) (x : S.Idx → Elt F e)
    {off : Fin S.rank → ℕ} (inb : ∀ a, off a + S.size a ≤ S.size a) (h : ∀ a, off a = 0) :
    v.readAt (Elt F) (Rect.unit off S.size inb).toLoadRect (v.rep x) = x := by
  rw [View.readAt_eq_ld, View.read_rep]; exact View.ld_unit_lit' inb x h

variable (c : Dev nD) (i : grid0.Coords)
  (arg4 : Memref sig .tc .vmem S512x8x128 .f32) (harg4 : arg4.IsWhole) (arg5 : Memref sig .tc .vmem S1x1024x1792 .bf16) (harg5 : arg5.IsWhole)
  (arg6 : Memref sig .tc .vmem S1x1024x1792 .bf16) (harg6 : arg6.IsWhole) (arg7 : Memref sig .tc .vmem S1x1792x1024 .bf16) (harg7 : arg7.IsWhole)
  (arg8 : Memref sig .tc .vmem S512x8x128 .f32) (harg8 : arg8.IsWhole) (T0 : S137.Idx → Elt F .i32) (T1 : S1.Idx → Elt F .i32)
  (x0 : S512x8x128.Idx → Elt F .f32) (x1 x2 : S1x1024x1792.Idx → Elt F .bf16) (x3 : S1x1792x1024.Idx → Elt F .bf16)
  (xa0 : Buf (Elt F) ((c : Thread nD τ).loc cc0_scratch0)) (xa1 : Buf (Elt F) ((c : Thread nD τ).loc cc0_scratch1))

/-- How many tiles hold tokens, as the body reads it. -/
abbrev usedWord (T1 : S1.Idx → Elt F .i32) : Elt F .i32 :=
  View.readAt (Elt F) (tbM0_1).view (Rect.unit (s := S1) ![0] S1.size inb_S1_S1_0).toLoadRect T1 (Shape.Idx.first (numel1_S1.symm ▸ Nat.one_pos))

/-- The body's decision that its point is of the first half. -/
abbrev firstHalf (i : grid0.Coords) : BitVec 1 := Scalar.cmpi .ne (Scalar.extui (Scalar.cmpi .eq (BitVec.ofNat 32 (i 1).val) 0#32)) 0#32

/-- The body at a point on its buffers. -/
abbrev bodyOn : Prog (TpuEff nD τ sig (Elt F) Λ₀ .tc) PUnit :=
  cc0_moe_group i tbM0_0 (Memref.isWhole_whole _) tbM0_1 (Memref.isWhole_whole _) arg4 harg4 arg5 harg5 arg6 harg6 arg7 harg7 arg8 harg8 scM0_0 (Memref.isWhole_whole _) scM0_1 (Memref.isWhole_whole _)

/-- What the body reads and leaves as it was, and beside it `R`. -/
abbrev Held (R : sProp (MM F)) : sProp (MM F) :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (arg7.view.loc (c : Thread nD τ) ↦[arg7.view.set]{fullShare} arg7.view.rep x3)
    ∗ (tbM0_0.view.loc (c : Thread nD τ) ↦{fullShare.right} T0)
    ∗ (tbM0_1.view.loc (c : Thread nD τ) ↦{fullShare.right} T1) ∗ R)

set_option backward.proofsInPublic true in
set_option maxHeartbeats 8000000 in
/-- First half of a tile with tokens: the sum is begun. -/
def runA (h1 : k0_cond1 i (usedWord T1) = 1#1) (h2 : firstHalf i = 1#1)
    (h3 : ¬k0_cond3 i = 1#1) (h4 : ¬k0_cond4 i (usedWord T1) = 1#1) :
    Σ' (out0 : Buf (Elt F) ((c : Thread nD τ).loc cc0_scratch0)), { out1 : Buf (Elt F) ((c : Thread nD τ).loc cc0_scratch1) //
      ∀ (y4 : S512x8x128.Idx → Elt F .f32) (xa1 : Buf (Elt F) ((c : Thread nD τ).loc cc0_scratch1)) (K : PUnit → sProp (MM F)),
        iprop(Held c arg4 arg5 arg6 arg7 T0 T1 x0 x1 x2 x3 iprop((owns (c : Thread nD τ) arg8 fullShare y4) ∗ (scM0_0.view.loc (c : Thread nD τ) ↦{fullShare} xa0) ∗ (scM0_1.view.loc (c : Thread nD τ) ↦{fullShare} xa1)
            ∗ (Held c arg4 arg5 arg6 arg7 T0 T1 x0 x1 x2 x3 iprop((owns (c : Thread nD τ) arg8 fullShare y4) ∗ (scM0_0.view.loc (c : Thread nD τ) ↦{fullShare} out0) ∗ (scM0_1.view.loc (c : Thread nD τ) ↦{fullShare} out1)) -∗ K ⟨⟩)))
          ⊢ wp frame (wpE (defs₀ (F := F)) Variants.none c none) Set.univ (bodyOn i arg4 harg4 arg5 harg5 arg6 harg6 arg7 harg7 arg8 harg8) K } :=
  ⟨_, _, fun y4 xa1 K => by
    unfold Held bodyOn owns
    rw [cc0_moe_group_eq_skeleton]; unfold cc0_moe_group_skel
    iintro ⟨H0, H1, H2, H3, HT0, HT1, ⟨%f4, %hf4, HO4⟩, HS0, HS1, Hk⟩
    obtain rfl := harg8.eq_unread hf4
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = k0_cond1 _ _ = _; exact h1) | (guard_target = Scalar.cmpi = _; exact h2) | (guard_target = ¬(k0_cond3 _ = _); exact h3) | (guard_target = ¬(k0_cond4 _ _ = _); exact h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg8.read_unread _
      iexact HO4
    isplitl [HS0]; · iexact HS0
    iexact HS1⟩

set_option backward.proofsInPublic true in
set_option maxHeartbeats 8000000 in
/-- Second half of a tile with tokens: the block is stored. -/
def runB (h1 : k0_cond1 i (usedWord T1) = 1#1) (h2 : ¬firstHalf i = 1#1)
    (h3 : k0_cond3 i = 1#1) (h4 : ¬k0_cond4 i (usedWord T1) = 1#1) :
    Σ' (pieces : List (View.Piece (Elt F) S512x8x128 .f32)) (out0 : Buf (Elt F) ((c : Thread nD τ).loc cc0_scratch0)), { out1 : Buf (Elt F) ((c : Thread nD τ).loc cc0_scratch1) //
      ∀ (K : PUnit → sProp (MM F)),
        iprop(Held c arg4 arg5 arg6 arg7 T0 T1 x0 x1 x2 x3 iprop((∃ d, owns (c : Thread nD τ) arg8 fullShare d) ∗ (scM0_0.view.loc (c : Thread nD τ) ↦{fullShare} xa0) ∗ (scM0_1.view.loc (c : Thread nD τ) ↦{fullShare} xa1)
            ∗ (Held c arg4 arg5 arg6 arg7 T0 T1 x0 x1 x2 x3 iprop((∃ f, arg8.view.loc (c : Thread nD τ) ↦[arg8.view.set]{fullShare} arg8.view.writes (Elt F) f pieces) ∗ (scM0_0.view.loc (c : Thread nD τ) ↦{fullShare} out0) ∗ (scM0_1.view.loc (c : Thread nD τ) ↦{fullShare} out1)) -∗ K ⟨⟩)))
          ⊢ wp frame (wpE (defs₀ (F := F)) Variants.none c none) Set.univ (bodyOn i arg4 harg4 arg5 harg5 arg6 harg6 arg7 harg7 arg8 harg8) K } :=
  ⟨_, _, _, fun K => by
    unfold Held bodyOn owns
    rw [cc0_moe_group_eq_skeleton]; unfold cc0_moe_group_skel
    iintro ⟨H0, H1, H2, H3, HT0, HT1, ⟨%d4, %f4, -, HO4⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = k0_cond1 _ _ = _; exact h1) | (guard_target = ¬(Scalar.cmpi = _); exact h2) | (guard_target = k0_cond3 _ = _; exact h3) | (guard_target = ¬(k0_cond4 _ _ = _); exact h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

set_option backward.proofsInPublic true in
set_option maxHeartbeats 8000000 in
/-- First half of a tile without tokens: zeros are stored. -/
def runC (h1 : ¬k0_cond1 i (usedWord T1) = 1#1) (h4 : k0_cond4 i (usedWord T1) = 1#1) :
    Σ' (pieces : List (View.Piece (Elt F) S512x8x128 .f32)) (out0 : Buf (Elt F) ((c : Thread nD τ).loc cc0_scratch0)), { out1 : Buf (Elt F) ((c : Thread nD τ).loc cc0_scratch1) //
      ∀ (K : PUnit → sProp (MM F)),
        iprop(Held c arg4 arg5 arg6 arg7 T0 T1 x0 x1 x2 x3 iprop((∃ d, owns (c : Thread nD τ) arg8 fullShare d) ∗ (scM0_0.view.loc (c : Thread nD τ) ↦{fullShare} xa0) ∗ (scM0_1.view.loc (c : Thread nD τ) ↦{fullShare} xa1)
            ∗ (Held c arg4 arg5 arg6 arg7 T0 T1 x0 x1 x2 x3 iprop((∃ f, arg8.view.loc (c : Thread nD τ) ↦[arg8.view.set]{fullShare} arg8.view.writes (Elt F) f pieces) ∗ (scM0_0.view.loc (c : Thread nD τ) ↦{fullShare} out0) ∗ (scM0_1.view.loc (c : Thread nD τ) ↦{fullShare} out1)) -∗ K ⟨⟩)))
          ⊢ wp frame (wpE (defs₀ (F := F)) Variants.none c none) Set.univ (bodyOn i arg4 harg4 arg5 harg5 arg6 harg6 arg7 harg7 arg8 harg8) K } :=
  ⟨_, _, _, fun K => by
    unfold Held bodyOn owns
    rw [cc0_moe_group_eq_skeleton]; unfold cc0_moe_group_skel
    iintro ⟨H0, H1, H2, H3, HT0, HT1, ⟨%d4, %f4, -, HO4⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(k0_cond1 _ _ = _); exact h1) | (guard_target = k0_cond4 _ _ = _; exact h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

set_option backward.proofsInPublic true in
set_option maxHeartbeats 8000000 in
/-- Second half of a tile without tokens: nothing is done. -/
def runD (h1 : ¬k0_cond1 i (usedWord T1) = 1#1) (h4 : ¬k0_cond4 i (usedWord T1) = 1#1) :
    Σ' (out0 : Buf (Elt F) ((c : Thread nD τ).loc cc0_scratch0)), { out1 : Buf (Elt F) ((c : Thread nD τ).loc cc0_scratch1) //
      ∀ (y4 : S512x8x128.Idx → Elt F .f32) (K : PUnit → sProp (MM F)),
        iprop(Held c arg4 arg5 arg6 arg7 T0 T1 x0 x1 x2 x3 iprop((owns (c : Thread nD τ) arg8 fullShare y4) ∗ (scM0_0.view.loc (c : Thread nD τ) ↦{fullShare} xa0) ∗ (scM0_1.view.loc (c : Thread nD τ) ↦{fullShare} xa1)
            ∗ (Held c arg4 arg5 arg6 arg7 T0 T1 x0 x1 x2 x3 iprop((owns (c : Thread nD τ) arg8 fullShare y4) ∗ (scM0_0.view.loc (c : Thread nD τ) ↦{fullShare} out0) ∗ (scM0_1.view.loc (c : Thread nD τ) ↦{fullShare} out1)) -∗ K ⟨⟩)))
          ⊢ wp frame (wpE (defs₀ (F := F)) Variants.none c none) Set.univ (bodyOn i arg4 harg4 arg5 harg5 arg6 harg6 arg7 harg7 arg8 harg8) K } :=
  ⟨_, _, fun y4 K => by
    unfold Held bodyOn owns
    rw [cc0_moe_group_eq_skeleton]; unfold cc0_moe_group_skel
    iintro ⟨H0, H1, H2, H3, HT0, HT1, ⟨%f4, %hf4, HO4⟩, HS0, HS1, Hk⟩
    obtain rfl := harg8.eq_unread hf4
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(k0_cond1 _ _ = _); exact h1) | (guard_target = ¬(k0_cond4 _ _ = _); exact h4))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg8.read_unread _
      iexact HO4
    isplitl [HS0]; · iexact HS0
    iexact HS1⟩

/-- The accumulator after the first half. -/
theorem accA (h1 : k0_cond1 i (usedWord T1) = 1#1) (h2 : firstHalf i = 1#1)
    (h3 : ¬k0_cond3 i = 1#1) (h4 : ¬k0_cond4 i (usedWord T1) = 1#1) :
    (runA c i arg4 harg4 arg5 harg5 arg6 harg6 arg7 harg7 arg8 harg8 T0 T1 x0 x1 x2 x3 xa0 h1 h2 h3 h4).2.1 = halfSum x0 x1 x2 x3 (k0_pay4 (F := F)) := by
  unfold runA
  dsimp only
  sl_unfold_words
  refine (View.read_whole cc0_scratch1 _).symm.trans ((read_writes_unit (S := S512x1024) (e := .f32) (View.whole cc0_scratch1) _ _ _ _ off2).trans ?_)
  rw [readAt_unit_rep _ _ _ off3, readAt_unit_rep _ _ _ off3, readAt_unit_rep _ _ _ off3, readAt_unit_rep _ _ _ off3,
    View.readCov_unit_lit' _ _ _ off2]

/-- The block the second half leaves. -/
theorem outB (h1 : k0_cond1 i (usedWord T1) = 1#1) (h2 : ¬firstHalf i = 1#1)
    (h3 : k0_cond3 i = 1#1) (h4 : ¬k0_cond4 i (usedWord T1) = 1#1) (f : arg8.view.ty.Contents (Elt F)) :
    arg8.view.read (Elt F) (arg8.view.writes (Elt F) f (runB c i arg4 harg4 arg5 harg5 arg6 harg6 arg7 harg7 arg8 harg8 T0 T1 x0 x1 x2 x3 xa0 xa1 h1 h2 h3 h4).1) = k0_pay2 (F := F) (halfSum x0 x1 x2 x3 xa1) := by
  unfold runB
  dsimp only
  sl_unfold_words
  refine (read_writes_unit (S := S512x8x128) (e := .f32) arg8.view _ _ _ _ off3).trans ?_
  rw [readAt_unit_rep _ _ _ off3, readAt_unit_rep _ _ _ off3, readAt_unit_rep _ _ _ off3, readAt_unit_rep _ _ _ off3,
    View.readCov_unit_lit' _ _ _ off2, View.readAt_eq_ld, View.ld_unit_lit' _ _ off2]
  rfl

/-- The block of a tile without tokens. -/
theorem outC (h1 : ¬k0_cond1 i (usedWord T1) = 1#1) (h4 : k0_cond4 i (usedWord T1) = 1#1) (f : arg8.view.ty.Contents (Elt F)) :
    arg8.view.read (Elt F) (arg8.view.writes (Elt F) f (runC c i arg4 harg4 arg5 harg5 arg6 harg6 arg7 harg7 arg8 harg8 T0 T1 x0 x1 x2 x3 xa0 xa1 h1 h4).1) = k0_pay3 (F := F) := by
  unfold runC
  dsimp only
  sl_unfold_words
  exact read_writes_unit (S := S512x8x128) (e := .f32) arg8.view _ _ _ _ off3

end Moe

end

end
-- ==== Proof.MoeFrame.lean ====
module

public import proofs.«01_k».proof.Proof.MoeRun
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Adequacy

/-! The pipeline of the grouped product, at symbolic tables: what every buffer holds at each grid point, the body's
obligation there, and what the arrays hold in the end. -/

@[expose] public section

set_option maxRecDepth 16384
set_option Elab.async false

noncomputable section

namespace Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] (T : Tabs F) (m : (ℓ : Loc nD τ sig) → Buf (Elt F) ℓ) (ρ : Dev nD → PrngReg)

abbrev ms0 (t : Fin (cfgT T).N) : Memref sig .tc .vmem S512x8x128 .f32 := spec0_0.stage ((cfgT T).slots t (0 : Fin 5))
abbrev hs0 (t : Fin (cfgT T).N) : (ms0 T t).IsWhole := hstage0_0 (((cfgT T).slots t (0 : Fin 5)).cast nbuf0_0)
abbrev ms1 (t : Fin (cfgT T).N) : Memref sig .tc .vmem S1x1024x1792 .bf16 := spec0_1.stage ((cfgT T).slots t (1 : Fin 5))
abbrev hs1 (t : Fin (cfgT T).N) : (ms1 T t).IsWhole := hstage0_1 (((cfgT T).slots t (1 : Fin 5)).cast nbuf0_1)
abbrev ms2 (t : Fin (cfgT T).N) : Memref sig .tc .vmem S1x1024x1792 .bf16 := spec0_2.stage ((cfgT T).slots t (2 : Fin 5))
abbrev hs2 (t : Fin (cfgT T).N) : (ms2 T t).IsWhole := hstage0_2 (((cfgT T).slots t (2 : Fin 5)).cast nbuf0_2)
abbrev ms3 (t : Fin (cfgT T).N) : Memref sig .tc .vmem S1x1792x1024 .bf16 := spec0_3.stage ((cfgT T).slots t (3 : Fin 5))
abbrev hs3 (t : Fin (cfgT T).N) : (ms3 T t).IsWhole := hstage0_3 (((cfgT T).slots t (3 : Fin 5)).cast nbuf0_3)
abbrev ms4 (t : Fin (cfgT T).N) : Memref sig .tc .vmem S512x8x128 .f32 := spec0_4.stage ((cfgT T).slots t (4 : Fin 5))
abbrev hs4 (t : Fin (cfgT T).N) : (ms4 T t).IsWhole := hstage0_4 (((cfgT T).slots t (4 : Fin 5)).cast nbuf0_4)

/-- Window `w`'s block at point `t`, read off its array at launch. -/
def iblk (c : Dev nD) (w : Fin (cfgT T).W) (t : Fin (cfgT T).N) : (((cfgT T).win w).xblock (crd T t)).Idx → Elt F ((cfgT T).win w).elt :=
  (((cfgT T).win w).blk t).view.read (Elt F) ((s₀ m ρ).mem (((cfgT T).win w).arr.view.loc (c : Thread nD τ)))

/-- What the accumulator holds after point `t`, from what it held before. -/
abbrev sumAt (c : Dev nD) (t : Fin (cfgT T).N) (a : S512x1024.Idx → Elt F .f32) : S512x1024.Idx → Elt F .f32 :=
  halfSum (iblk T m ρ c (0 : Fin 5) t) (iblk T m ρ c (1 : Fin 5) t) (iblk T m ρ c (2 : Fin 5) t) (iblk T m ρ c (3 : Fin 5) t) a

/-- What the accumulator holds after the first half at position `k`. -/
def acc (c : Dev nD) (k : ℕ) : S512x1024.Idx → Elt F .f32 :=
  if h : k < (cfgT T).N then sumAt T m ρ c ⟨k, h⟩ (k0_pay4 (F := F)) else k0_pay4 (F := F)

theorem acc_eq (c : Dev nD) (t : Fin (cfgT T).N) : acc T m ρ c t.val = sumAt T m ρ c t (k0_pay4 (F := F)) := by
  unfold acc; rw [dif_pos t.isLt]

/-- What the output's buffer holds after point `t`, where anything has been stored. -/
def aft (c : Dev nD) (t : Fin (cfgT T).N) : S512x8x128.Idx → Elt F .f32 :=
  if Live T t then k0_pay2 (F := F) (sumAt T m ρ c t (acc T m ρ c (t.val - 1))) else k0_pay3 (F := F)

/-- Before each point: the scratch buffers, the second one at the first half's sum where the second half is to come,
    and the body's shares of the tables. -/
def Phi (c : Dev nD) (t : Fin ((cfgT T).N + 1)) : sProp (MM F) :=
  iprop((∃ a, (scM0_0.view.loc (c : Thread nD τ) ↦{fullShare} a))
    ∗ (∃ a, ⌜t.val % 2 = 1 ∧ t.val / 2 < T.n.toNat → a = acc T m ρ c (t.val - 1)⌝ ∗ (scM0_1.view.loc (c : Thread nD τ) ↦{fullShare} a))
    ∗ (tbM0_0.view.loc (c : Thread nD τ) ↦{fullShare.right} T.T0) ∗ (tbM0_1.view.loc (c : Thread nD τ) ↦{fullShare.right} T.T1))

/-- The pipeline's data. -/
def dats (_ : Fin 1) (c : Dev nD) : Dat τ (Elt F) Unit ℕ (UR sig nD τ) ℕ (cfgT T) c where
  A w := (s₀ m ρ).mem (((cfgT T).win w).arr.view.loc (c : Thread nD τ))
  after w t := match w with
    | ⟨0, _⟩ => iblk T m ρ c (0 : Fin 5) t
    | ⟨1, _⟩ => iblk T m ρ c (1 : Fin 5) t
    | ⟨2, _⟩ => iblk T m ρ c (2 : Fin 5) t
    | ⟨3, _⟩ => iblk T m ρ c (3 : Fin 5) t
    | ⟨4, _⟩ => aft T m ρ c t
  Φ t := Phi T m ρ c t
  q _ := fullShare
  owed _ := 0

theorem after0 (c : Dev nD) (t : Fin (cfgT T).N) : (dats T m ρ 0 c).after (0 : Fin 5) t = iblk T m ρ c (0 : Fin 5) t := rfl
theorem after1 (c : Dev nD) (t : Fin (cfgT T).N) : (dats T m ρ 0 c).after (1 : Fin 5) t = iblk T m ρ c (1 : Fin 5) t := rfl
theorem after2 (c : Dev nD) (t : Fin (cfgT T).N) : (dats T m ρ 0 c).after (2 : Fin 5) t = iblk T m ρ c (2 : Fin 5) t := rfl
theorem after3 (c : Dev nD) (t : Fin (cfgT T).N) : (dats T m ρ 0 c).after (3 : Fin 5) t = iblk T m ρ c (3 : Fin 5) t := rfl
theorem after4 (c : Dev nD) (t : Fin (cfgT T).N) : (dats T m ρ 0 c).after (4 : Fin 5) t = aft T m ρ c t := rfl

theorem before0 (c : Dev nD) (t : Fin (cfgT T).N) (d) : (dats T m ρ 0 c).before (0 : Fin 5) t d = iblk T m ρ c (0 : Fin 5) t :=
  ((dats T m ρ 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfgT T).N) (d) : (dats T m ρ 0 c).before (1 : Fin 5) t d = iblk T m ρ c (1 : Fin 5) t :=
  ((dats T m ρ 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfgT T).N) (d) : (dats T m ρ 0 c).before (2 : Fin 5) t d = iblk T m ρ c (2 : Fin 5) t :=
  ((dats T m ρ 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfgT T).N) (d) : (dats T m ρ 0 c).before (3 : Fin 5) t d = iblk T m ρ c (3 : Fin 5) t :=
  ((dats T m ρ 0 c).before_in_eq_fetched (3 : Fin 5) rfl (fun _ => rfl) (fun _ _ _ => rfl) (fun t => by rw [after3]; unfold Dat.blockOf iblk; rfl) t d).trans
    (by unfold Dat.fetched Dat.blockOf iblk; rfl)

/-- Where a point leaves the output alone and something was stored before, its buffer holds what it held. -/
theorem hcarry (c : Dev nD) : ∀ (t : Fin (cfgT T).N) (ht : t.val ≠ 0), (cfgT T).idle (4 : Fin 5) ((cfgT T).grid.coords t) = true → (cfgT T).fresh (4 : Fin 5) t.val = false →
    (dats T m ρ 0 c).after (4 : Fin 5) t = (dats T m ρ 0 c).after (4 : Fin 5) ⟨t.val - 1, by omega⟩ := by
  intro t ht hi hf
  rw [fresh_eq, decide_eq_false_iff_not] at hf
  have h1 : ¬Live T t := fun h => hf (Or.inr h)
  have h2 : ¬Live T ⟨t.val - 1, by omega⟩ := by
    have : t.val % 2 ≠ 0 := fun h => hf (Or.inl h)
    unfold Live at *; dsimp only at *; omega
  rw [after4, after4]; unfold aft; rw [if_neg h1, if_neg h2]

theorem before4 (c : Dev nD) (t : Fin (cfgT T).N) (d) :
    (dats T m ρ 0 c).before (4 : Fin 5) t d = if (cfgT T).fresh (4 : Fin 5) t.val then d else aft T m ρ c t := by
  rw [(dats T m ρ 0 c).before_out_traj (4 : Fin 5) rfl (fun _ _ => rfl) (hcarry T m ρ c) t.val t rfl d]
  by_cases hf : (cfgT T).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after4]
    rw [fresh_eq, decide_eq_false_iff_not] at hf
    have h1 : ¬Live T t := fun h => hf (Or.inr h)
    have h2 : ¬Live T ⟨t.val - 1, by omega⟩ := by
      have : t.val % 2 ≠ 0 := fun h => hf (Or.inl h)
      unfold Live at *; dsimp only at *; omega
    unfold aft; rw [if_neg h1, if_neg h2]

/-! ## The decisions and the schedule at a point, by path -/

/-- The word the body reads of the second table. -/
abbrev word1 : Elt F .i32 := View.readAt (Elt F) (tbM0_1).view (Rect.unit (s := S1) ![0] S1.size inb_S1_S1_0).toLoadRect T.T1 (Shape.Idx.first (numel1_S1.symm ▸ Nat.one_pos))

theorem word1_eq : word1 T = T.n := rfl

variable {T} in
theorem h1_pos {t : Fin (cfgT T).N} (h : Live T t) : k0_cond1 (crd T t) (word1 T) = 1#1 := (cond1_iff T _).2 (by rw [crd0]; exact h)
variable {T} in
theorem h1_neg {t : Fin (cfgT T).N} (h : ¬Live T t) : ¬k0_cond1 (crd T t) (word1 T) = 1#1 := fun e => h (by have := (cond1_iff T _).1 e; rwa [crd0] at this)
variable {T} in
theorem h4_neg {t : Fin (cfgT T).N} (h : Live T t ∨ t.val % 2 = 1) : ¬k0_cond4 (crd T t) (word1 T) = 1#1 := fun e => by
  have := (cond4_iff T _).1 e
  rw [crd0, crd1] at this; unfold Live at h; omega
variable {T} in
theorem h4_pos {t : Fin (cfgT T).N} (h : ¬Live T t) (h' : t.val % 2 = 0) : k0_cond4 (crd T t) (word1 T) = 1#1 :=
  (cond4_iff T _).2 (by rw [crd0, crd1]; unfold Live at h; omega)
theorem h2_pos {t : Fin (cfgT T).N} (h : t.val % 2 = 0) : (Scalar.cmpi .ne (Scalar.extui (Scalar.cmpi .eq (BitVec.ofNat 32 ((crd T t) 1).val) 0#32)) 0#32) = 1#1 :=
  (cond2_iff _).2 (by rw [crd1]; exact h)
theorem h2_neg {t : Fin (cfgT T).N} (h : t.val % 2 = 1) : ¬(Scalar.cmpi .ne (Scalar.extui (Scalar.cmpi .eq (BitVec.ofNat 32 ((crd T t) 1).val) 0#32)) 0#32) = 1#1 :=
  fun e => by have := (cond2_iff _).1 e; rw [crd1] at this; omega
theorem h3_pos {t : Fin (cfgT T).N} (h : t.val % 2 = 1) : k0_cond3 (crd T t) = 1#1 := (cond3_iff _).2 (by rw [crd1]; exact h)
theorem h3_neg {t : Fin (cfgT T).N} (h : t.val % 2 = 0) : ¬k0_cond3 (crd T t) = 1#1 := fun e => by have := (cond3_iff _).1 e; rw [crd1] at this; omega

theorem idle_at {t : Fin (cfgT T).N} {b : Bool} (h : decide (Live T t ↔ t.val % 2 = 0) = b) : (cfgT T).idle (4 : Fin 5) ((cfgT T).grid.coords t) = b := (idle_eq T t).trans h
theorem flush_at {t : Fin (cfgT T).N} {b : Bool} (h : decide (t.val % 2 = 1) = b) : ((cfgT T).win (4 : Fin 5)).flush t = b := (flush_eq T t).trans h
theorem fresh_at {t : Fin (cfgT T).N} {b : Bool} (h : decide (t.val % 2 = 0 ∨ Live T t) = b) : (cfgT T).fresh (4 : Fin 5) t.val = b := (fresh_eq T t).trans h

theorem aft_live (c : Dev nD) {t : Fin (cfgT T).N} (h : Live T t) : aft T m ρ c t = k0_pay2 (F := F) (sumAt T m ρ c t (acc T m ρ c (t.val - 1))) := by
  unfold aft; rw [if_pos h]
theorem aft_dead (c : Dev nD) {t : Fin (cfgT T).N} (h : ¬Live T t) : aft T m ρ c t = k0_pay3 (F := F) := by
  unfold aft; rw [if_neg h]

/-- The body at point `t` on its buffers. -/
abbrev bodyAt (t : Fin (cfgT T).N) : Prog (TpuEff nD τ sig (Elt F) Λ₀ .tc) PUnit :=
  cc0_moe_group (crd T t) (Memref.whole main_arg0) (Memref.isWhole_whole _) (Memref.whole main_arg1) (Memref.isWhole_whole _) (ms0 T t) (hs0 T t) (ms1 T t) (hs1 T t) (ms2 T t) (hs2 T t) (ms3 T t) (hs3 T t) (ms4 T t) (hs4 T t) (Memref.whole cc0_scratch0) (Memref.isWhole_whole _) (Memref.whole cc0_scratch1) (Memref.isWhole_whole _)

set_option maxHeartbeats 4000000 in
/-- The body's obligation at a point. -/
theorem sound_body (c : Dev nD) (t : Fin (cfgT T).N) :
    iprop((dats T m ρ 0 c).Φ t.castSucc ∗ (dats T m ρ 0 c).owesAt () t.castSucc
        ∗ (∃ d, owns (c : Thread nD τ) (ms0 T t) fullShare ((dats T m ρ 0 c).before (0 : Fin 5) t d))
        ∗ (∃ d, owns (c : Thread nD τ) (ms1 T t) fullShare ((dats T m ρ 0 c).before (1 : Fin 5) t d))
        ∗ (∃ d, owns (c : Thread nD τ) (ms2 T t) fullShare ((dats T m ρ 0 c).before (2 : Fin 5) t d))
        ∗ (∃ d, owns (c : Thread nD τ) (ms3 T t) fullShare ((dats T m ρ 0 c).before (3 : Fin 5) t d))
        ∗ (∃ d, owns (c : Thread nD τ) (ms4 T t) fullShare ((dats T m ρ 0 c).before (4 : Fin 5) t d)))
      ⊢ wp frame (wpE (defs₀ (F := F)) Variants.none c none) Set.univ (bodyAt T t) fun _ =>
          iprop((dats T m ρ 0 c).Φ t.succ ∗ (dats T m ρ 0 c).owesAt () t.succ
            ∗ bigSep Finset.univ fun w : Fin (cfgT T).W =>
                match (cfgT T).idle w ((cfgT T).grid.coords t) with
                | true =>
                  match ((cfgT T).win w).flush t with
                  | false => iprop(∃ d, owns (c : Thread nD τ) (((cfgT T).win w).stage ((cfgT T).slots t w)) fullShare ((dats T m ρ 0 c).before w t d))
                  | true => owns (c : Thread nD τ) (((cfgT T).win w).stage ((cfgT T).slots t w)) fullShare ((dats T m ρ 0 c).after w t)
                | false => owns (c : Thread nD τ) (((cfgT T).win w).stage ((cfgT T).slots t w)) fullShare ((dats T m ρ 0 c).after w t)) := by
  rw [bigSep_W0]
  rewrite [show (dats T m ρ 0 c).Φ t.succ = Phi T m ρ c t.succ from rfl, show (dats T m ρ 0 c).Φ t.castSucc = Phi T m ρ c t.castSucc from rfl,
    show (dats T m ρ 0 c).owesAt () t.succ = (dats T m ρ 0 c).owesAt () t.castSucc from rfl]
  unfold Phi
  rcases Nat.mod_two_eq_zero_or_one t.val with he | he <;> by_cases hl : Live T t
  · have i4 := idle_at T (t := t) (b := true) (by simp [hl, he])
    have f4 := flush_at T (t := t) (b := false) (by simp [he])
    have r4 := fresh_at T (t := t) (b := true) (by simp [he])
    rewrite [i4]
    simp only [before0, before1, before2, before3, before4, after0, after1, after2, after3, after4, f4]
    simp only [r4, Bool.false_eq_true, ↓reduceIte, Fin.val_castSucc, Fin.val_succ]
    iintro ⟨⟨⟨%a0, HS0⟩, ⟨%a1, %ha1, HS1⟩, HT0, HT1⟩, Ho, ⟨%d0, H0⟩, ⟨%d1, H1⟩, ⟨%d2, H2⟩, ⟨%d3, H3⟩, ⟨%d4, H4⟩⟩
    iapply ((runA c (crd T t) (ms0 T t) (hs0 T t) (ms1 T t) (hs1 T t) (ms2 T t) (hs2 T t) (ms3 T t) (hs3 T t) (ms4 T t) (hs4 T t) T.T0 T.T1 (iblk T m ρ c (0 : Fin 5) t) (iblk T m ρ c (1 : Fin 5) t) (iblk T m ρ c (2 : Fin 5) t) (iblk T m ρ c (3 : Fin 5) t) a0 (h1_pos hl) (h2_pos T he) (h3_neg T he) (h4_neg (Or.inl hl))).2.2 _ a1 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexact H4
    isplitl [HS0]; · iexact HS0
    isplitl [HS1]; · iexact HS1
    iintro ⟨H0, H1, H2, H3, HT0, HT1, H4, HS0, HS1⟩
    isplitl [HS0 HS1 HT0 HT1]
    · isplitl [HS0]
      · iexists _; iexact HS0
      isplitl [HS1]
      · iexists _; isplitr; swap
        · iexact HS1
        · ipureintro; intro hn; exact (accA c (crd T t) (ms0 T t) (hs0 T t) (ms1 T t) (hs1 T t) (ms2 T t) (hs2 T t) (ms3 T t) (hs3 T t) (ms4 T t) (hs4 T t) T.T0 T.T1 (iblk T m ρ c (0 : Fin 5) t) (iblk T m ρ c (1 : Fin 5) t) (iblk T m ρ c (2 : Fin 5) t) (iblk T m ρ c (3 : Fin 5) t) a0 (h1_pos hl) (h2_pos T he) (h3_neg T he) (h4_neg (Or.inl hl))).trans (acc_eq T m ρ c t).symm
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    iexists d4; iexact H4
  · have i4 := idle_at T (t := t) (b := false) (by simp [hl, he])
    have f4 := flush_at T (t := t) (b := false) (by simp [he])
    have r4 := fresh_at T (t := t) (b := true) (by simp [he])
    rewrite [i4]
    simp only [before0, before1, before2, before3, before4, after0, after1, after2, after3, after4, f4]
    simp only [r4, Bool.false_eq_true, ↓reduceIte, Fin.val_castSucc, Fin.val_succ]
    iintro ⟨⟨⟨%a0, HS0⟩, ⟨%a1, %ha1, HS1⟩, HT0, HT1⟩, Ho, ⟨%d0, H0⟩, ⟨%d1, H1⟩, ⟨%d2, H2⟩, ⟨%d3, H3⟩, ⟨%d4, H4⟩⟩
    iapply ((runC c (crd T t) (ms0 T t) (hs0 T t) (ms1 T t) (hs1 T t) (ms2 T t) (hs2 T t) (ms3 T t) (hs3 T t) (ms4 T t) (hs4 T t) T.T0 T.T1 (iblk T m ρ c (0 : Fin 5) t) (iblk T m ρ c (1 : Fin 5) t) (iblk T m ρ c (2 : Fin 5) t) (iblk T m ρ c (3 : Fin 5) t) a0 a1 (h1_neg hl) (h4_pos hl he)).2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    iintro ⟨H0, H1, H2, H3, HT0, HT1, ⟨%e4, H4⟩, HS0, HS1⟩
    isplitl [HS0 HS1 HT0 HT1]
    · isplitl [HS0]
      · iexists _; iexact HS0
      isplitl [HS1]
      · iexists _; isplitr; swap
        · iexact HS1
        · ipureintro; intro hn; exact absurd hn.2 (by unfold Live at hl; omega)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact (outC c (crd T t) (ms0 T t) (hs0 T t) (ms1 T t) (hs1 T t) (ms2 T t) (hs2 T t) (ms3 T t) (hs3 T t) (ms4 T t) (hs4 T t) T.T0 T.T1 (iblk T m ρ c (0 : Fin 5) t) (iblk T m ρ c (1 : Fin 5) t) (iblk T m ρ c (2 : Fin 5) t) (iblk T m ρ c (3 : Fin 5) t) a0 a1 (h1_neg hl) (h4_pos hl he) _).trans (aft_dead T m ρ c hl).symm
  · have i4 := idle_at T (t := t) (b := false) (by simp [hl, he])
    have f4 := flush_at T (t := t) (b := true) (by simp [he])
    have r4 := fresh_at T (t := t) (b := true) (by simp [hl, he])
    rewrite [i4]
    simp only [before0, before1, before2, before3, before4, after0, after1, after2, after3, after4, f4]
    simp only [r4, Bool.false_eq_true, ↓reduceIte, Fin.val_castSucc, Fin.val_succ]
    iintro ⟨⟨⟨%a0, HS0⟩, ⟨%a1, %ha1, HS1⟩, HT0, HT1⟩, Ho, ⟨%d0, H0⟩, ⟨%d1, H1⟩, ⟨%d2, H2⟩, ⟨%d3, H3⟩, ⟨%d4, H4⟩⟩
    iapply ((runB c (crd T t) (ms0 T t) (hs0 T t) (ms1 T t) (hs1 T t) (ms2 T t) (hs2 T t) (ms3 T t) (hs3 T t) (ms4 T t) (hs4 T t) T.T0 T.T1 (iblk T m ρ c (0 : Fin 5) t) (iblk T m ρ c (1 : Fin 5) t) (iblk T m ρ c (2 : Fin 5) t) (iblk T m ρ c (3 : Fin 5) t) a0 a1 (h1_pos hl) (h2_neg T he) (h3_pos T he) (h4_neg (Or.inl hl))).2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    isplitl [HS1]; · iexact HS1
    iintro ⟨H0, H1, H2, H3, HT0, HT1, ⟨%e4, H4⟩, HS0, HS1⟩
    isplitl [HS0 HS1 HT0 HT1]
    · isplitl [HS0]
      · iexists _; iexact HS0
      isplitl [HS1]
      · iexists _; isplitr; swap
        · iexact HS1
        · ipureintro; intro hn; exact absurd hn.1 (by omega)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact (outB c (crd T t) (ms0 T t) (hs0 T t) (ms1 T t) (hs1 T t) (ms2 T t) (hs2 T t) (ms3 T t) (hs3 T t) (ms4 T t) (hs4 T t) T.T0 T.T1 (iblk T m ρ c (0 : Fin 5) t) (iblk T m ρ c (1 : Fin 5) t) (iblk T m ρ c (2 : Fin 5) t) (iblk T m ρ c (3 : Fin 5) t) a0 a1 (h1_pos hl) (h2_neg T he) (h3_pos T he) (h4_neg (Or.inl hl)) _).trans (by rw [ha1 ⟨he, hl⟩]; exact (aft_live T m ρ c hl).symm)
  · have i4 := idle_at T (t := t) (b := true) (by simp [hl, he])
    have f4 := flush_at T (t := t) (b := true) (by simp [he])
    have r4 := fresh_at T (t := t) (b := false) (by simp [hl, he])
    rewrite [i4]
    simp only [before0, before1, before2, before3, before4, after0, after1, after2, after3, after4, f4]
    simp only [r4, Bool.false_eq_true, ↓reduceIte, Fin.val_castSucc, Fin.val_succ]
    iintro ⟨⟨⟨%a0, HS0⟩, ⟨%a1, %ha1, HS1⟩, HT0, HT1⟩, Ho, ⟨%d0, H0⟩, ⟨%d1, H1⟩, ⟨%d2, H2⟩, ⟨%d3, H3⟩, ⟨%d4, H4⟩⟩
    iapply ((runD c (crd T t) (ms0 T t) (hs0 T t) (ms1 T t) (hs1 T t) (ms2 T t) (hs2 T t) (ms3 T t) (hs3 T t) (ms4 T t) (hs4 T t) T.T0 T.T1 (iblk T m ρ c (0 : Fin 5) t) (iblk T m ρ c (1 : Fin 5) t) (iblk T m ρ c (2 : Fin 5) t) (iblk T m ρ c (3 : Fin 5) t) a0 a1 (h1_neg hl) (h4_neg (Or.inr he))).2.2 _ _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexact H4
    isplitl [HS0]; · iexact HS0
    isplitl [HS1]; · iexact HS1
    iintro ⟨H0, H1, H2, H3, HT0, HT1, H4, HS0, HS1⟩
    isplitl [HS0 HS1 HT0 HT1]
    · isplitl [HS0]
      · iexists _; iexact HS0
      isplitl [HS1]
      · iexists _; isplitr; swap
        · iexact HS1
        · ipureintro; intro hn; exact absurd hn.1 (by omega)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    iexact H4

theorem body_obligation (c : Dev nD) : BodyObligation (dats T m ρ 0 c) (defs₀ (F := F)) Variants.none () Set.univ := fun t => by
  rw [bigSep_W0]
  exact sound_body T m ρ c t

/-! ## The launch -/

/-- The proof's first resources. -/
def u₀ : UR sig nD τ :=
  initOf (Pipeline.cells (pcsT T) ((launch0 (F := F)).cellOf_inj fun _ => adm T))
    (Pipeline.launchToks (pcsT T) ((launch0 (F := F)).cellOf_inj fun _ => adm T))

theorem share_eq (c : Dev nD) (w : Fin (cfgT T).W) : (dats T m ρ 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp (MM F))
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩, ⟨%a1, HS1⟩⟩
  isplitl [HS0]
  · iexists a0; iexact HS0
  isplitl [HS1]
  · iexists a1; isplitr; swap
    · iexact HS1
    · ipureintro; intro h; exact absurd h.1 (by simp)
  isplitl [HT0]
  · iexact HT0
  iexact HT1

theorem phiN_exit (c : Dev nD) : (dats T m ρ 0 c).Φ (Fin.last (cfgT T).N) ⊢ iprop(BI.emp ∗ Pipeline.scopedRest spec0 c) := by
  rw [scopedRest0_eq, show (dats T m ρ 0 c).Φ (Fin.last (cfgT T).N) = Phi T m ρ c (Fin.last _) from rfl]
  unfold Phi
  iintro ⟨⟨%a0, HS0⟩, ⟨%a1, -, HS1⟩, -, -⟩
  isplitr; · iempintro
  isplitl [HS0]
  · iexists a0; iexact HS0
  iexists a1; iexact HS1

/-- The memory's tables are `T`'s. -/
def Pinned : Prop := (∀ c : Dev nD, m ((c : Thread nD τ).loc main_arg0) = T.T0) ∧ (∀ c : Dev nD, m ((c : Thread nD τ).loc main_arg1) = T.T1)

/-- In the end every window's array is at what the blocks make of it, and the tables are as they were. -/
def Ends : PUnit × MemSt nD τ sig (Elt F) → Prop := fun r =>
  ∀ c : Dev nD, (∀ w : Fin (cfgT T).W, r.2.mem (((cfgT T).win w).arr.view.loc (c : Thread nD τ)) = (dats T m ρ 0 c).arrAt w (cfgT T).N)
    ∧ ∀ j, r.2.mem ((c : Thread nD τ).loc (pre0.ref j)) = (adm T).1 j

variable {T m} in
theorem V_pre (hp : Pinned T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- Every fair run of the program ends, and ends so; the counters end at zero. -/
theorem run_main (hp : Pinned T m) : θ_run (defs (F := F)) (onTc (τ := τ) (main (F := F))) (s₀ m ρ) (fun r => Ends T m ρ r ∧ r.2.sem = fun _ => 0) :=
  Pipeline.θ_run_region_noSem_pf_quiescent pcfgs (fun _ => adm T) (dats T m ρ) () ((launch0 (F := F)).cellOf_inj fun _ => adm T) (0 : Fin 1)
    (launch0 (F := F)).win.to₀ (launch0 (F := F)).pre EM defs₀ Variants.none m ρ main
    (hbody := fun c => (body_obligation T m ρ c).loose) (hne := (launch0 (F := F)).block_pos)
    (harr := (launch0 (F := F)).arr_whole) (hstage := (launch0 (F := F)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcsT T) (dats T m ρ) 0 (launch0 (F := F)).win.arr_inj c (launch0 (F := F)).arr_whole
      (share_eq T m ρ c) _ _ fun _ => rfl)
    (hpf := V_pre hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

variable {T m ρ} in
/-- Then the arguments are as they began. -/
theorem args_of_ends (hp : Pinned T m) {r : PUnit × MemSt nD τ sig (Elt F)} (h : Ends T m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨((h c).2 0).trans (hp.1 c).symm, ((h c).2 1).trans (hp.2 c).symm,
    ((h c).1 (0 : Fin 5)).trans ((dats T m ρ 0 c).arrAt_in (0 : Fin 5) rfl _), ((h c).1 (1 : Fin 5)).trans ((dats T m ρ 0 c).arrAt_in (1 : Fin 5) rfl _),
    ((h c).1 (2 : Fin 5)).trans ((dats T m ρ 0 c).arrAt_in (2 : Fin 5) rfl _), ((h c).1 (3 : Fin 5)).trans ((dats T m ρ 0 c).arrAt_in (3 : Fin 5) rfl _)⟩

/-- The arguments end as they began. -/
theorem frame_main (hp : Pinned T m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨args_of_ends hp h.1, h.2⟩) (run_main T m ρ hp)

end Moe

end
-- ==== Proof.MoePre.lean ====
module

public import proofs.«01_k».proof.Proof.MoeTables
public import proofs.«01_k».proof.Proof.Gen.Pre_routed
public import Idealize.ShloMosaic.Lib.ReduceAll
public import Idealize.ShloMosaic.Lib.WordCmp
public import Idealize.ShloMosaic.Lib.Pointwise

/-! What the precondition says of the two tables. -/

@[expose] public section

set_option maxRecDepth 16384

noncomputable section

namespace Moe

open Idealize.ShloMosaic

theorem bit_eq_one (b : Bool) : BitVec.ofBool b = 1#1 ↔ b = true := by cases b <;> simp

/-- A word between two small numbers, as the comparisons say. -/
theorem sge_one {x : BitVec 32} {k : ℕ} (hk : k < 2 ^ 31) (h : IntOp.cmpi .sge x (BitVec.ofNat 32 k) = 1#1) : (k : ℤ) ≤ x.toInt := by
  rw [WordCmp.cmpi_sge_eq, bit_eq_one, decide_eq_true_iff] at h
  rwa [BitVec.toInt_eq_toNat_of_lt (by rw [BitVec.toNat_ofNat]; omega), BitVec.toNat_ofNat, Nat.mod_eq_of_lt (by omega)] at h
theorem slt_one {x : BitVec 32} {k : ℕ} (hk : k < 2 ^ 31) (h : IntOp.cmpi .slt x (BitVec.ofNat 32 k) = 1#1) : x.toInt < (k : ℤ) := by
  rw [WordCmp.cmpi_slt_eq, bit_eq_one, decide_eq_true_iff] at h
  rwa [BitVec.toInt_eq_toNat_of_lt (x := BitVec.ofNat 32 k) (by rw [BitVec.toNat_ofNat]; omega), BitVec.toNat_ofNat, Nat.mod_eq_of_lt (by omega)] at h

/-- A word that is not negative is its natural number. -/
theorem toNat_of_nonneg {x : BitVec 32} (h : 0 ≤ x.toInt) : (x.toNat : ℤ) = x.toInt := by
  rw [BitVec.toInt_eq_toNat_cond] at h ⊢
  have := x.isLt
  split at h <;> split <;> omega

theorem ix1_eta (i : (⟨1, ![137]⟩ : Shape).Idx) : i = ix1 (i 0) := by
  funext a
  match a with
  | ⟨0, _⟩ => rfl

/-- The tables that the precondition admits. -/
theorem tabs_of_pre {F : FTy → Type} [FloatOps F] (x0 : IVec Cert.Pre_routed.S137 32) (x1 : IVec Cert.Pre_routed.S1 32)
    (x2 : FVec F Cert.Pre_routed.S70144x8x128 .f32) (x3 x4 : FVec F Cert.Pre_routed.S8x1024x3584 .bf16)
    (x5 : FVec F Cert.Pre_routed.S8x3584x1024 .bf16) (hp : Cert.Pre_routed.fn (F := F) x0 x1 x2 x3 x4 x5 = fun _ => 1#1) :
    ∃ T : Tabs F, x0 = T.T0 ∧ x1 = T.T1 := by
  have h := congrFun hp ix0
  dsimp only [Cert.Pre_routed.fn] at h
  obtain ⟨h12, h3⟩ := IntOp.andi_eq_one.mp h
  obtain ⟨h1, h2⟩ := IntOp.andi_eq_one.mp h12
  have a : ∀ n : Fin 137, 0 ≤ (x0 (ix1 n)).toInt ∧ (x0 (ix1 n)).toInt < 8 := fun n =>
    ⟨sge_one (k := 0) (by decide) (Host.reduce_andi_all _ _ _ _ _ h1 (ix1 n)), slt_one (k := 8) (by decide) (Host.reduce_andi_all _ _ _ _ _ h2 (ix1 n))⟩
  have b1 : 1 ≤ (x1 (ix1 0)).toInt := sge_one (k := 1) (by decide) (Host.reduce_andi_all _ _ _ _ _ h3 (ix1 0))
  have e1 := toNat_of_nonneg (x := x1 (ix1 0)) (by omega)
  refine ⟨⟨x0, x1 (ix1 0), fun i => ?_, by omega, by have := toNat_of_nonneg (x := x1 (ix1 0)) (by omega); have := BitVec.toInt_lt (x := x1 (ix1 0)); omega⟩, rfl, funext fun i => congrArg x1 ?_⟩
  · obtain ⟨n, rfl⟩ : ∃ n, i = ix1 n := ⟨i 0, ix1_eta i⟩
    have e := toNat_of_nonneg (a n).1
    have := (a n).2
    omega
  · funext k
    match k with
    | ⟨0, _⟩ => exact Fin.ext (show (i 0).val = 0 by have : (i 0).val < 1 := (i 0).isLt; omega)

end Moe

end

end
-- ==== Proof.MoeBits.lean ====
module

public import proofs.«01_k».proof.Proof.Gen.Kernel2
public import proofs.«01_k».proof.Proof.MoeFrame
public import proofs.«01_k».proof.Proof.MoePre

/-! The frame of the grouped product as it is compiled. The program read over the extended reals is the same text, so what
is proved of that text at any floats holds of it. -/

@[expose] public section

set_option maxRecDepth 16384

noncomputable section

namespace Moe

open Idealize.ShloMosaic Idealize.SL.Sem Idealize.ShloMosaic.TcCoe

/-- The two texts are one program. -/
theorem same_run (m : (ℓ : Loc Cert.Kernel2.nD Cert.Kernel2.τ Cert.Kernel2.sig) → Buf (Elt Bits) ℓ) (ρ : Dev Cert.Kernel2.nD → PrngReg)
    (P : PUnit × MemSt Cert.Kernel2.nD Cert.Kernel2.τ Cert.Kernel2.sig (Elt Bits) → Prop) :
    θ_run (Cert.Kernel2Ideal.defs (F := Bits)) (onTc (τ := Cert.Kernel2Ideal.τ) (Cert.Kernel2Ideal.main (F := Bits))) ⟨m, fun _ => 0, ρ⟩ P
      = θ_run (Cert.Kernel2.defs (F := Bits)) (onTc (τ := Cert.Kernel2.τ) (Cert.Kernel2.main (F := Bits))) ⟨m, fun _ => 0, ρ⟩ P := by
  sl_kernel_rfl

/-- The tables that the precondition admits are those the frame is proved at. -/
theorem pinned {F : FTy → Type} [FloatOps F] (m : (ℓ : Loc Cert.Kernel2Ideal.nD Cert.Kernel2Ideal.τ Cert.Kernel2Ideal.sig) → Buf (Elt F) ℓ)
    (hp : ∀ c : Dev Cert.Kernel2Ideal.nD, Cert.Pre_routed.fn (F := F) (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5)) = fun _ => 1#1) : ∃ T : Tabs F, Pinned T m := by
  obtain ⟨T, h0, h1⟩ := tabs_of_pre _ _ _ _ _ _ (hp 0)
  have e : ∀ c : Dev Cert.Kernel2Ideal.nD, c = 0 := fun c => Subsingleton.elim (α := Fin 1) c 0
  exact ⟨T, fun c => by rw [e c]; exact h0, fun c => by rw [e c]; exact h1⟩

/-- The compiled program's arguments end as they began, and its counters at zero. -/
theorem frame_bits (m : (ℓ : Loc Cert.Kernel2.nD Cert.Kernel2.τ Cert.Kernel2.sig) → Buf (Elt Bits) ℓ) (ρ : Dev Cert.Kernel2.nD → PrngReg)
    (hp : ∀ c : Dev Cert.Kernel2.nD, Cert.Pre_routed.fn (F := Bits) (m ((c.tc : Thread Cert.Kernel2.nD Cert.Kernel2.τ).loc Cert.Kernel2.main_arg0))
      (m ((c.tc : Thread Cert.Kernel2.nD Cert.Kernel2.τ).loc Cert.Kernel2.main_arg1)) (m ((c.tc : Thread Cert.Kernel2.nD Cert.Kernel2.τ).loc Cert.Kernel2.main_arg2))
      (m ((c.tc : Thread Cert.Kernel2.nD Cert.Kernel2.τ).loc Cert.Kernel2.main_arg3)) (m ((c.tc : Thread Cert.Kernel2.nD Cert.Kernel2.τ).loc Cert.Kernel2.main_arg4))
      (m ((c.tc : Thread Cert.Kernel2.nD Cert.Kernel2.τ).loc Cert.Kernel2.main_arg5)) = fun _ => 1#1) :
    θ_run (Cert.Kernel2.defs (F := Bits)) (onTc (τ := Cert.Kernel2.τ) (Cert.Kernel2.main (F := Bits))) ⟨m, fun _ => 0, ρ⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0) := by
  obtain ⟨T, hT⟩ := pinned (F := Bits) m hp
  exact (same_run m ρ _).mp (frame_main T m ρ hT)

end Moe

end

end
-- ==== Proof.MoeSpec.lean ====
module

public import Idealize.ShloMosaic.Lib.Pointwise
public import Idealize.ShloMosaic.Lib.ValueIdx
public import Idealize.ShloMosaic.PureOps.Ideal

/-! The experts' feed-forward in plain sums of extended reals: 8 experts of hidden width 3584 over tokens of 1024
features, each token kept as 8 rows of 128. -/

@[expose] public section

noncomputable section

namespace Moe

open Idealize.ShloMosaic

/-- The shapes of the token tiles, of the gate and up weights, and of the down weights. -/
abbrev Toks : Shape := ⟨3, ![70144, 8, 128]⟩
abbrev WIn : Shape := ⟨3, ![8, 1024, 3584]⟩
abbrev WOut : Shape := ⟨3, ![8, 3584, 1024]⟩

theorem ix2_eq {a b : ℕ} {i i' : Fin a} {j j' : Fin b} (hi : i.val = i'.val) (hj : j.val = j'.val) : ix2 i j = ix2 i' j' := by
  rw [Fin.ext hi, Fin.ext hj]

theorem ix3_eq {a b c : ℕ} {i i' : Fin a} {j j' : Fin b} {k k' : Fin c} (hi : i.val = i'.val) (hj : j.val = j'.val)
    (hk : k.val = k'.val) : ix3 i j k = ix3 i' j' k' := by
  rw [Fin.ext hi, Fin.ext hj, Fin.ext hk]

/-- Feature `d`'s row and lane in a token's tile. -/
def hi (d : Fin 1024) : Fin 8 := ⟨d.val / 128, by omega⟩
def lo (d : Fin 1024) : Fin 128 := ⟨d.val % 128, by omega⟩
/-- The feature at a row and lane of a token's tile. -/
def feat (s : Fin 8) (l : Fin 128) : Fin 1024 := ⟨128 * s.val + l.val, by omega⟩

/-- A hidden unit: its gate's silu times its up product. -/
def hid (g u : EReal) : EReal := g * Ideal.logistic g * u

/-- Hidden unit `f` of expert `e` at token `r`. -/
def hidden (xs : Toks.Idx → EReal) (wg wu : WIn.Idx → EReal) (e : Fin 8) (r : Fin 70144) (f : Fin 3584) : EReal :=
  hid (∑ d : Fin 1024, xs (ix3 r (hi d) (lo d)) * wg (ix3 e d f)) (∑ d : Fin 1024, xs (ix3 r (hi d) (lo d)) * wu (ix3 e d f))

/-- Feature `j` of expert `e`'s output at token `r`. -/
def expert (xs : Toks.Idx → EReal) (wg wu : WIn.Idx → EReal) (wd : WOut.Idx → EReal) (e : Fin 8) (r : Fin 70144)
    (j : Fin 1024) : EReal :=
  ∑ f : Fin 3584, hidden xs wg wu e r f * wd (ix3 e f j)

/-- A hidden unit of the first or the second half of the hidden width. -/
def unitOf (h : Fin 2) (f : Fin 1792) : Fin 3584 := ⟨1792 * h.val + f.val, by omega⟩

/-- The output is the sum of the two halves'. -/
theorem expert_halves (xs : Toks.Idx → EReal) (wg wu : WIn.Idx → EReal) (wd : WOut.Idx → EReal) (e : Fin 8) (r : Fin 70144)
    (j : Fin 1024) :
    expert xs wg wu wd e r j
      = (∑ f : Fin 1792, hidden xs wg wu e r (unitOf 0 f) * wd (ix3 e (unitOf 0 f) j))
        + ∑ f : Fin 1792, hidden xs wg wu e r (unitOf 1 f) * wd (ix3 e (unitOf 1 f) j) := by
  refine (Fin.sum_univ_add (a := 1792) (b := 1792) fun f => hidden xs wg wu e r f * wd (ix3 e f j)).trans ?_
  refine congrArg₂ (· + ·) (Finset.sum_congr rfl fun f _ => ?_) (Finset.sum_congr rfl fun f _ => ?_)
  · rw [show (Fin.castAdd 1792 f : Fin (1792 + 1792)) = unitOf 0 f from Fin.ext (by simp [unitOf])]
  · rw [show (Fin.natAdd 1792 f : Fin (1792 + 1792)) = unitOf 1 f from
      Fin.ext (by simp only [unitOf, Fin.val_natAdd]; rfl)]

end Moe

end

end
-- ==== Proof.MoeBlock.lean ====
module

public import proofs.«01_k».proof.Proof.MoeRun
public import proofs.«01_k».proof.Proof.MoeSpec

/-! One block of 512 tokens and half the hidden width, as a function of vectors, read at an index. -/

@[expose] public section

set_option maxRecDepth 16384

noncomputable section

namespace Moe

open Cert.Kernel2Ideal Cert.Kernel2Ideal.Gen
open Idealize.ShloMosaic

section Defs
variable {F : FTy → Type} [FloatOps F] [Named F]

/-- The token tiles as rows of 1024 features. -/
def rows (v13 : Vec F S512x8x128 .f32) : FVec F S512x1024 .bf16 :=
  have v14 : FVec F S8x512x128 .f32 := transpose S8x512x128 [1, 0, 2] v13 transposes_S512x8x128_p1_0_2_S8x512x128
  have v15 : FVec F S1x512x128 .f32 := extractStridedSlice S1x512x128 ![0, 0, 0] v14 slices_S8x512x128_o0_0_0_S1x512x128
  have v16 : FVec F S512x128 .f32 := shapeCast S512x128 v15 shapeCasts_S1x512x128_S512x128
  have v17 : FVec F S1x512x128 .f32 := extractStridedSlice S1x512x128 ![1, 0, 0] v14 slices_S8x512x128_o1_0_0_S1x512x128
  have v18 : FVec F S512x128 .f32 := shapeCast S512x128 v17 shapeCasts_S1x512x128_S512x128
  have v19 : FVec F S1x512x128 .f32 := extractStridedSlice S1x512x128 ![2, 0, 0] v14 slices_S8x512x128_o2_0_0_S1x512x128
  have v20 : FVec F S512x128 .f32 := shapeCast S512x128 v19 shapeCasts_S1x512x128_S512x128
  have v21 : FVec F S1x512x128 .f32 := extractStridedSlice S1x512x128 ![3, 0, 0] v14 slices_S8x512x128_o3_0_0_S1x512x128
  have v22 : FVec F S512x128 .f32 := shapeCast S512x128 v21 shapeCasts_S1x512x128_S512x128
  have v23 : FVec F S1x512x128 .f32 := extractStridedSlice S1x512x128 ![4, 0, 0] v14 slices_S8x512x128_o4_0_0_S1x512x128
  have v24 : FVec F S512x128 .f32 := shapeCast S512x128 v23 shapeCasts_S1x512x128_S512x128
  have v25 : FVec F S1x512x128 .f32 := extractStridedSlice S1x512x128 ![5, 0, 0] v14 slices_S8x512x128_o5_0_0_S1x512x128
  have v26 : FVec F S512x128 .f32 := shapeCast S512x128 v25 shapeCasts_S1x512x128_S512x128
  have v27 : FVec F S1x512x128 .f32 := extractStridedSlice S1x512x128 ![6, 0, 0] v14 slices_S8x512x128_o6_0_0_S1x512x128
  have v28 : FVec F S512x128 .f32 := shapeCast S512x128 v27 shapeCasts_S1x512x128_S512x128
  have v29 : FVec F S1x512x128 .f32 := extractStridedSlice S1x512x128 ![7, 0, 0] v14 slices_S8x512x128_o7_0_0_S1x512x128
  have v30 : FVec F S512x128 .f32 := shapeCast S512x128 v29 shapeCasts_S1x512x128_S512x128
  truncf .bf16 (concatenate S512x1024 1 [⟨S512x128, v16⟩, ⟨S512x128, v18⟩, ⟨S512x128, v20⟩, ⟨S512x128, v22⟩,
    ⟨S512x128, v24⟩, ⟨S512x128, v26⟩, ⟨S512x128, v28⟩, ⟨S512x128, v30⟩]
    concatenates_S512x128_S512x128_S512x128_S512x128_S512x128_S512x128_S512x128_S512x128_S512x1024_d1) bitsLt_bf16_f32

/-- The rows times one half of a weight matrix. -/
def prod (x : FVec F S512x1024 .bf16) (w : Vec F S1x1024x1792 .bf16) : FVec F S512x1792 .f32 :=
  matmul dot_S512x1024_S1024x1792_S512x1792_1_0_0_1_n_n none x (shapeCast S1024x1792 w shapeCasts_S1x1024x1792_S1024x1792)
    (constant S512x1792 .f32 0x00000000#32)

/-- The hidden units. -/
def units (g u : FVec F S512x1792 .f32) : FVec F S512x1792 .bf16 :=
  truncf .bf16 (mulf (mulf g (logistic g)) u) bitsLt_bf16_f32

/-- The sum so far and the hidden units times half of the down matrix. -/
def down (a : Vec F S512x1024 .f32) (h : FVec F S512x1792 .bf16) (w : Vec F S1x1792x1024 .bf16) : FVec F S512x1024 .f32 :=
  addf a (matmul dot_S512x1792_S1792x1024_S512x1024_1_0_0_1_n_n none h
    (shapeCast S1792x1024 w shapeCasts_S1x1792x1024_S1792x1024) (constant S512x1024 .f32 0x00000000#32))

theorem pay5_eq (x0 : Vec F S512x8x128 .f32) (x1 x2 : Vec F S1x1024x1792 .bf16) (a : Vec F S512x1024 .f32)
    (x3 : Vec F S1x1792x1024 .bf16) :
    k0_pay5 x0 x1 x2 a x3 = down a (units (prod (rows x0) x1) (prod (rows x0) x2)) x3 := rfl

end Defs

theorem rows_at (x : Vec Ideal S512x8x128 .f32) (r : Fin 512) (j : Fin 1024) :
    rows x (ix2 r j) = x (ix3 r (hi j) (lo j)) := by
  pointwise [rows]
  have hj := j.isLt
  repeat' split
  all_goals exact congrArg x (ix3_eq rfl (by simp only [hi]; omega) (by simp only [lo]; omega))

theorem prod_at (x : FVec Ideal S512x1024 .bf16) (w : Vec Ideal S1x1024x1792 .bf16) (r : Fin 512) (f : Fin 1792) :
    prod x w (ix2 r f) = ∑ d : Fin 1024, x (ix2 r d) * w (ix3 0 d f) := by
  pointwise [prod]

theorem units_at (g u : FVec Ideal S512x1792 .f32) (r : Fin 512) (f : Fin 1792) :
    units g u (ix2 r f) = hid (g (ix2 r f)) (u (ix2 r f)) := rfl

theorem down_at (a : Vec Ideal S512x1024 .f32) (h : FVec Ideal S512x1792 .bf16) (w : Vec Ideal S1x1792x1024 .bf16)
    (r : Fin 512) (j : Fin 1024) :
    down a h w (ix2 r j) = a (ix2 r j) + ∑ f : Fin 1792, h (ix2 r f) * w (ix3 0 f j) := by
  pointwise [down]

/-- The sum of the down products after one half of the hidden width, at token `r` of the block and feature `j`. -/
theorem halfSum_at (x0 : Vec Ideal S512x8x128 .f32) (x1 x2 : Vec Ideal S1x1024x1792 .bf16) (x3 : Vec Ideal S1x1792x1024 .bf16)
    (a : Vec Ideal S512x1024 .f32) (r : Fin 512) (j : Fin 1024) :
    halfSum x0 x1 x2 x3 a (ix2 r j) = a (ix2 r j) + ∑ f : Fin 1792,
      hid (∑ d : Fin 1024, x0 (ix3 r (hi d) (lo d)) * x1 (ix3 0 d f)) (∑ d : Fin 1024, x0 (ix3 r (hi d) (lo d)) * x2 (ix3 0 d f))
        * x3 (ix3 0 f j) := by
  have e : halfSum x0 x1 x2 x3 a = down a (units (prod (rows x0) x1) (prod (rows x0) x2)) x3 := by
    funext i
    rw [← pay5_eq]
    unfold halfSum k0_pay1
    exact shapeCast_apply _ shapeCasts_S512x1024_S512x1024 i i rfl
  rw [e, down_at]
  simp only [units_at, prod_at, rows_at]

/-- The block stored: the sum as token tiles. -/
theorem pay2_at (v : Vec Ideal S512x1024 .f32) (r : Fin 512) (s : Fin 8) (l : Fin 128) :
    k0_pay2 v (ix3 r s l) = v (ix2 r (feat s l)) := by
  pointwise [k0_pay2]
  have hs := s.isLt
  repeat' split
  all_goals exact congrArg v (ix2_eq rfl (by simp only [feat]; omega))

theorem pay3_at (i : S512x8x128.Idx) : (k0_pay3 : FVec Ideal S512x8x128 .f32) i = 0 :=
  Ideal.ofBits_zero_f32

theorem pay4_at (i : S512x1024.Idx) : (k0_pay4 : FVec Ideal S512x1024 .f32) i = 0 := by
  unfold k0_pay4
  exact (shapeCast_apply _ shapeCasts_S512x1024_S512x1024 i i rfl).trans Ideal.ofBits_zero_f32

end Moe

end

end
-- ==== Proof.MoeRef.lean ====
module

public import proofs.«01_k».proof.Proof.MoeSpec
public import proofs.«01_k».proof.Proof.MoeTables
public import proofs.«01_k».proof.Proof.Gen.Reference2Ideal.Read
public import Idealize.ShloMosaic.Lib.WordCmp
public import Idealize.ShloMosaic.Lib.IdealHost

/-! The reference at an index: the output of the expert that the table names, and zero in the blocks that are not used. -/

@[expose] public section

set_option maxRecDepth 16384

noncomputable section

namespace Moe

open Cert.Reference2Ideal Cert.Reference2Ideal.Gen Cert.Reference2Ideal.Read Idealize.ShloMosaic

/-- The result in plain sums: the named expert's output in the blocks used, zero in the others. -/
def spec (T : Tabs Ideal) (xs : Toks.Idx → EReal) (wg wu : WIn.Idx → EReal) (wd : WOut.Idx → EReal) (p : Fin 137) (r : Fin 70144)
    (j : Fin 1024) : EReal :=
  if p.val < T.n.toNat then expert xs wg wu wd ⟨(T.T0 (ix1 p)).toNat, T.lt8 _⟩ r j else 0

variable (xs : Vec Ideal S70144x8x128 .f32) (wg wu : Vec Ideal S8x1024x3584 .bf16) (wd : Vec Ideal S8x3584x1024 .bf16)

/-- Token `t` of block `n`. -/
def tok (n : Fin 137) (t : Fin 512) : Fin 70144 := ⟨512 * n.val + t.val, by omega⟩

theorem v0_at (n : Fin 137) (t : Fin 512) (d : Fin 1024) :
    val_main_v0 (F := Ideal) xs (ix3 n t d) = xs (ix3 (tok n t) (hi d) (lo d)) := by
  rw [val_main_v0_apply]
  refine congrArg xs (funext fun a => ?_)
  match a with
  | ⟨0, _⟩ => exact Fin.ext (show ((n.val * 512 + t.val) * 1024 + d.val) / 1024 = 512 * n.val + t.val by omega)
  | ⟨1, _⟩ => exact Fin.ext (show ((n.val * 512 + t.val) * 1024 + d.val) / 128 % 8 = d.val / 128 by omega)
  | ⟨2, _⟩ => exact Fin.ext (show ((n.val * 512 + t.val) * 1024 + d.val) % 128 = d.val % 128 by omega)

theorem v10_at (n : Fin 137) (t : Fin 512) (e : Fin 8) (f : Fin 3584) :
    val_main_v10 (F := Ideal) xs wg (ix4 n t e f) = ∑ d : Fin 1024, xs (ix3 (tok n t) (hi d) (lo d)) * wg (ix3 e d f) := by
  rw [val_main_v10_apply]
  refine Finset.sum_congr rfl fun d _ => ?_
  have el : lidx_main_v10 (ix4 n t e f) d = ix3 n t d := by
    funext a; match a with | ⟨0, _⟩ => rfl | ⟨1, _⟩ => rfl | ⟨2, _⟩ => rfl
  have er : ridx_main_v10 (ix4 n t e f) d = ix3 e d f := by
    funext a; match a with | ⟨0, _⟩ => rfl | ⟨1, _⟩ => rfl | ⟨2, _⟩ => rfl
  rw [el, er, v0_at]
  rfl

theorem v18_at (n : Fin 137) (t : Fin 512) (e : Fin 8) (f : Fin 3584) :
    val_main_v18 (F := Ideal) xs wu (ix4 n t e f) = ∑ d : Fin 1024, xs (ix3 (tok n t) (hi d) (lo d)) * wu (ix3 e d f) := by
  rw [val_main_v18_apply]
  refine Finset.sum_congr rfl fun d _ => ?_
  have el : lidx_main_v18 (ix4 n t e f) d = ix3 n t d := by
    funext a; match a with | ⟨0, _⟩ => rfl | ⟨1, _⟩ => rfl | ⟨2, _⟩ => rfl
  have er : ridx_main_v18 (ix4 n t e f) d = ix3 e d f := by
    funext a; match a with | ⟨0, _⟩ => rfl | ⟨1, _⟩ => rfl | ⟨2, _⟩ => rfl
  rw [el, er, v0_at]
  rfl

theorem v19_at (n : Fin 137) (t : Fin 512) (e : Fin 8) (f : Fin 3584) :
    val_main_v19 (F := Ideal) xs wg wu (ix4 n t e f) = hidden xs wg wu e (tok n t) f := by
  have h : val_main_v19 (F := Ideal) xs wg wu (ix4 n t e f)
      = hid (val_main_v10 (F := Ideal) xs wg (ix4 n t e f)) (val_main_v18 (F := Ideal) xs wu (ix4 n t e f)) := by
    rw [val_main_v19_apply, val_main_v17_apply, val_main_v16_apply, val_main_v15_apply, val_main_v14_apply, val_main_v13_apply,
      val_main_v12_apply, val_main_v11_apply]
    generalize val_main_v10 (F := Ideal) xs wg (ix4 n t e f) = g
    generalize val_main_v18 (F := Ideal) xs wu (ix4 n t e f) = u
    show g * Ideal.div (Ideal.ofBits .f32 0x3F800000#32) (Ideal.ofBits .f32 0x3F800000#32 + Ideal.exp (-g)) * u = _
    rw [Ideal.ofBits_one_f32]
    rfl
  rw [h, v10_at, v18_at]
  rfl

theorem v20_at (e : Fin 8) (n : Fin 137) (t : Fin 512) (j : Fin 1024) :
    val_main_v20 (F := Ideal) xs wg wu wd (ix4 e n t j) = expert xs wg wu wd e (tok n t) j := by
  rw [val_main_v20_apply]
  refine Finset.sum_congr rfl fun f _ => ?_
  have el : lidx_main_v20 (ix4 e n t j) f = ix4 n t e f := by
    funext a; match a with | ⟨0, _⟩ => rfl | ⟨1, _⟩ => rfl | ⟨2, _⟩ => rfl | ⟨3, _⟩ => rfl
  have er : ridx_main_v20 (ix4 e n t j) f = ix3 e f j := by
    funext a; match a with | ⟨0, _⟩ => rfl | ⟨1, _⟩ => rfl | ⟨2, _⟩ => rfl
  rw [el, er, v19_at]
  rfl

/-! ## The one-hot gate -/

theorem uitofp_bit (b : Bool) : (FloatOps.uitofp .f32 (BitVec.ofBool b) : Ideal .f32) = if b = true then (1 : EReal) else 0 := by
  show (((BitVec.ofBool b).toNat : ℝ) : EReal) = _
  cases b <;> simp

theorem gate_at (T : Tabs Ideal) (n : Fin 137) (e : Fin 8) :
    val_main_v6 (F := Ideal) T.T0 T.T1 (ix2 n e)
      = if n.val < T.n.toNat ∧ (T.T0 (ix1 n)).toNat = e.val then (1 : EReal) else 0 := by
  have i5 : idx_main_call1_v0 (idx_main_call1_v2 (ix2 n e)) = ix1 n := by
    funext a; match a with | ⟨0, _⟩ => rfl
  have h8 := T.lt8 (ix1 n)
  have hle := T.lt31
  have hn := n.isLt
  have he := e.isLt
  have h4 : val_main_v4 (F := Ideal) T.T1 (ix1 n) = BitVec.ofBool (decide (n.val < T.n.toNat)) := by
    rw [val_main_v4_apply]
    refine (WordCmp.cmpi_slt_of_lt (x := BitVec.ofNat 32 n.val) (y := T.n) (by rw [BitVec.toNat_ofNat]; omega) (by omega)).trans ?_
    rw [BitVec.toNat_ofNat, Nat.mod_eq_of_lt (by omega)]
  rw [val_main_v6_apply, val_main_call1_v4_apply, val_main_call1_v2_apply, val_main_call1_v0_apply, i5, val_main_v5_apply, h4]
  show (FloatOps.uitofp .f32 (IntOp.cmpi .eq (Scalar.select (BitVec.ofBool (decide (n.val < T.n.toNat))) (T.T0 (ix1 n)) 8#32)
    (BitVec.ofNat 32 e.val)) : Ideal .f32) = _
  have hc : ∀ x : BitVec 32, IntOp.cmpi .eq x (BitVec.ofNat 32 e.val) = BitVec.ofBool (decide (x.toNat = e.val)) := by
    intro x
    show BitVec.ofBool (x == BitVec.ofNat 32 e.val) = _
    refine congrArg BitVec.ofBool ?_
    rw [Bool.eq_iff_iff, beq_iff_eq, decide_eq_true_iff, ← BitVec.toNat_inj, BitVec.toNat_ofNat, Nat.mod_eq_of_lt (by omega)]
  rw [hc, uitofp_bit]
  unfold Scalar.select
  by_cases h : n.val < T.n.toNat
  · simp [h]
  · have h8' : ¬(8 : ℕ) = e.val := by omega
    simp [h, h8']

/-- THE REFERENCE at token `t` of block `n`, feature `j`. -/
theorem v21_at (T : Tabs Ideal) (n : Fin 137) (t : Fin 512) (j : Fin 1024) :
    val_main_v21 (F := Ideal) T.T0 T.T1 xs wg wu wd (ix3 n t j) = spec T xs wg wu wd n (tok n t) j := by
  have h : val_main_v21 (F := Ideal) T.T0 T.T1 xs wg wu wd (ix3 n t j)
      = ∑ e : Fin 8, (if n.val < T.n.toNat ∧ (T.T0 (ix1 n)).toNat = e.val then (1 : EReal) else 0)
          * expert xs wg wu wd e (tok n t) j := by
    rw [val_main_v21_apply]
    refine Finset.sum_congr rfl fun e _ => ?_
    have el : lidx_main_v21 (ix3 n t j) e = ix2 n e := by
      funext a; match a with | ⟨0, _⟩ => rfl | ⟨1, _⟩ => rfl
    have er : ridx_main_v21 (ix3 n t j) e = ix4 e n t j := by
      funext a; match a with | ⟨0, _⟩ => rfl | ⟨1, _⟩ => rfl | ⟨2, _⟩ => rfl | ⟨3, _⟩ => rfl
    rw [el, er, v20_at, gate_at]
  rw [h]
  unfold spec
  by_cases hu : n.val < T.n.toNat
  · rw [if_pos hu, Finset.sum_eq_single ⟨(T.T0 (ix1 n)).toNat, T.lt8 _⟩]
    · rw [if_pos ⟨hu, rfl⟩, one_mul]
    · intro e _ hne
      rw [if_neg (fun h => hne (Fin.ext h.2.symm)), zero_mul]
    · intro h; exact absurd (Finset.mem_univ _) h
  · rw [if_neg hu]
    exact Finset.sum_eq_zero fun e _ => by rw [if_neg (fun h => hu h.1), zero_mul]

theorem v22_at (T : Tabs Ideal) (n : Fin 137) (t : Fin 512) (s : Fin 8) (l : Fin 128) (q : S70144x8x128.Idx)
    (h0 : (q 0).val = 512 * n.val + t.val) (h1 : (q 1).val = s.val) (h2 : (q 2).val = l.val) :
    val_main_v22 (F := Ideal) T.T0 T.T1 xs wg wu wd q = spec T xs wg wu wd n (tok n t) (feat s l) := by
  have e : idx_main_v22 q = ix3 n t (feat s l) := by
    funext a
    match a with
    | ⟨0, _⟩ => exact Fin.ext (show (((q 0).val * 8 + (q 1).val) * 128 + (q 2).val) / 524288 = n.val by omega)
    | ⟨1, _⟩ => exact Fin.ext (show (((q 0).val * 8 + (q 1).val) * 128 + (q 2).val) / 1024 % 512 = t.val by omega)
    | ⟨2, _⟩ => exact Fin.ext (show (((q 0).val * 8 + (q 1).val) * 128 + (q 2).val) % 1024 = 128 * s.val + l.val by omega)
  rw [val_main_v22_apply, e, v21_at]

end Moe

end

end
-- ==== Proof.MoeResult.lean ====
module

public import proofs.«01_k».proof.Proof.MoeFrame
public import proofs.«01_k».proof.Proof.MoeBlock
public import proofs.«01_k».proof.Proof.MoeRef
public import Idealize.ShloMosaic.Lib.Pipeline.Value

/-! The grouped product's result array is the reference's: every block that is written back is, and the blocks tile the
array. -/

@[expose] public section

set_option maxRecDepth 16384

noncomputable section

namespace Moe

open Cert.Kernel2Ideal Cert.Kernel2Ideal.Gen
open Idealize.ShloMosaic Idealize.ShloMosaic.TcCoe Idealize.ShloMosaic.Tactic Idealize.SL.Sem

variable (T : Tabs Ideal) (m : (ℓ : Loc nD τ sig) → Buf (Elt Ideal) ℓ) (ρ : Dev nD → PrngReg)

/-- The arrays at launch: the token tiles, and the gate, up and down weights. -/
abbrev xArr (c : Dev nD) : Vec Ideal S70144x8x128 .f32 := m ((c : Thread nD τ).loc main_arg2)
abbrev gArr (c : Dev nD) : Vec Ideal S8x1024x3584 .bf16 := m ((c : Thread nD τ).loc main_arg3)
abbrev uArr (c : Dev nD) : Vec Ideal S8x1024x3584 .bf16 := m ((c : Thread nD τ).loc main_arg4)
abbrev dArr (c : Dev nD) : Vec Ideal S8x3584x1024 .bf16 := m ((c : Thread nD τ).loc main_arg5)

/-- A point's tile, its half of the hidden width, and the expert of a tile. -/
def tileOf (t : Fin (cfgT T).N) : Fin 137 := ⟨t.val / 2, by have := t_lt T t; omega⟩
def halfOf (t : Fin (cfgT T).N) : Fin 2 := ⟨t.val % 2, by omega⟩
def expOf (p : Fin 137) : Fin 8 := ⟨(T.T0 (ix1 p)).toNat, T.lt8 _⟩

theorem rowIdx_eq (t : Fin (cfgT T).N) : rowIdx (crd T t) = ix1 (tileOf T t) := by
  funext a
  match a with
  | ⟨0, _⟩ => exact Fin.ext (crd0 T t)

/-! ## Which block each window is at -/

variable {T} in
theorem half_live {t : Fin (cfgT T).N} (h : Live T t) : half T (crd T t) = (halfOf T t).val := by
  unfold half
  rw [crd0, crd1, if_pos h]
  rfl

variable {T} in
theorem at0 {t : Fin (cfgT T).N} (h : Live T t) : ((cfgT T).win (0 : Fin 5)).index t = ![t.val / 2, 0, 0] := by
  refine (tr0 T (crd T t)).trans ?_
  rw [crd0, min_eq_left (by unfold Live at h; omega)]
variable {T} in
theorem at1 {t : Fin (cfgT T).N} (h : Live T t) : ((cfgT T).win (1 : Fin 5)).index t = ![(expOf T (tileOf T t)).val, 0, (halfOf T t).val] := by
  refine (tr1 T (crd T t)).trans ?_
  rw [half_live h, rowIdx_eq]
  rfl
variable {T} in
theorem at2 {t : Fin (cfgT T).N} (h : Live T t) : ((cfgT T).win (2 : Fin 5)).index t = ![(expOf T (tileOf T t)).val, 0, (halfOf T t).val] := by
  refine (tr2 T (crd T t)).trans ?_
  rw [half_live h, rowIdx_eq]
  rfl
variable {T} in
theorem at3 {t : Fin (cfgT T).N} (h : Live T t) : ((cfgT T).win (3 : Fin 5)).index t = ![(expOf T (tileOf T t)).val, (halfOf T t).val, 0] := by
  refine (tr3 T (crd T t)).trans ?_
  rw [half_live h, rowIdx_eq]
  rfl
theorem at4 (t : Fin (cfgT T).N) : ((cfgT T).win (4 : Fin 5)).index t = ![t.val / 2, 0, 0] := by
  have h := crd0 T t
  have h' := t_lt T t
  show ![(BitVec.ofNat 32 (crd T t 0).val).toNat, 0, 0] = _
  rw [h, BitVec.toNat_ofNat, Nat.mod_eq_of_lt (by omega)]

/-! ## What the windows show of the arrays -/

variable {T} in
theorem iblk0_at (c : Dev nD) {t : Fin (cfgT T).N} (h : Live T t) (r : Fin 512) (s : Fin 8) (l : Fin 128) :
    (iblk T m ρ c (0 : Fin 5) t : Vec Ideal S512x8x128 .f32) (ix3 r s l) = xArr m c (ix3 (tok (tileOf T t) r) s l) := by
  unfold iblk
  rw [View.read_apply, cast_eq]
  refine congrArg (xArr m c) (funext fun a => ?_)
  match a with
  | ⟨0, _⟩ =>
    refine Fin.ext (show ((cfgT T).win (0 : Fin 5)).index t 0 * 512 + 1 * r.val = 512 * (t.val / 2) + r.val from ?_)
    rw [at0 h, show (![t.val / 2, 0, 0] : Fin 3 → ℕ) 0 = t.val / 2 from rfl]; omega
  | ⟨1, _⟩ =>
    refine Fin.ext (show ((cfgT T).win (0 : Fin 5)).index t 1 * 8 + 1 * s.val = s.val from ?_)
    rw [at0 h, show (![t.val / 2, 0, 0] : Fin 3 → ℕ) 1 = 0 from rfl]; omega
  | ⟨2, _⟩ =>
    refine Fin.ext (show ((cfgT T).win (0 : Fin 5)).index t 2 * 128 + 1 * l.val = l.val from ?_)
    rw [at0 h, show (![t.val / 2, 0, 0] : Fin 3 → ℕ) 2 = 0 from rfl]; omega

variable {T} in
theorem iblk1_at (c : Dev nD) {t : Fin (cfgT T).N} (h : Live T t) (d : Fin 1024) (f : Fin 1792) :
    (iblk T m ρ c (1 : Fin 5) t : Vec Ideal S1x1024x1792 .bf16) (ix3 0 d f) = gArr m c (ix3 (expOf T (tileOf T t)) d (unitOf (halfOf T t) f)) := by
  unfold iblk
  rw [View.read_apply, cast_eq]
  refine congrArg (gArr m c) (funext fun a => ?_)
  match a with
  | ⟨0, _⟩ =>
    refine Fin.ext (show ((cfgT T).win (1 : Fin 5)).index t 0 * 1 + 1 * 0 = (expOf T (tileOf T t)).val from ?_)
    rw [at1 h, show (![(expOf T (tileOf T t)).val, 0, (halfOf T t).val] : Fin 3 → ℕ) 0 = (expOf T (tileOf T t)).val from rfl]; omega
  | ⟨1, _⟩ =>
    refine Fin.ext (show ((cfgT T).win (1 : Fin 5)).index t 1 * 1024 + 1 * d.val = d.val from ?_)
    rw [at1 h, show (![(expOf T (tileOf T t)).val, 0, (halfOf T t).val] : Fin 3 → ℕ) 1 = 0 from rfl]; omega
  | ⟨2, _⟩ =>
    refine Fin.ext (show ((cfgT T).win (1 : Fin 5)).index t 2 * 1792 + 1 * f.val = 1792 * (halfOf T t).val + f.val from ?_)
    rw [at1 h, show (![(expOf T (tileOf T t)).val, 0, (halfOf T t).val] : Fin 3 → ℕ) 2 = (halfOf T t).val from rfl]; omega

variable {T} in
theorem iblk2_at (c : Dev nD) {t : Fin (cfgT T).N} (h : Live T t) (d : Fin 1024) (f : Fin 1792) :
    (iblk T m ρ c (2 : Fin 5) t : Vec Ideal S1x1024x1792 .bf16) (ix3 0 d f) = uArr m c (ix3 (expOf T (tileOf T t)) d (unitOf (halfOf T t) f)) := by
  unfold iblk
  rw [View.read_apply, cast_eq]
  refine congrArg (uArr m c) (funext fun a => ?_)
  match a with
  | ⟨0, _⟩ =>
    refine Fin.ext (show ((cfgT T).win (2 : Fin 5)).index t 0 * 1 + 1 * 0 = (expOf T (tileOf T t)).val from ?_)
    rw [at2 h, show (![(expOf T (tileOf T t)).val, 0, (halfOf T t).val] : Fin 3 → ℕ) 0 = (expOf T (tileOf T t)).val from rfl]; omega
  | ⟨1, _⟩ =>
    refine Fin.ext (show ((cfgT T).win (2 : Fin 5)).index t 1 * 1024 + 1 * d.val = d.val from ?_)
    rw [at2 h, show (![(expOf T (tileOf T t)).val, 0, (halfOf T t).val] : Fin 3 → ℕ) 1 = 0 from rfl]; omega
  | ⟨2, _⟩ =>
    refine Fin.ext (show ((cfgT T).win (2 : Fin 5)).index t 2 * 1792 + 1 * f.val = 1792 * (halfOf T t).val + f.val from ?_)
    rw [at2 h, show (![(expOf T (tileOf T t)).val, 0, (halfOf T t).val] : Fin 3 → ℕ) 2 = (halfOf T t).val from rfl]; omega

variable {T} in
theorem iblk3_at (c : Dev nD) {t : Fin (cfgT T).N} (h : Live T t) (f : Fin 1792) (j : Fin 1024) :
    (iblk T m ρ c (3 : Fin 5) t : Vec Ideal S1x1792x1024 .bf16) (ix3 0 f j) = dArr m c (ix3 (expOf T (tileOf T t)) (unitOf (halfOf T t) f) j) := by
  unfold iblk
  rw [View.read_apply, cast_eq]
  refine congrArg (dArr m c) (funext fun a => ?_)
  match a with
  | ⟨0, _⟩ =>
    refine Fin.ext (show ((cfgT T).win (3 : Fin 5)).index t 0 * 1 + 1 * 0 = (expOf T (tileOf T t)).val from ?_)
    rw [at3 h, show (![(expOf T (tileOf T t)).val, (halfOf T t).val, 0] : Fin 3 → ℕ) 0 = (expOf T (tileOf T t)).val from rfl]; omega
  | ⟨1, _⟩ =>
    refine Fin.ext (show ((cfgT T).win (3 : Fin 5)).index t 1 * 1792 + 1 * f.val = 1792 * (halfOf T t).val + f.val from ?_)
    rw [at3 h, show (![(expOf T (tileOf T t)).val, (halfOf T t).val, 0] : Fin 3 → ℕ) 1 = (halfOf T t).val from rfl]; omega
  | ⟨2, _⟩ =>
    refine Fin.ext (show ((cfgT T).win (3 : Fin 5)).index t 2 * 1024 + 1 * j.val = j.val from ?_)
    rw [at3 h, show (![(expOf T (tileOf T t)).val, (halfOf T t).val, 0] : Fin 3 → ℕ) 2 = 0 from rfl]; omega

/-! ## A block -/

variable {T} in
/-- What one point of a tile that holds tokens adds. -/
theorem sumAt_at (c : Dev nD) {t : Fin (cfgT T).N} (h : Live T t) (a : Vec Ideal S512x1024 .f32) (r : Fin 512) (j : Fin 1024) :
    sumAt T m ρ c t a (ix2 r j) = a (ix2 r j) + ∑ f : Fin 1792,
      hidden (xArr m c) (gArr m c) (uArr m c) (expOf T (tileOf T t)) (tok (tileOf T t) r) (unitOf (halfOf T t) f)
        * dArr m c (ix3 (expOf T (tileOf T t)) (unitOf (halfOf T t) f) j) := by
  refine (halfSum_at _ _ _ _ a r j).trans (congrArg (a (ix2 r j) + ·) (Finset.sum_congr rfl fun f _ => ?_))
  refine congrArg₂ (· * ·) (congrArg₂ hid (Finset.sum_congr rfl fun d _ => ?_) (Finset.sum_congr rfl fun d _ => ?_)) (iblk3_at m ρ c h f j)
  · exact congrArg₂ (· * ·) (iblk0_at m ρ c h r (hi d) (lo d)) (iblk1_at m ρ c h d f)
  · exact congrArg₂ (· * ·) (iblk0_at m ρ c h r (hi d) (lo d)) (iblk2_at m ρ c h d f)

/-- What is stored after a tile's second half. -/
theorem aft_at (c : Dev nD) (t : Fin (cfgT T).N) (ho : t.val % 2 = 1) (r : Fin 512) (s : Fin 8) (l : Fin 128) :
    aft T m ρ c t (ix3 r s l)
      = spec T (xArr m c) (gArr m c) (uArr m c) (dArr m c) (tileOf T t) (tok (tileOf T t) r) (feat s l) := by
  by_cases h : Live T t
  · have hN : t.val - 1 < (cfgT T).N := by have := t.isLt; omega
    have h' : Live T ⟨t.val - 1, hN⟩ := by unfold Live at *; dsimp only at *; omega
    have et : tileOf T ⟨t.val - 1, hN⟩ = tileOf T t := Fin.ext (show (t.val - 1) / 2 = t.val / 2 by omega)
    have e0 : halfOf T ⟨t.val - 1, hN⟩ = 0 := Fin.ext (show (t.val - 1) % 2 = 0 by omega)
    have e1 : halfOf T t = 1 := Fin.ext ho
    have ea := acc_eq T m ρ c ⟨t.val - 1, hN⟩
    have es := sumAt_at m ρ c h' (k0_pay4 (F := Ideal)) r (feat s l)
    rw [et, e0, pay4_at, zero_add] at es
    have hs := sumAt_at m ρ c h (acc T m ρ c (t.val - 1)) r (feat s l)
    rw [e1] at hs
    rw [aft_live T m ρ c h]
    refine (pay2_at _ r s l).trans (hs.trans ?_)
    have hu : (tileOf T t).val < T.n.toNat := h
    unfold spec
    rw [if_pos hu, expert_halves]
    exact congrArg (· + _) ((congrFun ea _).trans es)
  · have hu : ¬(tileOf T t).val < T.n.toNat := h
    rw [aft_dead T m ρ c h]
    unfold spec
    rw [if_neg hu]
    exact pay3_at _

/-! ## The array -/

theorem emb4 (t : Fin (cfgT T).N) (y : S512x8x128.Idx) :
    ((((cfgT T).win (4 : Fin 5)).blk t).view.emb y 0).val = 512 * (t.val / 2) + (y 0).val
    ∧ ((((cfgT T).win (4 : Fin 5)).blk t).view.emb y 1).val = (y 1).val
    ∧ ((((cfgT T).win (4 : Fin 5)).blk t).view.emb y 2).val = (y 2).val := by
  refine ⟨?_, ?_, ?_⟩
  · show ((cfgT T).win (4 : Fin 5)).index t 0 * 512 + 1 * (y 0).val = _
    rw [at4, show (![t.val / 2, 0, 0] : Fin 3 → ℕ) 0 = t.val / 2 from rfl]; omega
  · show ((cfgT T).win (4 : Fin 5)).index t 1 * 8 + 1 * (y 1).val = _
    rw [at4, show (![t.val / 2, 0, 0] : Fin 3 → ℕ) 1 = 0 from rfl]; omega
  · show ((cfgT T).win (4 : Fin 5)).index t 2 * 128 + 1 * (y 2).val = _
    rw [at4, show (![t.val / 2, 0, 0] : Fin 3 → ℕ) 2 = 0 from rfl]; omega

theorem mem4 (t : Fin (cfgT T).N) (i : S70144x8x128.Idx) (h : (i 0).val / 512 = t.val / 2) : i ∈ (((cfgT T).win (4 : Fin 5)).blk t).view.set := by
  have h1 : (i 1).val < 8 := (i 1).isLt
  have h2 : (i 2).val < 128 := (i 2).isLt
  show i ∈ ((View.whole main_v0).slice (((cfgT T).win (4 : Fin 5)).rect t)).set
  rw [View.set_slice_whole, Rect.mem_set_unit]
  intro a
  match a with
  | ⟨0, _⟩ =>
    show ((cfgT T).win (4 : Fin 5)).index t 0 * 512 ≤ (i 0).val ∧ (i 0).val < ((cfgT T).win (4 : Fin 5)).index t 0 * 512 + 512
    rw [at4, show (![t.val / 2, 0, 0] : Fin 3 → ℕ) 0 = t.val / 2 from rfl]; omega
  | ⟨1, _⟩ =>
    show ((cfgT T).win (4 : Fin 5)).index t 1 * 8 ≤ (i 1).val ∧ (i 1).val < ((cfgT T).win (4 : Fin 5)).index t 1 * 8 + 8
    rw [at4, show (![t.val / 2, 0, 0] : Fin 3 → ℕ) 1 = 0 from rfl]; omega
  | ⟨2, _⟩ =>
    show ((cfgT T).win (4 : Fin 5)).index t 2 * 128 ≤ (i 2).val ∧ (i 2).val < ((cfgT T).win (4 : Fin 5)).index t 2 * 128 + 128
    rw [at4, show (![t.val / 2, 0, 0] : Fin 3 → ℕ) 2 = 0 from rfl]; omega

theorem cover4 (i : S70144x8x128.Idx) : ∃ t : Fin (cfgT T).N, ((cfgT T).win (4 : Fin 5)).flush t = true ∧ i ∈ (((cfgT T).win (4 : Fin 5)).blk t).view.set := by
  have h0 : (i 0).val < 70144 := (i 0).isLt
  have hN : 2 * ((i 0).val / 512) + 1 < (cfgT T).N := lt_of_lt_of_eq (by omega) N_0.symm
  exact ⟨⟨2 * ((i 0).val / 512) + 1, hN⟩, flush_at T (decide_eq_true (show (2 * ((i 0).val / 512) + 1) % 2 = 1 by omega)),
    mem4 T _ i (show (i 0).val / 512 = (2 * ((i 0).val / 512) + 1) / 2 by omega)⟩

/-- What a point writes back. -/
theorem flushed4 (c : Dev nD) (t : Fin (cfgT T).N) (y : S512x8x128.Idx) : (dats T m ρ 0 c).flushed (4 : Fin 5) t y = aft T m ρ c t y := rfl

/-- THE RESULT ARRAY. -/
theorem moe_result (c : Dev nD) :
    (dats T m ρ 0 c).arrAt (4 : Fin 5) (cfgT T).N
      = Cert.Reference2Ideal.Read.val_main_v22 (F := Ideal) T.T0 T.T1 (xArr m c) (gArr m c) (uArr m c) (dArr m c) := by
  refine (dats T m ρ 0 c).arrAt_eq_of_cover (4 : Fin 5) _ (fun t hf => ?_) (cover4 T)
  have ho : t.val % 2 = 1 := of_decide_eq_true ((flush_eq T t).symm.trans hf)
  refine funext fun y => (flushed4 T m ρ c t y).trans ?_
  obtain ⟨r, s, l, rfl⟩ : ∃ (r : Fin 512) (s : Fin 8) (l : Fin 128), y = ix3 r s l :=
    ⟨y 0, y 1, y 2, by funext a; match a with | ⟨0, _⟩ => rfl | ⟨1, _⟩ => rfl | ⟨2, _⟩ => rfl⟩
  obtain ⟨h0, h1, h2⟩ := emb4 T t (ix3 r s l)
  refine (aft_at T m ρ c t ho r s l).trans (Eq.symm ?_)
  refine Eq.trans ?_ (v22_at (xArr m c) (gArr m c) (uArr m c) (dArr m c) T (tileOf T t) r s l _ h0 h1 h2)
  rw [View.read_apply, cast_eq]

end Moe

end

end
-- ==== Proof.InProj.lean ====
module

public import proofs.«01_k».proof.Proof.MoeSpec
public import proofs.«01_k».proof.Proof.Gen.Kernel3Ideal.Value
public import proofs.«01_k».proof.Proof.Gen.Reference3Ideal.Read

/-! The mixers' input projection: every block of 1024 rows that a grid point writes is those rows times the weights, and
the blocks tile the result. -/

@[expose] public section

set_option maxRecDepth 16384

noncomputable section

namespace InProj

open Cert.Kernel3Ideal Cert.Kernel3Ideal.Gen Idealize.ShloMosaic Idealize.ShloMosaic.Tactic Idealize.SL.Sem Idealize.ShloMosaic.TcCoe

variable (m : (ℓ : Loc nD τ sig) → Buf (Elt Ideal) ℓ)

/-- The rows and the weights as launched. -/
abbrev xArr (c : Dev nD) : Vec Ideal S32768x1024 .f32 := m ((c : Thread nD τ).loc main_arg0)
abbrev wArr (c : Dev nD) : Vec Ideal S1024x3840 .bf16 := m ((c : Thread nD τ).loc main_arg1)

/-- The product in plain sums. -/
def spec (x : S32768x1024.Idx → EReal) (w : S1024x3840.Idx → EReal) (r : Fin 32768) (j : Fin 3840) : EReal :=
  ∑ d : Fin 1024, x (ix2 r d) * w (ix2 d j)

theorem ref_at (x : Vec Ideal S32768x1024 .f32) (w : Vec Ideal S1024x3840 .bf16) (q : S32768x3840.Idx) :
    Cert.Reference3Ideal.Read.val_main_v2 (F := Ideal) x w q = spec x w (q 0) (q 1) := by
  refine (Cert.Reference3Ideal.Read.val_main_v1_apply x w q).trans (Finset.sum_congr rfl fun d _ => ?_)
  refine congrArg₂ (fun a b : EReal => a * b) (congrArg x (funext fun a => ?_)) (congrArg w (funext fun a => ?_))
  all_goals match a with | ⟨0, _⟩ => rfl | ⟨1, _⟩ => rfl

theorem N_eq : cfg0.N = 32 := by decide

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = t.val ∧ win0_2.index t 1 = 0 := by decide +kernel

/-- What a grid point sees of the rows and of the weights. -/
theorem x_at (c : Dev nD) (t : Fin cfg0.N) (r d : Fin 1024) (q : S32768x1024.Idx) (h0 : (q 0).val = 1024 * t.val + r.val)
    (h1 : (q 1).val = d.val) : (iblk m c 0 t : Vec Ideal S1024x1024 .f32) (ix2 r d) = xArr m c q := by
  unfold iblk
  rw [View.read_apply, cast_eq]
  refine (congrFun (V_main_arg0 m c) _).trans (congrArg (xArr m c) (funext fun a => ?_))
  match a with
  | ⟨0, _⟩ => exact Fin.ext (show win0_0.index t 0 * 1024 + 1 * r.val = (q 0).val by rw [(idx0 t).1]; omega)
  | ⟨1, _⟩ => exact Fin.ext (show win0_0.index t 1 * 1024 + 1 * d.val = (q 1).val by rw [(idx0 t).2]; omega)
theorem w_at (c : Dev nD) (t : Fin cfg0.N) (d : Fin 1024) (j : Fin 3840) :
    (iblk m c 1 t : Vec Ideal S1024x3840 .bf16) (ix2 d j) = wArr m c (ix2 d j) := by
  unfold iblk
  rw [View.read_apply, cast_eq]
  refine (congrFun (V_main_arg1 m c) _).trans (congrArg (wArr m c) (funext fun a => ?_))
  match a with
  | ⟨0, _⟩ => exact Fin.ext (show win0_1.index t 0 * 1024 + 1 * d.val = d.val by rw [(idx1 t).1]; omega)
  | ⟨1, _⟩ => exact Fin.ext (show win0_1.index t 1 * 3840 + 1 * j.val = j.val by rw [(idx1 t).2]; omega)

theorem off2 : (![0, 0] : Fin 2 → ℕ) = fun _ => 0 := by funext a; match a with | ⟨0, _⟩ => rfl | ⟨1, _⟩ => rfl

theorem out_eq (x : Vec Ideal S1024x1024 .f32) (w : Vec Ideal S1024x3840 .bf16) : out0_2 x w = k0_pay1 x w := by
  unfold out0_2
  rw [View.canon_unit_zero off2, View.ld_unit_zero off2, View.ld_unit_zero off2]

theorem pay_at (x : Vec Ideal S1024x1024 .f32) (w : Vec Ideal S1024x3840 .bf16) (r : Fin 1024) (j : Fin 3840) :
    k0_pay1 (F := Ideal) x w (ix2 r j) = ∑ d : Fin 1024, x (ix2 r d) * w (ix2 d j) := by
  pointwise [k0_pay1]

/-- Where an element of a point's block lies in the result, and that the blocks tile it. -/
theorem emb0 (t : Fin cfg0.N) (y : S1024x3840.Idx) : ((win0_2.blk t).view.emb y 0).val = 1024 * t.val + (y 0).val := by
  show win0_2.index t 0 * 1024 + 1 * (y 0).val = _
  rw [(idx2 t).1]; omega
theorem emb1 (t : Fin cfg0.N) (y : S1024x3840.Idx) : ((win0_2.blk t).view.emb y 1).val = (y 1).val := by
  show win0_2.index t 1 * 3840 + 1 * (y 1).val = _
  rw [(idx2 t).2]; omega

theorem mem (t : Fin cfg0.N) (i : S32768x3840.Idx) (h : (i 0).val / 1024 = t.val) : i ∈ ((cfg0.win 2).blk t).view.set := by
  have h1 : (i 1).val < 3840 := (i 1).isLt
  show i ∈ ((View.whole main_v0).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    rw [(idx2 t).1]; omega
  | ⟨1, _⟩ =>
    show win0_2.index t 1 * 3840 ≤ (i 1).val ∧ (i 1).val < win0_2.index t 1 * 3840 + 3840
    rw [(idx2 t).2]; omega

theorem cover (i : S32768x3840.Idx) : ∃ t : Fin cfg0.N, (cfg0.win 2).flush t = true ∧ i ∈ ((cfg0.win 2).blk t).view.set := by
  have h0 : (i 0).val < 32768 := (i 0).isLt
  exact ⟨⟨(i 0).val / 1024, by rw [N_eq]; omega⟩, flush0_2 _, mem _ i rfl⟩

theorem point_eq (c : Dev nD) (t : Fin cfg0.N) (r : Fin 1024) (j : Fin 3840) (q : S32768x3840.Idx)
    (h0 : (q 0).val = 1024 * t.val + r.val) (h1 : (q 1).val = j.val) :
    out0_2 (iblk m c 0 t) (iblk m c 1 t) (ix2 r j) = Cert.Reference3Ideal.Read.val_main_v2 (F := Ideal) (xArr m c) (wArr m c) q := by
  rw [out_eq, ref_at, show q 1 = j from Fin.ext h1]
  refine (pay_at _ _ r j).trans (Finset.sum_congr rfl fun d _ => ?_)
  rw [x_at m c t r d (ix2 (q 0) d) h0 rfl, w_at]

/-- THE RESULT ARRAY. -/
theorem result_eq (c : Dev nD) :
    (dats m 0 c).arrAt 2 cfg0.N = Cert.Reference3Ideal.Read.val_main_v2 (F := Ideal) (xArr m c) (wArr m c) := by
  refine (dats m 0 c).arrAt_eq_of_cover 2 _ (fun t _ => ?_) cover
  refine (Cert.Kernel3Ideal.Value.flushed2 m c t).trans (funext fun y => ?_)
  refine (congrArg (out0_2 (iblk m c 0 t) (iblk m c 1 t)) (?_ : y = ix2 (n0 := 1024) (n1 := 3840) (y 0) (y 1))).trans
    (point_eq m c t (y 0) (y 1) _ (emb0 t y) (emb1 t y))
  funext a
  match a with | ⟨0, _⟩ => rfl | ⟨1, _⟩ => rfl

end InProj

end

end
-- ==== Proof.LayerNorm.lean ====
module

public import proofs.«01_k».proof.Proof.Gen.Reference4Ideal.Read
public import Idealize.ShloMosaic.Lib.IdealHost
public import Idealize.ShloMosaic.Lib.Pointwise

/-! The layer norm in plain sums, and the references' layer norm of 32768 rows as those sums. -/

@[expose] public section

set_option maxRecDepth 16384

noncomputable section

namespace LayerNorm

open Idealize.ShloMosaic Idealize.ShloMosaic.Tactic

def mean (v : Fin 1024 → EReal) : EReal := Ideal.div (∑ j : Fin 1024, v j) (Ideal.ofBits .f32 0x44800000#32)

def centred (v : Fin 1024 → EReal) (j : Fin 1024) : EReal := v j - mean v

/-- A row's layer norm at a feature. -/
def norm (v g b : Fin 1024 → EReal) (j : Fin 1024) : EReal :=
  centred v j * Ideal.rsqrt (mean (fun k => centred v k * centred v k) + Ideal.ofBits .f32 0x3727C5AC#32) * g j + b j

/-- A matrix by row and column. -/
abbrev rw2 {a c : ℕ} (v : (⟨2, ![a, c]⟩ : Shape).Idx → EReal) (r : Fin a) (j : Fin c) : EReal := v (ix2 r j)

section Ref
open Cert.Reference4Ideal Cert.Reference4Ideal.Gen

section Defs
variable {F : FTy → Type} [FloatOps F]

/-- Each row's mean, as the references take it. -/
def meanH (v : FVec F S32768x1024 .f32) : FVec F S32768x1 .f32 :=
  Host.divf (broadcastInDim S32768x1 ![0] bcast_S32768_S32768x1_0
      (Host.reduceAdd v (constant S_ .f32 0x00000000#32) reducesTo_S32768x1024_S32768_d1 h_S_))
    (broadcastInDim S32768x1 ![] bcast_S_S32768x1 (constant S_ .f32 0x44800000#32))

def centredH (v : FVec F S32768x1024 .f32) : FVec F S32768x1024 .f32 :=
  subf v (broadcastInDim S32768x1024 ![0, 1] bcast_S32768x1_S32768x1024_0_1 (meanH v))

/-- The norm's scale or shift at every row. -/
def rowsH (g : FVec F S1x1024 .f32) : FVec F S32768x1024 .f32 :=
  broadcastInDim S32768x1024 ![0, 1] bcast_S1x1024_S32768x1024_0_1
    (broadcastInDim S1x1024 ![1] bcast_S1024_S1x1024_1 (shapeCast S1024 g shapeCasts_S1x1024_S1024))

/-- The references' layer norm. -/
def normH (v : FVec F S32768x1024 .f32) (g b : FVec F S1x1024 .f32) : FVec F S32768x1024 .f32 :=
  addf (mulf (mulf (centredH v) (broadcastInDim S32768x1024 ![0, 1] bcast_S32768x1_S32768x1024_0_1
    (Host.rsqrt (addf (meanH (mulf (centredH v) (centredH v))) (broadcastInDim S32768x1 ![] bcast_S_S32768x1 (constant S_ .f32 0x3727C5AC#32))))))
    (rowsH g)) (rowsH b)

end Defs

theorem meanH_at (v : FVec Ideal S32768x1024 .f32) (r : Fin 32768) : meanH v (ix2 r 0) = mean (rw2 v r) := by
  pointwise [meanH]
  rfl

theorem centredH_at (v : FVec Ideal S32768x1024 .f32) (r : Fin 32768) (j : Fin 1024) : centredH v (ix2 r j) = centred (rw2 v r) j := by
  have h : centredH v (ix2 r j) = v (ix2 r j) - meanH v (ix2 r 0) := by pointwise [centredH]
  rw [h, meanH_at]
  rfl

theorem rowsH_at (g : FVec Ideal S1x1024 .f32) (r : Fin 32768) (j : Fin 1024) : rowsH g (ix2 r j) = rw2 g 0 j := by
  pointwise [rowsH]

theorem normH_at (v : FVec Ideal S32768x1024 .f32) (g b : FVec Ideal S1x1024 .f32) (r : Fin 32768) (j : Fin 1024) :
    normH v g b (ix2 r j) = norm (rw2 v r) (rw2 g 0) (rw2 b 0) j := by
  have h : normH v g b (ix2 r j) = centredH v (ix2 r j) * Ideal.rsqrt (meanH (mulf (centredH v) (centredH v)) (ix2 r 0)
      + Ideal.ofBits .f32 0x3727C5AC#32) * rowsH g (ix2 r j) + rowsH b (ix2 r j) := by pointwise [normH]
  rw [h, meanH_at, centredH_at, rowsH_at, rowsH_at]
  have e : rw2 (mulf (centredH v) (centredH v)) r = fun k => centred (rw2 v r) k * centred (rw2 v r) k :=
    funext fun k => congrArg (fun s : EReal => s * s) (centredH_at v r k)
  rw [e]
  rfl

end Ref

end LayerNorm

end
-- ==== Proof.Ffn.lean ====
module

public import proofs.«01_k».proof.Proof.MoeSpec
public import proofs.«01_k».proof.Proof.LayerNorm
public import proofs.«01_k».proof.Proof.Gen.Kernel4Ideal.Value
public import proofs.«01_k».proof.Proof.Gen.Reference4Ideal.Read
public import Idealize.ShloMosaic.Lib.IdealHost

/-! The dense SwiGLU with its residual and layer norm: every block of 512 rows that a grid point writes is the
reference's, and the blocks tile the result. -/

@[expose] public section

set_option maxRecDepth 16384

noncomputable section

namespace Ffn

open Idealize.ShloMosaic LayerNorm

/-! ## The layer in plain sums -/

/-- A hidden unit of a row. -/
def hidden (x : Fin 1024 → EReal) (wg wu : Fin 1024 → Fin 2816 → EReal) (f : Fin 2816) : EReal :=
  Moe.hid (∑ d : Fin 1024, x d * wg d f) (∑ d : Fin 1024, x d * wu d f)

/-- The scaled row and its SwiGLU. -/
def resid (x : Fin 1024 → EReal) (wg wu : Fin 1024 → Fin 2816 → EReal) (wd : Fin 2816 → Fin 1024 → EReal) (j : Fin 1024) : EReal :=
  Ideal.ofBits .f32 0x3FB504F3#32 * x j + ∑ f : Fin 2816, hidden x wg wu f * wd f j

/-- The layer's result at a row's feature. -/
def layer (x : Fin 1024 → EReal) (wg wu : Fin 1024 → Fin 2816 → EReal) (wd : Fin 2816 → Fin 1024 → EReal) (g b : Fin 1024 → EReal)
    (j : Fin 1024) : EReal :=
  norm (resid x wg wu wd) g b j

/-! ## The reference at an index -/

section Ref
open Cert.Reference4Ideal Cert.Reference4Ideal.Gen Cert.Reference4Ideal.Read

variable (x : Vec Ideal S32768x1024 .f32) (wg wu : Vec Ideal S1024x2816 .bf16) (wd : Vec Ideal S2816x1024 .bf16)
  (g b : Vec Ideal S1x1024 .f32)

theorem v3_at (r : Fin 32768) (f : Fin 2816) :
    val_main_v3 (F := Ideal) x wg (ix2 r f) = ∑ d : Fin 1024, rw2 x r d * rw2 wg d f := by
  refine (val_main_v3_apply x wg _).trans (Finset.sum_congr rfl fun d _ => ?_)
  refine congrArg₂ (fun a b : EReal => a * b) (congrArg x (funext fun a => ?_)) (congrArg wg (funext fun a => ?_))
  all_goals match a with | ⟨0, _⟩ => rfl | ⟨1, _⟩ => rfl

theorem v11_at (r : Fin 32768) (f : Fin 2816) :
    val_main_v11 (F := Ideal) x wu (ix2 r f) = ∑ d : Fin 1024, rw2 x r d * rw2 wu d f := v3_at x wu r f

theorem v12_at (r : Fin 32768) (f : Fin 2816) :
    val_main_v12 (F := Ideal) x wg wu (ix2 r f) = hidden (rw2 x r) (rw2 wg) (rw2 wu) f := by
  have h : val_main_v12 (F := Ideal) x wg wu (ix2 r f)
      = Moe.hid (val_main_v3 (F := Ideal) x wg (ix2 r f)) (val_main_v11 (F := Ideal) x wu (ix2 r f)) := by
    rw [val_main_v12_apply, val_main_v10_apply, val_main_v9_apply, val_main_v8_apply, val_main_v7_apply, val_main_v6_apply,
      val_main_v5_apply, val_main_v4_apply]
    generalize val_main_v3 (F := Ideal) x wg (ix2 r f) = p
    generalize val_main_v11 (F := Ideal) x wu (ix2 r f) = u
    show p * Ideal.div (Ideal.ofBits .f32 0x3F800000#32) (Ideal.ofBits .f32 0x3F800000#32 + Ideal.exp (-p)) * u = _
    rw [Ideal.ofBits_one_f32]
    rfl
  rw [h, v3_at, v11_at]
  rfl

theorem v16_at (r : Fin 32768) (j : Fin 1024) :
    val_main_v16 (F := Ideal) x wg wu wd (ix2 r j) = resid (rw2 x r) (rw2 wg) (rw2 wu) (rw2 wd) j := by
  rw [val_main_v16_apply, val_main_v15_apply, val_main_v14_apply, val_main_v13_apply]
  refine congrArg (fun s : EReal => Ideal.ofBits .f32 0x3FB504F3#32 * x (ix2 r j) + s) (Finset.sum_congr rfl fun f _ => ?_)
  have el : lidx_main_v13 (ix2 r j) f = ix2 r f := by
    funext a; match a with | ⟨0, _⟩ => rfl | ⟨1, _⟩ => rfl
  have er : ridx_main_v13 (ix2 r j) f = ix2 f j := by
    funext a; match a with | ⟨0, _⟩ => rfl | ⟨1, _⟩ => rfl
  rw [el, er, v12_at]
  rfl

theorem v42_eq : val_main_v42 (F := Ideal) x wg wu wd g b
    = normH (F := Ideal) (val_main_v16 (F := Ideal) x wg wu wd : FVec Ideal S32768x1024 .f32) g b := rfl

/-- THE REFERENCE at row `r` and feature `j`. -/
theorem ref_at (r : Fin 32768) (j : Fin 1024) :
    val_main_v42 (F := Ideal) x wg wu wd g b (ix2 r j) = layer (rw2 x r) (rw2 wg) (rw2 wu) (rw2 wd) (rw2 g 0) (rw2 b 0) j := by
  rw [v42_eq]
  refine (normH_at _ g b r j).trans ?_
  exact congrArg (fun v => norm v (rw2 g 0) (rw2 b 0) j) (funext fun k => v16_at x wg wu wd r k)

end Ref

/-! ## A block at an index -/

section Block
open Cert.Kernel4Ideal Cert.Kernel4Ideal.Gen Idealize.ShloMosaic.Tactic

section Defs
variable {F : FTy → Type} [FloatOps F]

/-- Rows times a weight matrix. -/
def prod (x : Vec F S512x1024 .f32) (w : Vec F S1024x2816 .bf16) : FVec F S512x2816 .f32 :=
  matmul dot_S512x1024_S1024x2816_S512x2816_1_0_0_1_n_n none (truncf .bf16 x bitsLt_bf16_f32) w (constant S512x2816 .f32 0x00000000#32)

/-- The hidden units. -/
def units (g u : FVec F S512x2816 .f32) : FVec F S512x2816 .bf16 :=
  truncf .bf16 (mulf (mulf g (logistic g)) u) bitsLt_bf16_f32

/-- The scaled rows and their SwiGLU. -/
def residB (x : Vec F S512x1024 .f32) (h : FVec F S512x2816 .bf16) (wd : Vec F S2816x1024 .bf16) : FVec F S512x1024 .f32 :=
  addf (mulf (broadcast S512x1024 (Scalar.ofBits .f32 0x3FB504F3#32)) x) (addf (broadcast S512x1024 (Scalar.ofBits .f32 0x00000000#32))
    (matmul dot_S512x2816_S2816x1024_S512x1024_1_0_0_1_n_n none h wd (constant S512x1024 .f32 0x00000000#32)))

/-- Each row's mean. -/
def meanB (v : FVec F S512x1024 .f32) : FVec F S512x1 .f32 :=
  divf (shapeCast S512x1 (multiReduction .add [1] S512 v 0x00000000#32 reduces_S512x1024_S512 (.inl rfl) rfl) shapeCasts_S512_S512x1)
    (broadcast S512x1 (Scalar.ofBits .f32 0x44800000#32))

def centredB (v : FVec F S512x1024 .f32) : FVec F S512x1024 .f32 := subf v (broadcastTo S512x1024 (meanB v) broadcasts_S512x1_S512x1024)

def scaledB (v : FVec F S512x1024 .f32) (g : Vec F S1x1024 .f32) : FVec F S512x1024 .f32 :=
  mulf (mulf (centredB v) (broadcastTo S512x1024 (rsqrt (addf (meanB (mulf (centredB v) (centredB v)))
    (broadcast S512x1 (Scalar.ofBits .f32 0x3727C5AC#32)))) broadcasts_S512x1_S512x1024)) (broadcastTo S512x1024 g broadcasts_S1x1024_S512x1024)

theorem pay2_eq (x : Vec F S512x1024 .f32) (wg wu : Vec F S1024x2816 .bf16) (wd : Vec F S2816x1024 .bf16) (g : Vec F S1x1024 .f32) :
    k0_pay2 x wg wu wd g = scaledB (residB x (units (prod x wg) (prod x wu)) wd) g := rfl

end Defs

variable (x : Vec Ideal S512x1024 .f32) (wg wu : Vec Ideal S1024x2816 .bf16) (wd : Vec Ideal S2816x1024 .bf16)
  (g b : Vec Ideal S1x1024 .f32)

theorem prod_at (r : Fin 512) (f : Fin 2816) : prod x wg (ix2 r f) = ∑ d : Fin 1024, rw2 x r d * rw2 wg d f := by
  pointwise [prod]

theorem units_at (p u : FVec Ideal S512x2816 .f32) (r : Fin 512) (f : Fin 2816) :
    units p u (ix2 r f) = Moe.hid (p (ix2 r f)) (u (ix2 r f)) := rfl

theorem down_at (h : FVec Ideal S512x2816 .bf16) (r : Fin 512) (j : Fin 1024) :
    residB x h wd (ix2 r j) = Ideal.ofBits .f32 0x3FB504F3#32 * x (ix2 r j) + ∑ f : Fin 2816, h (ix2 r f) * wd (ix2 f j) := by
  pointwise [residB]

theorem resid_at (r : Fin 512) (j : Fin 1024) :
    residB x (units (prod x wg) (prod x wu)) wd (ix2 r j) = resid (rw2 x r) (rw2 wg) (rw2 wu) (rw2 wd) j := by
  rw [down_at]
  refine congrArg (fun s : EReal => Ideal.ofBits .f32 0x3FB504F3#32 * x (ix2 r j) + s) (Finset.sum_congr rfl fun f _ => ?_)
  rw [units_at, prod_at, prod_at]
  rfl

theorem mean_at (v : FVec Ideal S512x1024 .f32) (r : Fin 512) : meanB v (ix2 r 0) = mean (rw2 v r) := by
  pointwise [meanB]
  rfl

theorem centred_at (v : FVec Ideal S512x1024 .f32) (r : Fin 512) (j : Fin 1024) : centredB v (ix2 r j) = centred (rw2 v r) j := by
  have h : centredB v (ix2 r j) = v (ix2 r j) - meanB v (ix2 r 0) := by pointwise [centredB]
  rw [h, mean_at]
  rfl

theorem scaled_at (v : FVec Ideal S512x1024 .f32) (r : Fin 512) (j : Fin 1024) :
    k0_pay1 b (scaledB v g) (ix2 r j) = norm (rw2 v r) (rw2 g 0) (rw2 b 0) j := by
  have h : k0_pay1 b (scaledB v g) (ix2 r j) = centredB v (ix2 r j) * Ideal.rsqrt (meanB (mulf (centredB v) (centredB v)) (ix2 r 0)
      + Ideal.ofBits .f32 0x3727C5AC#32) * g (ix2 0 j) + b (ix2 0 j) := by pointwise [k0_pay1, scaledB]
  rw [h, mean_at, centred_at]
  have e : rw2 (mulf (centredB v) (centredB v)) r = fun k => centred (rw2 v r) k * centred (rw2 v r) k :=
    funext fun k => congrArg (fun s : EReal => s * s) (centred_at v r k)
  rw [e]
  rfl

theorem off2 : (![0, 0] : Fin 2 → ℕ) = fun _ => 0 := by funext a; match a with | ⟨0, _⟩ => rfl | ⟨1, _⟩ => rfl

/-- THE BLOCK at row `r` and feature `j`. -/
theorem out_at (r : Fin 512) (j : Fin 1024) :
    out0_6 x wg wu wd g b (ix2 r j) = layer (rw2 x r) (rw2 wg) (rw2 wu) (rw2 wd) (rw2 g 0) (rw2 b 0) j := by
  unfold out0_6
  rw [View.canon_unit_zero off2, View.ld_unit_zero off2, View.ld_unit_zero off2, View.ld_unit_zero off2, View.ld_unit_zero off2,
    View.ld_unit_zero off2, View.ld_unit_zero off2, pay2_eq]
  refine (scaled_at g b _ r j).trans ?_
  exact congrArg (fun v => norm v (rw2 g 0) (rw2 b 0) j) (funext fun k => resid_at x wg wu wd r k)

end Block

/-! ## The result array -/

section Result
open Cert.Kernel4Ideal Cert.Kernel4Ideal.Gen Idealize.ShloMosaic.Tactic Idealize.SL.Sem Idealize.ShloMosaic.TcCoe

variable (m : (ℓ : Loc nD τ sig) → Buf (Elt Ideal) ℓ)

/-- The rows, the gate, up and down weights, and the norm's scale and shift as launched. -/
abbrev xArr (c : Dev nD) : Vec Ideal S32768x1024 .f32 := m ((c : Thread nD τ).loc main_arg0)
abbrev gArr (c : Dev nD) : Vec Ideal S1024x2816 .bf16 := m ((c : Thread nD τ).loc main_arg1)
abbrev uArr (c : Dev nD) : Vec Ideal S1024x2816 .bf16 := m ((c : Thread nD τ).loc main_arg2)
abbrev dArr (c : Dev nD) : Vec Ideal S2816x1024 .bf16 := m ((c : Thread nD τ).loc main_arg3)
abbrev sArr (c : Dev nD) : Vec Ideal S1x1024 .f32 := m ((c : Thread nD τ).loc main_arg4)
abbrev bArr (c : Dev nD) : Vec Ideal S1x1024 .f32 := m ((c : Thread nD τ).loc main_arg5)

theorem N_eq : cfg0.N = 64 := by decide

theorem idx0 : ∀ t : Fin grid0.N, win0_0.index t 0 = t.val ∧ win0_0.index t 1 = 0 := by decide +kernel
theorem idx1 : ∀ t : Fin grid0.N, win0_1.index t 0 = 0 ∧ win0_1.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = t.val ∧ win0_6.index t 1 = 0 := by decide +kernel

/-- What a grid point sees: 512 of the rows, and the whole of each other argument. -/
theorem x_at (c : Dev nD) (t : Fin cfg0.N) (r : Fin 512) (q : Fin 32768) (h : q.val = 512 * t.val + r.val) :
    rw2 (iblk m c 0 t : Vec Ideal S512x1024 .f32) r = rw2 (xArr m c) q := by
  funext d
  show (iblk m c 0 t : Vec Ideal S512x1024 .f32) (ix2 r d) = _
  unfold iblk
  rw [View.read_apply, cast_eq]
  refine (congrFun (V_main_arg0 m c) _).trans (congrArg (xArr m c) (funext fun a => ?_))
  match a with
  | ⟨0, _⟩ => exact Fin.ext (show win0_0.index t 0 * 512 + 1 * r.val = q.val by rw [(idx0 t).1]; omega)
  | ⟨1, _⟩ => exact Fin.ext (show win0_0.index t 1 * 1024 + 1 * d.val = d.val by rw [(idx0 t).2]; omega)
theorem g_eq (c : Dev nD) (t : Fin cfg0.N) : (iblk m c 1 t : Vec Ideal S1024x2816 .bf16) = gArr m c := by
  funext y
  unfold iblk
  rw [View.read_apply, cast_eq]
  refine (congrFun (V_main_arg1 m c) _).trans (congrArg (gArr m c) (funext fun a => ?_))
  match a with
  | ⟨0, _⟩ => exact Fin.ext (show win0_1.index t 0 * 1024 + 1 * (y 0).val = (y 0).val by rw [(idx1 t).1]; omega)
  | ⟨1, _⟩ => exact Fin.ext (show win0_1.index t 1 * 2816 + 1 * (y 1).val = (y 1).val by rw [(idx1 t).2]; omega)
theorem u_eq (c : Dev nD) (t : Fin cfg0.N) : (iblk m c 2 t : Vec Ideal S1024x2816 .bf16) = uArr m c := by
  funext y
  unfold iblk
  rw [View.read_apply, cast_eq]
  refine (congrFun (V_main_arg2 m c) _).trans (congrArg (uArr m c) (funext fun a => ?_))
  match a with
  | ⟨0, _⟩ => exact Fin.ext (show win0_2.index t 0 * 1024 + 1 * (y 0).val = (y 0).val by rw [(idx2 t).1]; omega)
  | ⟨1, _⟩ => exact Fin.ext (show win0_2.index t 1 * 2816 + 1 * (y 1).val = (y 1).val by rw [(idx2 t).2]; omega)
theorem d_eq (c : Dev nD) (t : Fin cfg0.N) : (iblk m c 3 t : Vec Ideal S2816x1024 .bf16) = dArr m c := by
  funext y
  unfold iblk
  rw [View.read_apply, cast_eq]
  refine (congrFun (V_main_arg3 m c) _).trans (congrArg (dArr m c) (funext fun a => ?_))
  match a with
  | ⟨0, _⟩ => exact Fin.ext (show win0_3.index t 0 * 2816 + 1 * (y 0).val = (y 0).val by rw [(idx3 t).1]; omega)
  | ⟨1, _⟩ => exact Fin.ext (show win0_3.index t 1 * 1024 + 1 * (y 1).val = (y 1).val by rw [(idx3 t).2]; omega)
theorem s_eq (c : Dev nD) (t : Fin cfg0.N) : (iblk m c 4 t : Vec Ideal S1x1024 .f32) = sArr m c := by
  funext y
  unfold iblk
  rw [View.read_apply, cast_eq]
  refine (congrFun (V_main_arg4 m c) _).trans (congrArg (sArr m c) (funext fun a => ?_))
  match a with
  | ⟨0, _⟩ => exact Fin.ext (show win0_4.index t 0 * 1 + 1 * (y 0).val = (y 0).val by rw [(idx4 t).1]; omega)
  | ⟨1, _⟩ => exact Fin.ext (show win0_4.index t 1 * 1024 + 1 * (y 1).val = (y 1).val by rw [(idx4 t).2]; omega)
theorem b_eq (c : Dev nD) (t : Fin cfg0.N) : (iblk m c 5 t : Vec Ideal S1x1024 .f32) = bArr m c := by
  funext y
  unfold iblk
  rw [View.read_apply, cast_eq]
  refine (congrFun (V_main_arg5 m c) _).trans (congrArg (bArr m c) (funext fun a => ?_))
  match a with
  | ⟨0, _⟩ => exact Fin.ext (show win0_5.index t 0 * 1 + 1 * (y 0).val = (y 0).val by rw [(idx5 t).1]; omega)
  | ⟨1, _⟩ => exact Fin.ext (show win0_5.index t 1 * 1024 + 1 * (y 1).val = (y 1).val by rw [(idx5 t).2]; omega)

/-- Where an element of a point's block lies in the result, and that the blocks tile it. -/
theorem emb0 (t : Fin cfg0.N) (y : S512x1024.Idx) : ((win0_6.blk t).view.emb y 0).val = 512 * t.val + (y 0).val := by
  show win0_6.index t 0 * 512 + 1 * (y 0).val = _
  rw [(idx6 t).1]; omega
theorem emb1 (t : Fin cfg0.N) (y : S512x1024.Idx) : ((win0_6.blk t).view.emb y 1).val = (y 1).val := by
  show win0_6.index t 1 * 1024 + 1 * (y 1).val = _
  rw [(idx6 t).2]; omega

theorem mem (t : Fin cfg0.N) (i : S32768x1024.Idx) (h : (i 0).val / 512 = t.val) : i ∈ ((cfg0.win 6).blk t).view.set := by
  have h1 : (i 1).val < 1024 := (i 1).isLt
  show i ∈ ((View.whole main_v0).slice (win0_6.rect t)).set
  rw [View.set_slice_whole, Rect.mem_set_unit]
  intro a
  match a with
  | ⟨0, _⟩ =>
    show win0_6.index t 0 * 512 ≤ (i 0).val ∧ (i 0).val < win0_6.index t 0 * 512 + 512
    rw [(idx6 t).1]; omega
  | ⟨1, _⟩ =>
    show win0_6.index t 1 * 1024 ≤ (i 1).val ∧ (i 1).val < win0_6.index t 1 * 1024 + 1024
    rw [(idx6 t).2]; omega

theorem cover (i : S32768x1024.Idx) : ∃ t : Fin cfg0.N, (cfg0.win 6).flush t = true ∧ i ∈ ((cfg0.win 6).blk t).view.set := by
  have h0 : (i 0).val < 32768 := (i 0).isLt
  exact ⟨⟨(i 0).val / 512, by rw [N_eq]; omega⟩, flush0_6 _, mem _ i rfl⟩

theorem point_eq (c : Dev nD) (t : Fin cfg0.N) (r : Fin 512) (j : Fin 1024) (q : Fin 32768) (h : q.val = 512 * t.val + r.val) :
    out0_6 (iblk m c 0 t) (iblk m c 1 t) (iblk m c 2 t) (iblk m c 3 t) (iblk m c 4 t) (iblk m c 5 t) (ix2 r j)
      = Cert.Reference4Ideal.Read.val_main_v42 (F := Ideal) (xArr m c) (gArr m c) (uArr m c) (dArr m c) (sArr m c) (bArr m c) (ix2 q j) := by
  refine (out_at _ _ _ _ _ _ r j).trans (Eq.trans ?_ (ref_at _ _ _ _ _ _ q j).symm)
  rw [x_at m c t r q h, g_eq, u_eq, d_eq, s_eq, b_eq]

/-- THE RESULT ARRAY. -/
theorem result_eq (c : Dev nD) : (dats m 0 c).arrAt 6 cfg0.N
    = Cert.Reference4Ideal.Read.val_main_v42 (F := Ideal) (xArr m c) (gArr m c) (uArr m c) (dArr m c) (sArr m c) (bArr m c) := by
  refine (dats m 0 c).arrAt_eq_of_cover 6 _ (fun t _ => ?_) cover
  refine (Cert.Kernel4Ideal.Value.flushed6 m c t).trans (funext fun y => ?_)
  have hy : y = ix2 (n0 := 512) (n1 := 1024) (y 0) (y 1) := by funext a; match a with | ⟨0, _⟩ => rfl | ⟨1, _⟩ => rfl
  refine (congrArg (out0_6 (iblk m c 0 t) (iblk m c 1 t) (iblk m c 2 t) (iblk m c 3 t) (iblk m c 4 t) (iblk m c 5 t)) hy).trans
    ((point_eq m c t (y 0) (y 1) _ (emb0 t y)).trans ?_)
  refine congrArg (Cert.Reference4Ideal.Read.val_main_v42 (F := Ideal) (xArr m c) (gArr m c) (uArr m c) (dArr m c) (sArr m c) (bArr m c))
    (funext fun a => ?_)
  match a with
  | ⟨0, _⟩ => rfl
  | ⟨1, _⟩ => exact Fin.ext (emb1 t y).symm

end Result

end Ffn

end

end
-- ==== Proof.OutProj.lean ====
module

public import proofs.«01_k».proof.Proof.LayerNorm
public import proofs.«01_k».proof.Proof.Gen.Kernel5Ideal.Value
public import proofs.«01_k».proof.Proof.Gen.Reference5Ideal.Read

/-! The mixers' output projection with its residual and layer norm: every block of 1024 rows that a grid point writes is
the reference's, and the blocks tile the result. The reference multiplies the joined mixers' outputs by the joined
weights; the kernel adds three products. -/

@[expose] public section

set_option maxRecDepth 16384

noncomputable section

namespace OutProj

open Idealize.ShloMosaic LayerNorm

/-! ## The layer in plain sums -/

/-- The three mixers' outputs through their weights. -/
def mix (r : Fin 256 → EReal) (s : Fin 512 → EReal) (h : Fin 256 → EReal) (wr : Fin 256 → Fin 1024 → EReal)
    (ws : Fin 512 → Fin 1024 → EReal) (wh : Fin 256 → Fin 1024 → EReal) (j : Fin 1024) : EReal :=
  ((∑ d : Fin 256, r d * wr d j) + ∑ d : Fin 512, s d * ws d j) + ∑ d : Fin 256, h d * wh d j

/-- The scaled row and its mix. -/
def resid (x : Fin 1024 → EReal) (r : Fin 256 → EReal) (s : Fin 512 → EReal) (h : Fin 256 → EReal) (wr : Fin 256 → Fin 1024 → EReal)
    (ws : Fin 512 → Fin 1024 → EReal) (wh : Fin 256 → Fin 1024 → EReal) (j : Fin 1024) : EReal :=
  Ideal.ofBits .f32 0x3FB504F3#32 * x j + mix r s h wr ws wh j

/-- A sum over the joined features, by mixer. -/
theorem sum_joined (f : Fin 1024 → EReal) :
    ∑ k : Fin 1024, f k = ((∑ d : Fin 256, f ⟨d.val, by omega⟩) + ∑ d : Fin 512, f ⟨256 + d.val, by omega⟩)
      + ∑ d : Fin 256, f ⟨768 + d.val, by omega⟩ := by
  refine (Fin.sum_univ_add (a := 768) (b := 256) f).trans ?_
  exact congrArg (· + _) (Fin.sum_univ_add (a := 256) (b := 512) fun k => f (Fin.castAdd 256 k))

/-! ## The reference at an index -/

section Ref
open Cert.Reference5Ideal Cert.Reference5Ideal.Gen Cert.Reference5Ideal.Read

variable (x : Vec Ideal S32768x1024 .f32) (r : Vec Ideal S32768x256 .bf16) (s : Vec Ideal S32768x512 .bf16) (h : Vec Ideal S32768x256 .bf16)
  (wr : Vec Ideal S256x1024 .bf16) (ws : Vec Ideal S512x1024 .bf16) (wh : Vec Ideal S256x1024 .bf16) (g b : Vec Ideal S1x1024 .f32)

theorem cols_r (q : Fin 32768) (d : Fin 256) : val_main_v0 (F := Ideal) r s h (ix2 q ⟨d.val, by omega⟩) = r (ix2 q d) := by
  unfold val_main_v0
  exact concatenate_apply_piece (t := S32768x1024) 1 [⟨S32768x256, r⟩, ⟨S32768x512, s⟩, ⟨S32768x256, h⟩]
    concatenates_S32768x256_S32768x512_S32768x256_S32768x1024_d1 (ix2 q ⟨d.val, by omega⟩) 0 (by show 0 < 3; decide) S32768x256 r rfl rfl 0 rfl (ix2 q d)
    (fun b hb => match b with | ⟨0, _⟩ => rfl | ⟨1, _⟩ => absurd rfl hb) (Nat.zero_add _)
theorem cols_s (q : Fin 32768) (d : Fin 512) : val_main_v0 (F := Ideal) r s h (ix2 q ⟨256 + d.val, by omega⟩) = s (ix2 q d) := by
  unfold val_main_v0
  exact concatenate_apply_piece (t := S32768x1024) 1 [⟨S32768x256, r⟩, ⟨S32768x512, s⟩, ⟨S32768x256, h⟩]
    concatenates_S32768x256_S32768x512_S32768x256_S32768x1024_d1 (ix2 q ⟨256 + d.val, by omega⟩) 1 (by show 1 < 3; decide) S32768x512 s rfl rfl 256 rfl (ix2 q d)
    (fun b hb => match b with | ⟨0, _⟩ => rfl | ⟨1, _⟩ => absurd rfl hb) rfl
theorem cols_h (q : Fin 32768) (d : Fin 256) : val_main_v0 (F := Ideal) r s h (ix2 q ⟨768 + d.val, by omega⟩) = h (ix2 q d) := by
  unfold val_main_v0
  exact concatenate_apply_piece (t := S32768x1024) 1 [⟨S32768x256, r⟩, ⟨S32768x512, s⟩, ⟨S32768x256, h⟩]
    concatenates_S32768x256_S32768x512_S32768x256_S32768x1024_d1 (ix2 q ⟨768 + d.val, by omega⟩) 2 (by show 2 < 3; decide) S32768x256 h rfl rfl 768 rfl (ix2 q d)
    (fun b hb => match b with | ⟨0, _⟩ => rfl | ⟨1, _⟩ => absurd rfl hb) rfl

theorem rows_r (d : Fin 256) (j : Fin 1024) : val_main_v2 (F := Ideal) wr ws wh (ix2 ⟨d.val, by omega⟩ j) = wr (ix2 d j) := by
  unfold val_main_v2
  exact concatenate_apply_piece (t := S1024x1024) 0 [⟨S256x1024, wr⟩, ⟨S512x1024, ws⟩, ⟨S256x1024, wh⟩]
    concatenates_S256x1024_S512x1024_S256x1024_S1024x1024_d0 (ix2 ⟨d.val, by omega⟩ j) 0 (by show 0 < 3; decide) S256x1024 wr rfl rfl 0 rfl (ix2 d j)
    (fun b hb => match b with | ⟨0, _⟩ => absurd rfl hb | ⟨1, _⟩ => rfl) (Nat.zero_add _)
theorem rows_s (d : Fin 512) (j : Fin 1024) : val_main_v2 (F := Ideal) wr ws wh (ix2 ⟨256 + d.val, by omega⟩ j) = ws (ix2 d j) := by
  unfold val_main_v2
  exact concatenate_apply_piece (t := S1024x1024) 0 [⟨S256x1024, wr⟩, ⟨S512x1024, ws⟩, ⟨S256x1024, wh⟩]
    concatenates_S256x1024_S512x1024_S256x1024_S1024x1024_d0 (ix2 ⟨256 + d.val, by omega⟩ j) 1 (by show 1 < 3; decide) S512x1024 ws rfl rfl 256 rfl (ix2 d j)
    (fun b hb => match b with | ⟨0, _⟩ => absurd rfl hb | ⟨1, _⟩ => rfl) rfl
theorem rows_h (d : Fin 256) (j : Fin 1024) : val_main_v2 (F := Ideal) wr ws wh (ix2 ⟨768 + d.val, by omega⟩ j) = wh (ix2 d j) := by
  unfold val_main_v2
  exact concatenate_apply_piece (t := S1024x1024) 0 [⟨S256x1024, wr⟩, ⟨S512x1024, ws⟩, ⟨S256x1024, wh⟩]
    concatenates_S256x1024_S512x1024_S256x1024_S1024x1024_d0 (ix2 ⟨768 + d.val, by omega⟩ j) 2 (by show 2 < 3; decide) S256x1024 wh rfl rfl 768 rfl (ix2 d j)
    (fun b hb => match b with | ⟨0, _⟩ => absurd rfl hb | ⟨1, _⟩ => rfl) rfl

theorem v6_at (q : Fin 32768) (j : Fin 1024) :
    val_main_v6 (F := Ideal) r s h wr ws wh (ix2 q j) = mix (rw2 r q) (rw2 s q) (rw2 h q) (rw2 wr) (rw2 ws) (rw2 wh) j := by
  have e : val_main_v6 (F := Ideal) r s h wr ws wh (ix2 q j)
      = ∑ k : Fin 1024, val_main_v0 (F := Ideal) r s h (ix2 q k) * val_main_v2 (F := Ideal) wr ws wh (ix2 k j) := by
    refine (val_main_v6_apply r s h wr ws wh _).trans (Finset.sum_congr rfl fun k _ => ?_)
    rw [val_main_v1_apply, val_main_v3_apply]
    refine congrArg₂ (fun a b : EReal => a * b) (congrArg (val_main_v0 (F := Ideal) r s h) (funext fun a => ?_))
      (congrArg (val_main_v2 (F := Ideal) wr ws wh) (funext fun a => ?_))
    all_goals match a with | ⟨0, _⟩ => rfl | ⟨1, _⟩ => rfl
  rw [e, sum_joined]
  refine congrArg₂ (fun a b : EReal => a + b) (congrArg₂ (fun a b : EReal => a + b) ?_ ?_) ?_
  · exact Finset.sum_congr rfl fun d _ => congrArg₂ (fun a b : EReal => a * b) (cols_r r s h q d) (rows_r wr ws wh d j)
  · exact Finset.sum_congr rfl fun d _ => congrArg₂ (fun a b : EReal => a * b) (cols_s r s h q d) (rows_s wr ws wh d j)
  · exact Finset.sum_congr rfl fun d _ => congrArg₂ (fun a b : EReal => a * b) (cols_h r s h q d) (rows_h wr ws wh d j)

theorem v7_at (q : Fin 32768) (j : Fin 1024) : val_main_v7 (F := Ideal) x r s h wr ws wh (ix2 q j)
    = resid (rw2 x q) (rw2 r q) (rw2 s q) (rw2 h q) (rw2 wr) (rw2 ws) (rw2 wh) j := by
  rw [val_main_v7_apply, val_main_v5_apply, val_main_v4_apply, v6_at]
  rfl

theorem v33_eq : val_main_v33 (F := Ideal) x r s h wr ws wh g b
    = normH (F := Ideal) (val_main_v7 (F := Ideal) x r s h wr ws wh : FVec Ideal S32768x1024 .f32) g b := rfl

/-- THE REFERENCE at row `q` and feature `j`. -/
theorem ref_at (q : Fin 32768) (j : Fin 1024) : val_main_v33 (F := Ideal) x r s h wr ws wh g b (ix2 q j)
    = norm (resid (rw2 x q) (rw2 r q) (rw2 s q) (rw2 h q) (rw2 wr) (rw2 ws) (rw2 wh)) (rw2 g 0) (rw2 b 0) j := by
  rw [v33_eq]
  refine (normH_at _ g b q j).trans ?_
  exact congrArg (fun v => norm v (rw2 g 0) (rw2 b 0) j) (funext fun k => v7_at x r s h wr ws wh q k)

end Ref

/-! ## A block at an index -/

section Block
open Cert.Kernel5Ideal Cert.Kernel5Ideal.Gen Idealize.ShloMosaic.Tactic

section Defs
variable {F : FTy → Type} [FloatOps F]

/-- The scaled rows and the three products. -/
def residB (x : Vec F S1024x1024 .f32) (r : Vec F S1024x256 .bf16) (wr : Vec F S256x1024 .bf16) (s : Vec F S1024x512 .bf16)
    (ws : Vec F S512x1024 .bf16) (h : Vec F S1024x256 .bf16) (wh : Vec F S256x1024 .bf16) : FVec F S1024x1024 .f32 :=
  addf (mulf (broadcast S1024x1024 (Scalar.ofBits .f32 0x3FB504F3#32)) x) (addf (addf
    (matmul dot_S1024x256_S256x1024_S1024x1024_1_0_0_1_n_n none r wr (constant S1024x1024 .f32 0x00000000#32))
    (matmul dot_S1024x512_S512x1024_S1024x1024_1_0_0_1_n_n none s ws (constant S1024x1024 .f32 0x00000000#32)))
    (matmul dot_S1024x256_S256x1024_S1024x1024_1_0_0_1_n_n none h wh (constant S1024x1024 .f32 0x00000000#32)))

/-- Each row's mean. -/
def meanB (v : FVec F S1024x1024 .f32) : FVec F S1024x1 .f32 :=
  divf (shapeCast S1024x1 (multiReduction .add [1] S1024 v 0x00000000#32 reduces_S1024x1024_S1024 (.inl rfl) rfl) shapeCasts_S1024_S1024x1)
    (broadcast S1024x1 (Scalar.ofBits .f32 0x44800000#32))

def centredB (v : FVec F S1024x1024 .f32) : FVec F S1024x1024 .f32 := subf v (broadcastTo S1024x1024 (meanB v) broadcasts_S1024x1_S1024x1024)

/-- One over each row's deviation. -/
def scaleB (v : FVec F S1024x1024 .f32) : FVec F S1024x1024 .f32 :=
  broadcastTo S1024x1024 (rsqrt (addf (meanB (mulf (centredB v) (centredB v))) (broadcast S1024x1 (Scalar.ofBits .f32 0x3727C5AC#32))))
    broadcasts_S1024x1_S1024x1024

variable (x : Vec F S1024x1024 .f32) (r : Vec F S1024x256 .bf16) (wr : Vec F S256x1024 .bf16) (s : Vec F S1024x512 .bf16)
  (ws : Vec F S512x1024 .bf16) (h : Vec F S1024x256 .bf16) (wh : Vec F S256x1024 .bf16)

theorem pay2_eq : k0_pay2 r wr s ws h wh x = centredB (residB x r wr s ws h wh) := rfl
theorem pay3_eq : k0_pay3 r wr s ws h wh x = scaleB (residB x r wr s ws h wh) := rfl

end Defs

variable (x : Vec Ideal S1024x1024 .f32) (r : Vec Ideal S1024x256 .bf16) (s : Vec Ideal S1024x512 .bf16) (h : Vec Ideal S1024x256 .bf16)
  (wr : Vec Ideal S256x1024 .bf16) (ws : Vec Ideal S512x1024 .bf16) (wh : Vec Ideal S256x1024 .bf16) (g b : Vec Ideal S1x1024 .f32)

theorem resid_at (p j : Fin 1024) : residB x r wr s ws h wh (ix2 p j)
    = resid (rw2 x p) (rw2 r p) (rw2 s p) (rw2 h p) (rw2 wr) (rw2 ws) (rw2 wh) j := by
  pointwise [residB]
  rfl

theorem mean_at (v : FVec Ideal S1024x1024 .f32) (p : Fin 1024) : meanB v (ix2 p 0) = mean (rw2 v p) := by
  pointwise [meanB]
  rfl

theorem centred_at (v : FVec Ideal S1024x1024 .f32) (p j : Fin 1024) : centredB v (ix2 p j) = centred (rw2 v p) j := by
  have h : centredB v (ix2 p j) = v (ix2 p j) - meanB v (ix2 p 0) := by pointwise [centredB]
  rw [h, mean_at]
  rfl

theorem norm_at (v : FVec Ideal S1024x1024 .f32) (p j : Fin 1024) :
    k0_pay1 g b (centredB v) (scaleB v) (ix2 p j) = norm (rw2 v p) (rw2 g 0) (rw2 b 0) j := by
  have h : k0_pay1 g b (centredB v) (scaleB v) (ix2 p j) = centredB v (ix2 p j) * Ideal.rsqrt (meanB (mulf (centredB v) (centredB v)) (ix2 p 0)
      + Ideal.ofBits .f32 0x3727C5AC#32) * g (ix2 0 j) + b (ix2 0 j) := by pointwise [k0_pay1, scaleB]
  rw [h, mean_at, centred_at]
  have e : rw2 (mulf (centredB v) (centredB v)) p = fun k => centred (rw2 v p) k * centred (rw2 v p) k :=
    funext fun k => congrArg (fun s : EReal => s * s) (centred_at v p k)
  rw [e]
  rfl

theorem off2 : (![0, 0] : Fin 2 → ℕ) = fun _ => 0 := by funext a; match a with | ⟨0, _⟩ => rfl | ⟨1, _⟩ => rfl

/-- THE BLOCK at row `p` and feature `j`. -/
theorem out_at (p j : Fin 1024) : out0_9 x r s h wr ws wh g b (ix2 p j)
    = norm (resid (rw2 x p) (rw2 r p) (rw2 s p) (rw2 h p) (rw2 wr) (rw2 ws) (rw2 wh)) (rw2 g 0) (rw2 b 0) j := by
  unfold out0_9
  rw [View.canon_unit_zero off2, View.ld_unit_zero off2, View.ld_unit_zero off2, View.ld_unit_zero off2, View.ld_unit_zero off2,
    View.ld_unit_zero off2, View.ld_unit_zero off2, View.ld_unit_zero off2, View.ld_unit_zero off2, View.ld_unit_zero off2, pay2_eq, pay3_eq]
  refine (norm_at g b _ p j).trans ?_
  exact congrArg (fun v => norm v (rw2 g 0) (rw2 b 0) j) (funext fun k => resid_at x r s h wr ws wh p k)

end Block

/-! ## The result array -/

section Result
open Cert.Kernel5Ideal Cert.Kernel5Ideal.Gen Idealize.ShloMosaic.Tactic Idealize.SL.Sem Idealize.ShloMosaic.TcCoe

variable (m : (ℓ : Loc nD τ sig) → Buf (Elt Ideal) ℓ)

/-- The rows, the three mixers' outputs, their weights, and the norm's scale and shift as launched. -/
abbrev xArr (c : Dev nD) : Vec Ideal S32768x1024 .f32 := m ((c : Thread nD τ).loc main_arg0)
abbrev rArr (c : Dev nD) : Vec Ideal S32768x256 .bf16 := m ((c : Thread nD τ).loc main_arg1)
abbrev sArr (c : Dev nD) : Vec Ideal S32768x512 .bf16 := m ((c : Thread nD τ).loc main_arg2)
abbrev hArr (c : Dev nD) : Vec Ideal S32768x256 .bf16 := m ((c : Thread nD τ).loc main_arg3)
abbrev wrArr (c : Dev nD) : Vec Ideal S256x1024 .bf16 := m ((c : Thread nD τ).loc main_arg4)
abbrev wsArr (c : Dev nD) : Vec Ideal S512x1024 .bf16 := m ((c : Thread nD τ).loc main_arg5)
abbrev whArr (c : Dev nD) : Vec Ideal S256x1024 .bf16 := m ((c : Thread nD τ).loc main_arg6)
abbrev gArr (c : Dev nD) : Vec Ideal S1x1024 .f32 := m ((c : Thread nD τ).loc main_arg7)
abbrev bArr (c : Dev nD) : Vec Ideal S1x1024 .f32 := m ((c : Thread nD τ).loc main_arg8)

theorem N_eq : cfg0.N = 32 := by decide

theorem idx0 : ∀ t : Fin grid0.N, win0_0.index t 0 = t.val ∧ win0_0.index t 1 = 0 := by decide +kernel
theorem idx1 : ∀ t : Fin grid0.N, win0_1.index t 0 = t.val ∧ win0_1.index t 1 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel
theorem idx8 : ∀ t : Fin grid0.N, win0_8.index t 0 = 0 ∧ win0_8.index t 1 = 0 := by decide +kernel
theorem idx9 : ∀ t : Fin grid0.N, win0_9.index t 0 = t.val ∧ win0_9.index t 1 = 0 := by decide +kernel

/-! What a grid point sees: 1024 of the rows, and the whole of each weight. -/

theorem x_at (c : Dev nD) (t : Fin cfg0.N) (p : Fin 1024) (q : Fin 32768) (e : q.val = 1024 * t.val + p.val) :
    rw2 (iblk m c 0 t : Vec Ideal S1024x1024 .f32) p = rw2 (xArr m c) q := by
  funext d
  show (iblk m c 0 t : Vec Ideal S1024x1024 .f32) (ix2 p d) = _
  unfold iblk
  rw [View.read_apply, cast_eq]
  refine (congrFun (V_main_arg0 m c) _).trans (congrArg (xArr m c) (funext fun a => ?_))
  match a with
  | ⟨0, _⟩ => exact Fin.ext (show win0_0.index t 0 * 1024 + 1 * p.val = q.val by rw [(idx0 t).1]; omega)
  | ⟨1, _⟩ => exact Fin.ext (show win0_0.index t 1 * 1024 + 1 * d.val = d.val by rw [(idx0 t).2]; omega)
theorem r_at (c : Dev nD) (t : Fin cfg0.N) (p : Fin 1024) (q : Fin 32768) (e : q.val = 1024 * t.val + p.val) :
    rw2 (iblk m c 1 t : Vec Ideal S1024x256 .bf16) p = rw2 (rArr m c) q := by
  funext d
  show (iblk m c 1 t : Vec Ideal S1024x256 .bf16) (ix2 p d) = _
  unfold iblk
  rw [View.read_apply, cast_eq]
  refine (congrFun (V_main_arg1 m c) _).trans (congrArg (rArr m c) (funext fun a => ?_))
  match a with
  | ⟨0, _⟩ => exact Fin.ext (show win0_1.index t 0 * 1024 + 1 * p.val = q.val by rw [(idx1 t).1]; omega)
  | ⟨1, _⟩ => exact Fin.ext (show win0_1.index t 1 * 256 + 1 * d.val = d.val by rw [(idx1 t).2]; omega)
theorem s_at (c : Dev nD) (t : Fin cfg0.N) (p : Fin 1024) (q : Fin 32768) (e : q.val = 1024 * t.val + p.val) :
    rw2 (iblk m c 2 t : Vec Ideal S1024x512 .bf16) p = rw2 (sArr m c) q := by
  funext d
  show (iblk m c 2 t : Vec Ideal S1024x512 .bf16) (ix2 p d) = _
  unfold iblk
  rw [View.read_apply, cast_eq]
  refine (congrFun (V_main_arg2 m c) _).trans (congrArg (sArr m c) (funext fun a => ?_))
  match a with
  | ⟨0, _⟩ => exact Fin.ext (show win0_2.index t 0 * 1024 + 1 * p.val = q.val by rw [(idx2 t).1]; omega)
  | ⟨1, _⟩ => exact Fin.ext (show win0_2.index t 1 * 512 + 1 * d.val = d.val by rw [(idx2 t).2]; omega)
theorem h_at (c : Dev nD) (t : Fin cfg0.N) (p : Fin 1024) (q : Fin 32768) (e : q.val = 1024 * t.val + p.val) :
    rw2 (iblk m c 3 t : Vec Ideal S1024x256 .bf16) p = rw2 (hArr m c) q := by
  funext d
  show (iblk m c 3 t : Vec Ideal S1024x256 .bf16) (ix2 p d) = _
  unfold iblk
  rw [View.read_apply, cast_eq]
  refine (congrFun (V_main_arg3 m c) _).trans (congrArg (hArr m c) (funext fun a => ?_))
  match a with
  | ⟨0, _⟩ => exact Fin.ext (show win0_3.index t 0 * 1024 + 1 * p.val = q.val by rw [(idx3 t).1]; omega)
  | ⟨1, _⟩ => exact Fin.ext (show win0_3.index t 1 * 256 + 1 * d.val = d.val by rw [(idx3 t).2]; omega)
theorem wr_eq (c : Dev nD) (t : Fin cfg0.N) : (iblk m c 4 t : Vec Ideal S256x1024 .bf16) = wrArr m c := by
  funext y
  unfold iblk
  rw [View.read_apply, cast_eq]
  refine (congrFun (V_main_arg4 m c) _).trans (congrArg (wrArr m c) (funext fun a => ?_))
  match a with
  | ⟨0, _⟩ => exact Fin.ext (show win0_4.index t 0 * 256 + 1 * (y 0).val = (y 0).val by rw [(idx4 t).1]; omega)
  | ⟨1, _⟩ => exact Fin.ext (show win0_4.index t 1 * 1024 + 1 * (y 1).val = (y 1).val by rw [(idx4 t).2]; omega)
theorem ws_eq (c : Dev nD) (t : Fin cfg0.N) : (iblk m c 5 t : Vec Ideal S512x1024 .bf16) = wsArr m c := by
  funext y
  unfold iblk
  rw [View.read_apply, cast_eq]
  refine (congrFun (V_main_arg5 m c) _).trans (congrArg (wsArr m c) (funext fun a => ?_))
  match a with
  | ⟨0, _⟩ => exact Fin.ext (show win0_5.index t 0 * 512 + 1 * (y 0).val = (y 0).val by rw [(idx5 t).1]; omega)
  | ⟨1, _⟩ => exact Fin.ext (show win0_5.index t 1 * 1024 + 1 * (y 1).val = (y 1).val by rw [(idx5 t).2]; omega)
theorem wh_eq (c : Dev nD) (t : Fin cfg0.N) : (iblk m c 6 t : Vec Ideal S256x1024 .bf16) = whArr m c := by
  funext y
  unfold iblk
  rw [View.read_apply, cast_eq]
  refine (congrFun (V_main_arg6 m c) _).trans (congrArg (whArr m c) (funext fun a => ?_))
  match a with
  | ⟨0, _⟩ => exact Fin.ext (show win0_6.index t 0 * 256 + 1 * (y 0).val = (y 0).val by rw [(idx6 t).1]; omega)
  | ⟨1, _⟩ => exact Fin.ext (show win0_6.index t 1 * 1024 + 1 * (y 1).val = (y 1).val by rw [(idx6 t).2]; omega)
theorem g_eq (c : Dev nD) (t : Fin cfg0.N) : (iblk m c 7 t : Vec Ideal S1x1024 .f32) = gArr m c := by
  funext y
  unfold iblk
  rw [View.read_apply, cast_eq]
  refine (congrFun (V_main_arg7 m c) _).trans (congrArg (gArr m c) (funext fun a => ?_))
  match a with
  | ⟨0, _⟩ => exact Fin.ext (show win0_7.index t 0 * 1 + 1 * (y 0).val = (y 0).val by rw [(idx7 t).1]; omega)
  | ⟨1, _⟩ => exact Fin.ext (show win0_7.index t 1 * 1024 + 1 * (y 1).val = (y 1).val by rw [(idx7 t).2]; omega)
theorem b_eq (c : Dev nD) (t : Fin cfg0.N) : (iblk m c 8 t : Vec Ideal S1x1024 .f32) = bArr m c := by
  funext y
  unfold iblk
  rw [View.read_apply, cast_eq]
  refine (congrFun (V_main_arg8 m c) _).trans (congrArg (bArr m c) (funext fun a => ?_))
  match a with
  | ⟨0, _⟩ => exact Fin.ext (show win0_8.index t 0 * 1 + 1 * (y 0).val = (y 0).val by rw [(idx8 t).1]; omega)
  | ⟨1, _⟩ => exact Fin.ext (show win0_8.index t 1 * 1024 + 1 * (y 1).val = (y 1).val by rw [(idx8 t).2]; omega)

/-- Where an element of a point's block lies in the result, and that the blocks tile it. -/
theorem emb0 (t : Fin cfg0.N) (y : S1024x1024.Idx) : ((win0_9.blk t).view.emb y 0).val = 1024 * t.val + (y 0).val := by
  show win0_9.index t 0 * 1024 + 1 * (y 0).val = _
  rw [(idx9 t).1]; omega
theorem emb1 (t : Fin cfg0.N) (y : S1024x1024.Idx) : ((win0_9.blk t).view.emb y 1).val = (y 1).val := by
  show win0_9.index t 1 * 1024 + 1 * (y 1).val = _
  rw [(idx9 t).2]; omega

theorem mem (t : Fin cfg0.N) (i : S32768x1024.Idx) (h : (i 0).val / 1024 = t.val) : i ∈ ((cfg0.win 9).blk t).view.set := by
  have h1 : (i 1).val < 1024 := (i 1).isLt
  show i ∈ ((View.whole main_v0).slice (win0_9.rect t)).set
  rw [View.set_slice_whole, Rect.mem_set_unit]
  intro a
  match a with
  | ⟨0, _⟩ =>
    show win0_9.index t 0 * 1024 ≤ (i 0).val ∧ (i 0).val < win0_9.index t 0 * 1024 + 1024
    rw [(idx9 t).1]; omega
  | ⟨1, _⟩ =>
    show win0_9.index t 1 * 1024 ≤ (i 1).val ∧ (i 1).val < win0_9.index t 1 * 1024 + 1024
    rw [(idx9 t).2]; omega

theorem cover (i : S32768x1024.Idx) : ∃ t : Fin cfg0.N, (cfg0.win 9).flush t = true ∧ i ∈ ((cfg0.win 9).blk t).view.set := by
  have h0 : (i 0).val < 32768 := (i 0).isLt
  exact ⟨⟨(i 0).val / 1024, by rw [N_eq]; omega⟩, flush0_9 _, mem _ i rfl⟩

/-- The reference of the arguments as launched. -/
abbrev refArr (c : Dev nD) : Vec Ideal S32768x1024 .f32 :=
  Cert.Reference5Ideal.Read.val_main_v33 (F := Ideal) (xArr m c) (rArr m c) (sArr m c) (hArr m c) (wrArr m c) (wsArr m c) (whArr m c) (gArr m c)
    (bArr m c)

/-- What a grid point writes. -/
abbrev blkOut (c : Dev nD) (t : Fin cfg0.N) : Vec Ideal S1024x1024 .f32 :=
  out0_9 (iblk m c 0 t) (iblk m c 1 t) (iblk m c 2 t) (iblk m c 3 t) (iblk m c 4 t) (iblk m c 5 t) (iblk m c 6 t) (iblk m c 7 t) (iblk m c 8 t)

theorem point_eq (c : Dev nD) (t : Fin cfg0.N) (p j : Fin 1024) (q : Fin 32768) (e : q.val = 1024 * t.val + p.val) :
    blkOut m c t (ix2 p j) = refArr m c (ix2 q j) := by
  refine (out_at _ _ _ _ _ _ _ _ _ p j).trans (Eq.trans ?_ (ref_at _ _ _ _ _ _ _ _ _ q j).symm)
  rw [x_at m c t p q e, r_at m c t p q e, s_at m c t p q e, h_at m c t p q e, wr_eq, ws_eq, wh_eq, g_eq, b_eq]

/-- THE RESULT ARRAY. -/
theorem result_eq (c : Dev nD) : (dats m 0 c).arrAt 9 cfg0.N = refArr m c := by
  refine (dats m 0 c).arrAt_eq_of_cover 9 _ (fun t _ => ?_) cover
  refine (Cert.Kernel5Ideal.Value.flushed9 m c t).trans (funext fun y => ?_)
  have hy : y = ix2 (n0 := 1024) (n1 := 1024) (y 0) (y 1) := by funext a; match a with | ⟨0, _⟩ => rfl | ⟨1, _⟩ => rfl
  refine (congrArg (blkOut m c t) hy).trans ((point_eq m c t (y 0) (y 1) _ (emb0 t y)).trans (congrArg (refArr m c) (funext fun a => ?_)))
  match a with
  | ⟨0, _⟩ => rfl
  | ⟨1, _⟩ => exact Fin.ext (emb1 t y).symm

end Result

end OutProj

end
-- ==== Proof.lean ====
/- The certificate of five calls, the windowed attention (`Kernel`), the experts' grouped product (`Kernel2`), the mixers'
   input projection (`Kernel3`), the dense SwiGLU (`Kernel4`) and the mixers' output projection (`Kernel5`): the programs'
   frames, the three named constants, and the equation of each kernel's result with its reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_routed
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Result
public import proofs.«01_k».proof.Proof.MoeBits
public import proofs.«01_k».proof.Proof.MoeResult
public import proofs.«01_k».proof.Proof.InProj
public import proofs.«01_k».proof.Proof.Ffn
public import proofs.«01_k».proof.Proof.OutProj
public import Idealize.ShloMosaic.Adequacy
public import Idealize.ShloMosaic.Init

@[expose] public section

noncomputable section

namespace Cert.Proof

open Idealize.ShloMosaic Idealize.SL.Sem Idealize.ShloMosaic.TcCoe

/-- The kernel's result, and the reference's, from memories that agree on the arguments. -/
theorem algebraic : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := by
  intro m g m' g' hp hargs
  refine ⟨fun c => Cert.ReferenceIdeal.Read.val_main_v140 (F := Ideal) (Swa.hArr m c) (Swa.sinkArr m c) (Swa.biasArr m c), ?_, ?_⟩
  · exact (θ_run _ _ _).mono (fun r h c => ⟨(h c).1.trans (Swa.result_eq m c (Swa.nums_of_pre _ _ _ (hp c))), (h c).2⟩)
      (Cert.KernelIdeal.Value.run_blocks m g)
  · refine (θ_run _ _ _).mono (fun r h c => ⟨(h c).1.trans ?_, (h c).2⟩) (Cert.ReferenceIdeal.Value.run m' g')
    refine (Cert.ReferenceIdeal.Read.val_main_v140_eq (F := Ideal) (StableHlo.launchContents m' c)).trans ?_
    obtain ⟨e0, e1, e2⟩ := hargs c
    show Cert.ReferenceIdeal.Read.val_main_v140 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = _
    rw [e0, e1, e2]

/-- The reference's frame: its generated run, read at the arguments; it declares no semaphore. -/
theorem frame_reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩)
    (Cert.ReferenceIdeal.Value.run m ρ)

/-- The grouped product's result, and its reference's, from memories that agree on the arguments. -/
theorem algebraic_grouped : Cert.algebraic_Kernel2Ideal_Reference2Ideal (hKernel2Ideal := Cert.Kernel2Ideal.Gen.facts)
    (hReference2Ideal := Cert.Reference2Ideal.Gen.facts) (hPre_routed := Cert.Pre_routed.Gen.facts) := by
  intro m g m' g' hp hargs
  obtain ⟨T, hT⟩ := Moe.pinned m hp
  refine ⟨fun c => Cert.Reference2Ideal.Read.val_main_v22 (F := Ideal) T.T0 T.T1 (Moe.xArr m c) (Moe.gArr m c) (Moe.uArr m c) (Moe.dArr m c), ?_, ?_⟩
  · exact (θ_run _ _ _).mono (fun r h c => ⟨((h.1 c).1 (4 : Fin 5)).trans (Moe.moe_result T m g c), Moe.args_of_ends hT h.1 c⟩)
      (Moe.run_main T m g hT)
  · refine (θ_run _ _ _).mono (fun r h c => ⟨(h c).1.trans ?_, (h c).2⟩) (Cert.Reference2Ideal.Value.run m' g')
    refine (Cert.Reference2Ideal.Read.val_main_v22_eq (F := Ideal) (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2))
      (m' ((c.tc : Thread Cert.Reference2Ideal.nD Cert.Reference2Ideal.τ).loc Cert.Reference2Ideal.main_arg3))
      (m' ((c.tc : Thread Cert.Reference2Ideal.nD Cert.Reference2Ideal.τ).loc Cert.Reference2Ideal.main_arg4))
      (m' ((c.tc : Thread Cert.Reference2Ideal.nD Cert.Reference2Ideal.τ).loc Cert.Reference2Ideal.main_arg5))).trans ?_
    obtain ⟨e0, e1, e2, e3, e4, e5⟩ := hargs c
    rw [e0, e1, e2, e3, e4, e5, hT.1 c, hT.2 c]

/-- The grouped product's reference's frame. -/
theorem frame_reference_grouped (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0) :=
  (θ_run Cert.Reference2Ideal.defs _ _).mono (fun r h => ⟨fun c => (h c).2, sem_eq_zero_of_no_sems (by decide) r.2⟩)
    (Cert.Reference2Ideal.Value.run m ρ)

/-- The projection's result, and its reference's, from memories that agree on the arguments. -/
theorem algebraic_projection : Cert.algebraic_Kernel3Ideal_Reference3Ideal (hKernel3Ideal := Cert.Kernel3Ideal.Gen.facts)
    (hReference3Ideal := Cert.Reference3Ideal.Gen.facts) := by
  intro m g m' g' hp hargs
  refine ⟨fun c => Cert.Reference3Ideal.Read.val_main_v2 (F := Ideal) (InProj.xArr m c) (InProj.wArr m c), ?_, ?_⟩
  · exact (θ_run _ _ _).mono (fun r h c => ⟨(h c).1.trans (InProj.result_eq m c), (h c).2⟩) (Cert.Kernel3Ideal.Value.run_blocks m g)
  · refine (θ_run _ _ _).mono (fun r h c => ⟨(h c).1.trans ?_, (h c).2⟩) (Cert.Reference3Ideal.Value.run m' g')
    obtain ⟨e0, e1⟩ := hargs c
    refine (Cert.Reference3Ideal.Read.val_main_v2_eq (F := Ideal) (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))).trans ?_
    rw [e0, e1]

/-- The projection's reference's frame. -/
theorem frame_reference_projection (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0) :=
  (θ_run Cert.Reference3Ideal.defs _ _).mono (fun r h => ⟨fun c => (h c).2, sem_eq_zero_of_no_sems (by decide) r.2⟩)
    (Cert.Reference3Ideal.Value.run m ρ)

/-- The dense SwiGLU's result, and its reference's, from memories that agree on the arguments. -/
theorem algebraic_dense : Cert.algebraic_Kernel4Ideal_Reference4Ideal (hKernel4Ideal := Cert.Kernel4Ideal.Gen.facts)
    (hReference4Ideal := Cert.Reference4Ideal.Gen.facts) := by
  intro m g m' g' hp hargs
  refine ⟨fun c => Cert.Reference4Ideal.Read.val_main_v42 (F := Ideal) (Ffn.xArr m c) (Ffn.gArr m c) (Ffn.uArr m c) (Ffn.dArr m c)
    (Ffn.sArr m c) (Ffn.bArr m c), ?_, ?_⟩
  · exact (θ_run _ _ _).mono (fun r h c => ⟨(h c).1.trans (Ffn.result_eq m c), (h c).2⟩) (Cert.Kernel4Ideal.Value.run_blocks m g)
  · refine (θ_run _ _ _).mono (fun r h c => ⟨(h c).1.trans ?_, (h c).2⟩) (Cert.Reference4Ideal.Value.run m' g')
    refine (Cert.Reference4Ideal.Read.val_main_v42_eq (F := Ideal) m' c).trans ?_
    obtain ⟨e0, e1, e2, e3, e4, e5⟩ := hargs c
    rw [e0, e1, e2, e3, e4, e5]

/-- The dense SwiGLU's reference's frame. -/
theorem frame_reference_dense (m : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0) :=
  (θ_run Cert.Reference4Ideal.defs _ _).mono (fun r h => ⟨fun c => (h c).2, sem_eq_zero_of_no_sems (by decide) r.2⟩)
    (Cert.Reference4Ideal.Value.run m ρ)

/-- The output projection's result, and its reference's, from memories that agree on the arguments. -/
theorem algebraic_output : Cert.algebraic_Kernel5Ideal_Reference5Ideal (hKernel5Ideal := Cert.Kernel5Ideal.Gen.facts)
    (hReference5Ideal := Cert.Reference5Ideal.Gen.facts) := by
  intro m g m' g' hp hargs
  refine ⟨fun c => OutProj.refArr m c, ?_, ?_⟩
  · exact (θ_run _ _ _).mono (fun r h c => ⟨(h c).1.trans (OutProj.result_eq m c), (h c).2⟩) (Cert.Kernel5Ideal.Value.run_blocks m g)
  · refine (θ_run _ _ _).mono (fun r h c => ⟨(h c).1.trans ?_, (h c).2⟩) (Cert.Reference5Ideal.Value.run m' g')
    refine (Cert.Reference5Ideal.Read.val_main_v33_eq (F := Ideal) m' c).trans ?_
    obtain ⟨e0, e1, e2, e3, e4, e5, e6, e7, e8⟩ := hargs c
    rw [e0, e1, e2, e3, e4, e5, e6, e7, e8]

/-- The output projection's reference's frame. -/
theorem frame_reference_output (m : (ℓ : Loc Cert.Reference5Ideal.nD Cert.Reference5Ideal.τ Cert.Reference5Ideal.sig) → Buf (Elt Ideal) ℓ)
    (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0) :=
  (θ_run Cert.Reference5Ideal.defs _ _).mono (fun r h => ⟨fun c => (h c).2, sem_eq_zero_of_no_sems (by decide) r.2⟩)
    (Cert.Reference5Ideal.Value.run m ρ)

theorem claim : Cert.Claim := ⟨Cert.Kernel.Gen.facts, Cert.KernelIdeal.Gen.facts, Cert.ReferenceIdeal.Gen.facts, Cert.Kernel2.Gen.facts,
  Cert.Kernel2Ideal.Gen.facts,
  Cert.Reference2Ideal.Gen.facts, Cert.Kernel3.Gen.facts, Cert.Kernel3Ideal.Gen.facts, Cert.Reference3Ideal.Gen.facts, Cert.Kernel4.Gen.facts,
  Cert.Kernel4Ideal.Gen.facts, Cert.Reference4Ideal.Gen.facts, Cert.Kernel5.Gen.facts, Cert.Kernel5Ideal.Gen.facts, Cert.Reference5Ideal.Gen.facts,
  Cert.Pre_finite_scores.Gen.facts, Cert.Pre_routed.Gen.facts,
  fun m ρ _ => Cert.Kernel.Gen.frame m ρ,
  fun m ρ _ => Cert.KernelIdeal.Gen.frame m ρ,
  fun m ρ _ => Cert.KernelIdeal.Gen.frame m ρ,
  fun m ρ _ => frame_reference m ρ,
  fun m ρ _ => frame_reference m ρ,
  fun m ρ hp => Moe.frame_bits m ρ hp,
  fun m ρ hp => (Moe.pinned m hp).elim fun T hT => Moe.frame_main T m ρ hT,
  fun m ρ _ => frame_reference_grouped m ρ,
  fun m ρ _ => frame_reference_grouped m ρ,
  fun m ρ _ => Cert.Kernel3.Gen.frame m ρ,
  fun m ρ _ => Cert.Kernel3Ideal.Gen.frame m ρ,
  fun m ρ _ => frame_reference_projection m ρ,
  fun m ρ _ => Cert.Kernel4.Gen.frame m ρ,
  fun m ρ _ => Cert.Kernel4Ideal.Gen.frame m ρ,
  fun m ρ _ => frame_reference_dense m ρ,
  fun m ρ _ => Cert.Kernel5.Gen.frame m ρ,
  fun m ρ _ => Cert.Kernel5Ideal.Gen.frame m ρ,
  fun m ρ _ => frame_reference_output m ρ,
  ⟨IdealRules.named_const.statement Cert.KernelIdeal.κ "mask" .f32 0xF149F2CA#32 ⊥ rfl,
   IdealRules.named_const.statement Cert.KernelIdeal.κ "log2_e" .f32 0x3FB8AA3B#32 (((Real.log 2)⁻¹ : ℝ) : EReal) rfl,
   IdealRules.named_const.statement Cert.KernelIdeal.κ "q_scale" .f32 0x3E38AA3B#32 (((1 / 8) * (Real.log 2)⁻¹ : ℝ) : EReal) rfl⟩,
  algebraic, trivial, algebraic_grouped, trivial, algebraic_projection, trivial, algebraic_dense, trivial, algebraic_output⟩

end Cert.Proof

end
